-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S2048x1024 : Shape := ⟨2, ![2048, 1024]⟩
abbrev S2048 : Shape := ⟨1, ![2048]⟩
abbrev S2003x1024 : Shape := ⟨2, ![2003, 1024]⟩
abbrev S256x1024 : Shape := ⟨2, ![256, 1024]⟩
abbrev S8000x256 : Shape := ⟨2, ![8000, 256]⟩
abbrev S64x1024 : Shape := ⟨2, ![64, 1024]⟩
abbrev S40000x64 : Shape := ⟨2, ![40000, 64]⟩
abbrev S16x1024 : Shape := ⟨2, ![16, 1024]⟩
abbrev S50000x16 : Shape := ⟨2, ![50000, 16]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S2048x1024 .f32) (main_arg1 : IVec S2048 32) (main_arg2 : FVec F S2003x1024 .f32) (main_arg3 : FVec F S256x1024 .f32) (main_arg4 : FVec F S8000x256 .f32) (main_arg5 : FVec F S64x1024 .f32) (main_arg6 : FVec F S40000x64 .f32) (main_arg7 : FVec F S16x1024 .f32) (main_arg8 : FVec F S50000x16 .f32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  main_v1
-- ==== Kernel.lean ====
abbrev S2048x1024 : Shape := ⟨2, ![2048, 1024]⟩
abbrev S2048 : Shape := ⟨1, ![2048]⟩
abbrev S2003x1024 : Shape := ⟨2, ![2003, 1024]⟩
abbrev S256x1024 : Shape := ⟨2, ![256, 1024]⟩
abbrev S8000x256 : Shape := ⟨2, ![8000, 256]⟩
abbrev S64x1024 : Shape := ⟨2, ![64, 1024]⟩
abbrev S40000x64 : Shape := ⟨2, ![40000, 64]⟩
abbrev S16x1024 : Shape := ⟨2, ![16, 1024]⟩
abbrev S50000x16 : Shape := ⟨2, ![50000, 16]⟩
abbrev S2048x1 : Shape := ⟨2, ![2048, 1]⟩
abbrev S8x1 : Shape := ⟨2, ![8, 1]⟩
abbrev S256x1 : Shape := ⟨2, ![256, 1]⟩
abbrev S1x2048 : Shape := ⟨2, ![1, 2048]⟩
abbrev S256x2048 : Shape := ⟨2, ![256, 2048]⟩
abbrev S256 : Shape := ⟨1, ![256]⟩
abbrev S8x2048 : Shape := ⟨2, ![8, 2048]⟩
abbrev S8 : Shape := ⟨1, ![8]⟩
abbrev S8x8 : Shape := ⟨2, ![8, 8]⟩
abbrev S1x8 : Shape := ⟨2, ![1, 8]⟩
abbrev S256x8 : Shape := ⟨2, ![256, 8]⟩
abbrev S2816x256 : Shape := ⟨2, ![2816, 256]⟩
abbrev S2816x64 : Shape := ⟨2, ![2816, 64]⟩
abbrev S2816x16 : Shape := ⟨2, ![2816, 16]⟩
abbrev S2816x1 : Shape := ⟨2, ![2816, 1]⟩
abbrev S256x256 : Shape := ⟨2, ![256, 256]⟩
abbrev S256x64 : Shape := ⟨2, ![256, 64]⟩
abbrev S256x16 : Shape := ⟨2, ![256, 16]⟩
abbrev S2048x256 : Shape := ⟨2, ![2048, 256]⟩
abbrev S2048x64 : Shape := ⟨2, ![2048, 64]⟩
abbrev S2048x16 : Shape := ⟨2, ![2048, 16]⟩
abbrev S1x1 : Shape := ⟨2, ![1, 1]⟩
abbrev S_ : Shape := ⟨0, ![]⟩
abbrev S1 : Shape := ⟨1, ![1]⟩
abbrev S2 : Shape := ⟨1, ![2]⟩
abbrev S256x2003 : Shape := ⟨2, ![256, 2003]⟩
abbrev S1x256 : Shape := ⟨2, ![1, 256]⟩
abbrev S1x256x1 : Shape := ⟨3, ![1, 256, 1]⟩
abbrev S1x1x1 : Shape := ⟨3, ![1, 1, 1]⟩

abbrev nBuf : Space → Nat
  | .hbm => 42
  | .vmem => 59
  | .smem => 4
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S2003x1024, .f32⟩
  | .hbm, ⟨3, _⟩ => ⟨S256x1024, .f32⟩
  | .hbm, ⟨4, _⟩ => ⟨S8000x256, .f32⟩
  | .hbm, ⟨5, _⟩ => ⟨S64x1024, .f32⟩
  | .hbm, ⟨6, _⟩ => ⟨S40000x64, .f32⟩
  | .hbm, ⟨7, _⟩ => ⟨S16x1024, .f32⟩
  | .hbm, ⟨8, _⟩ => ⟨S50000x16, .f32⟩
  | .hbm, ⟨9, _⟩ => ⟨S2048x1, .i32⟩
  | .hbm, ⟨10, _⟩ => ⟨S2048x1, .i32⟩
  | .hbm, ⟨11, _⟩ => ⟨S8x1, .i32⟩
  | .hbm, ⟨12, _⟩ => ⟨S8x1, .i32⟩
  | .hbm, ⟨13, _⟩ => ⟨S2816x256, .bf16⟩
  | .hbm, ⟨14, _⟩ => ⟨S2816x64, .bf16⟩
  | .hbm, ⟨15, _⟩ => ⟨S2816x16, .bf16⟩
  | .hbm, ⟨16, _⟩ => ⟨S2816x1, .i32⟩
  | .hbm, ⟨17, _⟩ => ⟨S1x1, .i32⟩
  | .hbm, ⟨18, _⟩ => ⟨S_, .i32⟩
  | .hbm, ⟨19, _⟩ => ⟨S1x1, .i32⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S1x1, .i32⟩
  | .hbm, ⟨24, _⟩ => ⟨S_, .i32⟩
  | .hbm, ⟨25, _⟩ => ⟨S1x1, .i32⟩
  | .hbm, ⟨26, _⟩ => ⟨S_, .i32⟩
  | .hbm, ⟨27, _⟩ => ⟨S1, .i32⟩
  | .hbm, ⟨28, _⟩ => ⟨S1, .i32⟩
  | .hbm, ⟨29, _⟩ => ⟨S1x1, .i32⟩
  | .hbm, ⟨30, _⟩ => ⟨S_, .i32⟩
  | .hbm, ⟨31, _⟩ => ⟨S1x1, .i32⟩
  | .hbm, ⟨32, _⟩ => ⟨S_, .i32⟩
  | .hbm, ⟨33, _⟩ => ⟨S1, .i32⟩
  | .hbm, ⟨34, _⟩ => ⟨S1, .i32⟩
  | .hbm, ⟨35, _⟩ => ⟨S2816x1, .f32⟩
  | .hbm, ⟨36, _⟩ => ⟨S2816x1, .f32⟩
  | .hbm, ⟨37, _⟩ => ⟨S2816x1, .f32⟩
  | .hbm, ⟨38, _⟩ => ⟨S2048x1, .f32⟩
  | .hbm, ⟨39, _⟩ => ⟨S1x1, .f32⟩
  | .hbm, ⟨40, _⟩ => ⟨S2048, .f32⟩
  | .hbm, ⟨41, _⟩ => ⟨S_, .f32⟩
  | .local _ .vmem, ⟨0, _⟩ => ⟨S2048x1, .i32⟩
  | .local _ .vmem, ⟨1, _⟩ => ⟨S256x1, .i32⟩
  | .local _ .vmem, ⟨2, _⟩ => ⟨S256x1, .i32⟩
  | .local _ .vmem, ⟨3, _⟩ => ⟨S8x1, .i32⟩
  | .local _ .vmem, ⟨4, _⟩ => ⟨S8x1, .i32⟩
  | .local _ .vmem, ⟨5, _⟩ => ⟨S2048x1024, .f32⟩
  | .local _ .vmem, ⟨6, _⟩ => ⟨S256x1024, .f32⟩
  | .local _ .vmem, ⟨7, _⟩ => ⟨S64x1024, .f32⟩
  | .local _ .vmem, ⟨8, _⟩ => ⟨S16x1024, .f32⟩
  | .local _ .vmem, ⟨9, _⟩ => ⟨S2048x1, .i32⟩
  | .local _ .vmem, ⟨10, _⟩ => ⟨S2048x1, .i32⟩
  | .local _ .vmem, ⟨11, _⟩ => ⟨S256x256, .bf16⟩
  | .local _ .vmem, ⟨12, _⟩ => ⟨S256x256, .bf16⟩
  | .local _ .vmem, ⟨13, _⟩ => ⟨S256x64, .bf16⟩
  | .local _ .vmem, ⟨14, _⟩ => ⟨S256x64, .bf16⟩
  | .local _ .vmem, ⟨15, _⟩ => ⟨S256x16, .bf16⟩
  | .local _ .vmem, ⟨16, _⟩ => ⟨S256x16, .bf16⟩
  | .local _ .vmem, ⟨17, _⟩ => ⟨S256x1, .i32⟩
  | .local _ .vmem, ⟨18, _⟩ => ⟨S256x1, .i32⟩
  | .local _ .vmem, ⟨19, _⟩ => ⟨S2048x256, .bf16⟩
  | .local _ .vmem, ⟨20, _⟩ => ⟨S2048x64, .bf16⟩
  | .local _ .vmem, ⟨21, _⟩ => ⟨S2048x16, .bf16⟩
  | .local _ .vmem, ⟨22, _⟩ => ⟨S2816x256, .bf16⟩
  | .local _ .vmem, ⟨23, _⟩ => ⟨S2048x256, .f32⟩
  | .local _ .vmem, ⟨24, _⟩ => ⟨S2048x256, .f32⟩
  | .local _ .vmem, ⟨25, _⟩ => ⟨S2816x1, .i32⟩
  | .local _ .vmem, ⟨26, _⟩ => ⟨S2816x1, .f32⟩
  | .local _ .vmem, ⟨27, _⟩ => ⟨S2816x1, .f32⟩
  | .local _ .vmem, ⟨28, _⟩ => ⟨S2816x1, .f32⟩
  | .local _ .vmem, ⟨29, _⟩ => ⟨S2816x1, .f32⟩
  | .local _ .vmem, ⟨30, _⟩ => ⟨S2816x64, .bf16⟩
  | .local _ .vmem, ⟨31, _⟩ => ⟨S2048x64, .f32⟩
  | .local _ .vmem, ⟨32, _⟩ => ⟨S2048x64, .f32⟩
  | .local _ .vmem, ⟨33, _⟩ => ⟨S2816x1, .i32⟩
  | .local _ .vmem, ⟨34, _⟩ => ⟨S2816x1, .f32⟩
  | .local _ .vmem, ⟨35, _⟩ => ⟨S2816x1, .f32⟩
  | .local _ .vmem, ⟨36, _⟩ => ⟨S2816x1, .f32⟩
  | .local _ .vmem, ⟨37, _⟩ => ⟨S2816x1, .f32⟩
  | .local _ .vmem, ⟨38, _⟩ => ⟨S2816x16, .bf16⟩
  | .local _ .vmem, ⟨39, _⟩ => ⟨S2048x16, .f32⟩
  | .local _ .vmem, ⟨40, _⟩ => ⟨S2048x16, .f32⟩
  | .local _ .vmem, ⟨41, _⟩ => ⟨S2816x1, .i32⟩
  | .local _ .vmem, ⟨42, _⟩ => ⟨S2816x1, .f32⟩
  | .local _ .vmem, ⟨43, _⟩ => ⟨S2816x1, .f32⟩
  | .local _ .vmem, ⟨44, _⟩ => ⟨S2816x1, .f32⟩
  | .local _ .vmem, ⟨45, _⟩ => ⟨S2816x1, .f32⟩
  | .local _ .vmem, ⟨46, _⟩ => ⟨S256x1024, .f32⟩
  | .local _ .vmem, ⟨47, _⟩ => ⟨S256x1024, .f32⟩
  | .local _ .vmem, ⟨48, _⟩ => ⟨S2003x1024, .f32⟩
  | .local _ .vmem, ⟨49, _⟩ => ⟨S256x1, .i32⟩
  | .local _ .vmem, ⟨50, _⟩ => ⟨S256x1, .i32⟩
  | .local _ .vmem, ⟨51, _⟩ => ⟨S256x1, .i32⟩
  | .local _ .vmem, ⟨52, _⟩ => ⟨S256x1, .i32⟩
  | .local _ .vmem, ⟨53, _⟩ => ⟨S2816x1, .f32⟩
  | .local _ .vmem, ⟨54, _⟩ => ⟨S2816x1, .f32⟩
  | .local _ .vmem, ⟨55, _⟩ => ⟨S2816x1, .f32⟩
  | .local _ .vmem, ⟨56, _⟩ => ⟨S256x1, .f32⟩
  | .local _ .vmem, ⟨57, _⟩ => ⟨S256x1, .f32⟩
  | .local _ .vmem, ⟨58, _⟩ => ⟨S1x1, .f32⟩
  | .local _ .smem, ⟨0, _⟩ => ⟨S2, .i32⟩
  | .local _ .smem, ⟨1, _⟩ => ⟨S2, .i32⟩
  | .local _ .smem, ⟨2, _⟩ => ⟨S2, .i32⟩
  | .local _ .smem, ⟨3, _⟩ => ⟨S1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .smem, ⟨3, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v28 : Ref sig .tc := ⟨.hbm, 40, rfl⟩
abbrev main_v29 : Ref sig .tc := ⟨.hbm, 41, rfl⟩
abbrev main_v9 : Ref sig .tc := ⟨.smem, 0, rfl⟩
abbrev main_v16 : Ref sig .tc := ⟨.smem, 1, rfl⟩
abbrev main_v23 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_scratch0 : Ref sig .tc := ⟨.vmem, 27, rfl⟩
abbrev cc2_scratch1 : Ref sig .tc := ⟨.vmem, 28, rfl⟩
abbrev cc2_scratch2 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_scratch0 : Ref sig .tc := ⟨.vmem, 35, rfl⟩
abbrev cc3_scratch1 : Ref sig .tc := ⟨.vmem, 36, rfl⟩
abbrev cc3_scratch2 : Ref sig .tc := ⟨.vmem, 37, rfl⟩
abbrev cc4_stg0_0 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg3_0 : Ref sig .tc := ⟨.vmem, 42, rfl⟩
abbrev cc4_scratch0 : Ref sig .tc := ⟨.vmem, 43, rfl⟩
abbrev cc4_scratch1 : Ref sig .tc := ⟨.vmem, 44, rfl⟩
abbrev cc4_scratch2 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc5_stg7_0 : Ref sig .tc := ⟨.vmem, 56, rfl⟩
abbrev cc5_stg7_1 : Ref sig .tc := ⟨.vmem, 57, rfl⟩
abbrev cc5_stg8_0 : Ref sig .tc := ⟨.vmem, 58, rfl⟩
abbrev cc5_scratch0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc2_sem0_0 : DmaSem sig := 19
abbrev cc2_sem1_0 : DmaSem sig := 20
abbrev cc2_sem1_1 : DmaSem sig := 21
abbrev cc2_sem2_0 : DmaSem sig := 22
abbrev cc2_sem3_0 : DmaSem sig := 23
abbrev cc3_sem0_0 : DmaSem sig := 24
abbrev cc3_sem1_0 : DmaSem sig := 25
abbrev cc3_sem1_1 : DmaSem sig := 26
abbrev cc3_sem2_0 : DmaSem sig := 27
abbrev cc3_sem3_0 : DmaSem sig := 28
abbrev cc4_sem0_0 : DmaSem sig := 29
abbrev cc4_sem1_0 : DmaSem sig := 30
abbrev cc4_sem1_1 : DmaSem sig := 31
abbrev cc4_sem2_0 : DmaSem sig := 32
abbrev cc4_sem3_0 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc5_sem3_0 : DmaSem sig := 39
abbrev cc5_sem3_1 : DmaSem sig := 40
abbrev cc5_sem4_0 : DmaSem sig := 41
abbrev cc5_sem5_0 : DmaSem sig := 42
abbrev cc5_sem6_0 : DmaSem sig := 43
abbrev cc5_sem7_0 : DmaSem sig := 44
abbrev cc5_sem7_1 : DmaSem sig := 45
abbrev cc5_sem8_0 : DmaSem sig := 46

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c256_i32 : BitVec 32 := 256#32
  let v14 : BitVec 32 := Scalar.muli arg0 c256_i32
  let v15 : Index := Scalar.indexCast v14
  let c0_1 : Index := 0#32
  ![v15.toNat, 0]
def k0_cond1 (i : grid0.Coords) : BitVec 1 :=
  let arg0 : BitVec 32 := BitVec.ofNat 32 (i 0).val
  let c0_i32_20 : BitVec 32 := 0#32
  let v99 : BitVec 1 := Scalar.cmpi .eq arg0 c0_i32_20
  let v100 : BitVec 32 := Scalar.extui v99
  let c0_i32_21 : BitVec 32 := 0#32
  let v101 : BitVec 1 := Scalar.cmpi .ne v100 c0_i32_21
  v101

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x16 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![4], ![false]⟩

abbrev pre2 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k2_cond14 (i : grid2.Coords) : BitVec 1 :=
  let arg0 : BitVec 32 := BitVec.ofNat 32 (i 0).val
  let c3_i32_2 : BitVec 32 := 3#32
  let v8 : BitVec 1 := Scalar.cmpi .eq arg0 c3_i32_2
  let v9 : BitVec 32 := Scalar.extui v8
  let c0_i32_3 : BitVec 32 := 0#32
  let v10 : BitVec 1 := Scalar.cmpi .ne v9 c0_i32_3
  v10

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2816x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2816x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2816x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![20], ![false]⟩

abbrev pre3 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k3_cond14 (i : grid3.Coords) : BitVec 1 :=
  let arg0 : BitVec 32 := BitVec.ofNat 32 (i 0).val
  let c19_i32_2 : BitVec 32 := 19#32
  let v8 : BitVec 1 := Scalar.cmpi .eq arg0 c19_i32_2
  let v9 : BitVec 32 := Scalar.extui v8
  let c0_i32_3 : BitVec 32 := 0#32
  let v10 : BitVec 1 := Scalar.cmpi .ne v9 c0_i32_3
  v10

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2816x64 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2816x1 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2816x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![25], ![false]⟩

abbrev pre4 : Pipeline.Prefetch sig := ⟨1, ![main_v23.idx], fun | 0 => main_v23.names | ⟨_ + 1, h⟩ => absurd h (Nat.not_lt.2 (Nat.le_add_left _ _)), fun | 0 => rfl | ⟨_ + 1, h⟩ => absurd h (Nat.not_lt.2 (Nat.le_add_left _ _))⟩

def k4_cond14 (i : grid4.Coords) : BitVec 1 :=
  let arg0 : BitVec 32 := BitVec.ofNat 32 (i 0).val
  let c24_i32_2 : BitVec 32 := 24#32
  let v8 : BitVec 1 := Scalar.cmpi .eq arg0 c24_i32_2
  let v9 : BitVec 32 := Scalar.extui v8
  let c0_i32_3 : BitVec 32 := 0#32
  let v10 : BitVec 1 := Scalar.cmpi .ne v9 c0_i32_3
  v10

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2816x16 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S2048x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2816x1 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2816x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![8], ![false]⟩

def k5_cond2 (i : grid5.Coords) : BitVec 1 :=
  let arg0 : BitVec 32 := BitVec.ofNat 32 (i 0).val
  let c7_i32 : BitVec 32 := 7#32
  let v74 : BitVec 1 := Scalar.cmpi .eq arg0 c7_i32
  let v75 : BitVec 32 := Scalar.extui v74
  let c0_i32_28 : BitVec 32 := 0#32
  let v76 : BitVec 1 := Scalar.cmpi .ne v75 c0_i32_28
  v76

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2003x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x1 .i32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S2816x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S2816x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S2816x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S256x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S1x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]
-- ==== ReferenceIdeal.lean ====
abbrev S2048x1024 : Shape := ⟨2, ![2048, 1024]⟩
abbrev S2048 : Shape := ⟨1, ![2048]⟩
abbrev S2003x1024 : Shape := ⟨2, ![2003, 1024]⟩
abbrev S256x1024 : Shape := ⟨2, ![256, 1024]⟩
abbrev S8000x256 : Shape := ⟨2, ![8000, 256]⟩
abbrev S64x1024 : Shape := ⟨2, ![64, 1024]⟩
abbrev S40000x64 : Shape := ⟨2, ![40000, 64]⟩
abbrev S16x1024 : Shape := ⟨2, ![16, 1024]⟩
abbrev S50000x16 : Shape := ⟨2, ![50000, 16]⟩
abbrev S_ : Shape := ⟨0, ![]⟩
abbrev S1024x256 : Shape := ⟨2, ![1024, 256]⟩
abbrev S2048x256 : Shape := ⟨2, ![2048, 256]⟩
abbrev S256x8000 : Shape := ⟨2, ![256, 8000]⟩
abbrev S2048x8000 : Shape := ⟨2, ![2048, 8000]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S1024x64 : Shape := ⟨2, ![1024, 64]⟩
abbrev S2048x64 : Shape := ⟨2, ![2048, 64]⟩
abbrev S64x40000 : Shape := ⟨2, ![64, 40000]⟩
abbrev S2048x40000 : Shape := ⟨2, ![2048, 40000]⟩
abbrev S1024x16 : Shape := ⟨2, ![1024, 16]⟩
abbrev S2048x16 : Shape := ⟨2, ![2048, 16]⟩
abbrev S16x50000 : Shape := ⟨2, ![16, 50000]⟩
abbrev S2048x50000 : Shape := ⟨2, ![2048, 50000]⟩
abbrev S1024x2003 : Shape := ⟨2, ![1024, 2003]⟩
abbrev S2048x2003 : Shape := ⟨2, ![2048, 2003]⟩

abbrev nBuf : Space → Nat
  | .hbm => 268
  | .vmem => 0
  | .smem => 0
  | _ => 0

abbrev hbmTy0_0 (i : Nat) : BufTy := match i % 128 with
  | 0 => ⟨S2048x1024, .f32⟩
  | 1 => ⟨S2048, .i32⟩
  | 2 => ⟨S2003x1024, .f32⟩
  | 3 => ⟨S256x1024, .f32⟩
  | 4 => ⟨S8000x256, .f32⟩
  | 5 => ⟨S64x1024, .f32⟩
  | 6 => ⟨S40000x64, .f32⟩
  | 7 => ⟨S16x1024, .f32⟩
  | 8 => ⟨S50000x16, .f32⟩
  | 9 => ⟨S_, .i32⟩
  | 10 => ⟨S2048, .i32⟩
  | 11 => ⟨S2048, .i1⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i32⟩
  | 22 => ⟨S2048, .i32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S_, .i32⟩
  | 30 => ⟨S2048, .i32⟩
  | 31 => ⟨S2048, .i32⟩
  | 32 => ⟨S2048, .i32⟩
  | 33 => ⟨S_, .f32⟩
  | 34 => ⟨S2048, .f32⟩
  | 35 => ⟨S_, .i32⟩
  | 36 => ⟨S2048, .i32⟩
  | 37 => ⟨S2048, .i32⟩
  | 38 => ⟨S_, .i32⟩
  | 39 => ⟨S_, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S1024x256, .f32⟩
  | 47 => ⟨S2048x256, .f32⟩
  | 48 => ⟨S256x8000, .f32⟩
  | 49 => ⟨S2048x8000, .f32⟩
  | 50 => ⟨S_, .f32⟩
  | 51 => ⟨S2048, .f32⟩
  | 52 => ⟨S_, .f32⟩
  | 53 => ⟨S2048, .f32⟩
  | 54 => ⟨S2048, .f32⟩
  | 55 => ⟨S2048x1, .f32⟩
  | 56 => ⟨S2048x8000, .f32⟩
  | 57 => ⟨S2048x8000, .f32⟩
  | 58 => ⟨S2048x8000, .f32⟩
  | 59 => ⟨S_, .f32⟩
  | 60 => ⟨S2048, .f32⟩
  | 61 => ⟨S2048x1, .f32⟩
  | 62 => ⟨S2048x1, .f32⟩
  | 63 => ⟨S2048x8000, .f32⟩
  | 64 => ⟨S2048x8000, .f32⟩
  | 65 => ⟨S2048x1, .i32⟩
  | 66 => ⟨S_, .i32⟩
  | 67 => ⟨S2048x1, .i32⟩
  | 68 => ⟨S2048x1, .i1⟩
  | 69 => ⟨S_, .i32⟩
  | 70 => ⟨S2048x1, .i32⟩
  | 71 => ⟨S2048x1, .i32⟩
  | 72 => ⟨S2048x1, .i32⟩
  | 73 => ⟨S2048x1x1, .i32⟩
  | 74 => ⟨S1, .i32⟩
  | 75 => ⟨S_, .i32⟩
  | 76 => ⟨S2048x1x1, .i32⟩
  | 77 => ⟨S2048x1x1, .i1⟩
  | 78 => ⟨S1x1x1, .i32⟩
  | 79 => ⟨S2048x1x1, .i32⟩
  | 80 => ⟨S2048x1x1, .i1⟩
  | 81 => ⟨S2048x1x1, .i1⟩
  | 82 => ⟨S_, .i1⟩
  | 83 => ⟨S2048x1, .i1⟩
  | 84 => ⟨S2048x1, .f32⟩
  | 85 => ⟨S_, .f32⟩
  | 86 => ⟨S2048x1, .f32⟩
  | 87 => ⟨S2048x1, .f32⟩
  | 88 => ⟨S2048, .f32⟩
  | 89 => ⟨S_, .i32⟩
  | 90 => ⟨S2048, .i32⟩
  | 91 => ⟨S2048, .i1⟩
  | 92 => ⟨S_, .f32⟩
  | 93 => ⟨S_, .f32⟩
  | 94 => ⟨S2048, .f32⟩
  | 95 => ⟨S2048, .f32⟩
  | 96 => ⟨S2048, .f32⟩
  | 97 => ⟨S_, .i32⟩
  | 98 => ⟨S2048, .i32⟩
  | 99 => ⟨S2048, .i32⟩
  | 100 => ⟨S_, .i32⟩
  | 101 => ⟨S_, .i32⟩
  | 102 => ⟨S_, .i32⟩
  | 103 => ⟨S2048, .i32⟩
  | 104 => ⟨S2048, .i32⟩
  | 105 => ⟨S_, .i32⟩
  | 106 => ⟨S2048, .i32⟩
  | 107 => ⟨S2048, .i32⟩
  | 108 => ⟨S1024x64, .f32⟩
  | 109 => ⟨S2048x64, .f32⟩
  | 110 => ⟨S64x40000, .f32⟩
  | 111 => ⟨S2048x40000, .f32⟩
  | 112 => ⟨S_, .f32⟩
  | 113 => ⟨S2048, .f32⟩
  | 114 => ⟨S_, .f32⟩
  | 115 => ⟨S2048, .f32⟩
  | 116 => ⟨S2048, .f32⟩
  | 117 => ⟨S2048x1, .f32⟩
  | 118 => ⟨S2048x40000, .f32⟩
  | 119 => ⟨S2048x40000, .f32⟩
  | 120 => ⟨S2048x40000, .f32⟩
  | 121 => ⟨S_, .f32⟩
  | 122 => ⟨S2048, .f32⟩
  | 123 => ⟨S2048x1, .f32⟩
  | 124 => ⟨S2048x1, .f32⟩
  | 125 => ⟨S2048x40000, .f32⟩
  | 126 => ⟨S2048x40000, .f32⟩
  | 127 => ⟨S2048x1, .i32⟩
  | _ => ⟨S2048x1024, .f32⟩

abbrev hbmTy0_1 (i : Nat) : BufTy := match i % 128 with
  | 0 => ⟨S_, .i32⟩
  | 1 => ⟨S2048x1, .i32⟩
  | 2 => ⟨S2048x1, .i1⟩
  | 3 => ⟨S_, .i32⟩
  | 4 => ⟨S2048x1, .i32⟩
  | 5 => ⟨S2048x1, .i32⟩
  | 6 => ⟨S2048x1, .i32⟩
  | 7 => ⟨S2048x1x1, .i32⟩
  | 8 => ⟨S1, .i32⟩
  | 9 => ⟨S_, .i32⟩
  | 10 => ⟨S2048x1x1, .i32⟩
  | 11 => ⟨S2048x1x1, .i1⟩
  | 12 => ⟨S1x1x1, .i32⟩
  | 13 => ⟨S2048x1x1, .i32⟩
  | 14 => ⟨S2048x1x1, .i1⟩
  | 15 => ⟨S2048x1x1, .i1⟩
  | 16 => ⟨S_, .i1⟩
  | 17 => ⟨S2048x1, .i1⟩
  | 18 => ⟨S2048x1, .f32⟩
  | 19 => ⟨S_, .f32⟩
  | 20 => ⟨S2048x1, .f32⟩
  | 21 => ⟨S2048x1, .f32⟩
  | 22 => ⟨S2048, .f32⟩
  | 23 => ⟨S_, .i32⟩
  | 24 => ⟨S2048, .i32⟩
  | 25 => ⟨S2048, .i1⟩
  | 26 => ⟨S_, .f32⟩
  | 27 => ⟨S_, .f32⟩
  | 28 => ⟨S2048, .f32⟩
  | 29 => ⟨S2048, .f32⟩
  | 30 => ⟨S2048, .f32⟩
  | 31 => ⟨S_, .i32⟩
  | 32 => ⟨S2048, .i32⟩
  | 33 => ⟨S2048, .i32⟩
  | 34 => ⟨S_, .i32⟩
  | 35 => ⟨S_, .i32⟩
  | 36 => ⟨S_, .i32⟩
  | 37 => ⟨S2048, .i32⟩
  | 38 => ⟨S2048, .i32⟩
  | 39 => ⟨S_, .i32⟩
  | 40 => ⟨S2048, .i32⟩
  | 41 => ⟨S2048, .i32⟩
  | 42 => ⟨S1024x16, .f32⟩
  | 43 => ⟨S2048x16, .f32⟩
  | 44 => ⟨S16x50000, .f32⟩
  | 45 => ⟨S2048x50000, .f32⟩
  | 46 => ⟨S_, .f32⟩
  | 47 => ⟨S2048, .f32⟩
  | 48 => ⟨S_, .f32⟩
  | 49 => ⟨S2048, .f32⟩
  | 50 => ⟨S2048, .f32⟩
  | 51 => ⟨S2048x1, .f32⟩
  | 52 => ⟨S2048x50000, .f32⟩
  | 53 => ⟨S2048x50000, .f32⟩
  | 54 => ⟨S2048x50000, .f32⟩
  | 55 => ⟨S_, .f32⟩
  | 56 => ⟨S2048, .f32⟩
  | 57 => ⟨S2048x1, .f32⟩
  | 58 => ⟨S2048x1, .f32⟩
  | 59 => ⟨S2048x50000, .f32⟩
  | 60 => ⟨S2048x50000, .f32⟩
  | 61 => ⟨S2048x1, .i32⟩
  | 62 => ⟨S_, .i32⟩
  | 63 => ⟨S2048x1, .i32⟩
  | 64 => ⟨S2048x1, .i1⟩
  | 65 => ⟨S_, .i32⟩
  | 66 => ⟨S2048x1, .i32⟩
  | 67 => ⟨S2048x1, .i32⟩
  | 68 => ⟨S2048x1, .i32⟩
  | 69 => ⟨S2048x1x1, .i32⟩
  | 70 => ⟨S1, .i32⟩
  | 71 => ⟨S_, .i32⟩
  | 72 => ⟨S2048x1x1, .i32⟩
  | 73 => ⟨S2048x1x1, .i1⟩
  | 74 => ⟨S1x1x1, .i32⟩
  | 75 => ⟨S2048x1x1, .i32⟩
  | 76 => ⟨S2048x1x1, .i1⟩
  | 77 => ⟨S2048x1x1, .i1⟩
  | 78 => ⟨S_, .i1⟩
  | 79 => ⟨S2048x1, .i1⟩
  | 80 => ⟨S2048x1, .f32⟩
  | 81 => ⟨S_, .f32⟩
  | 82 => ⟨S2048x1, .f32⟩
  | 83 => ⟨S2048x1, .f32⟩
  | 84 => ⟨S2048, .f32⟩
  | 85 => ⟨S_, .i32⟩
  | 86 => ⟨S2048, .i32⟩
  | 87 => ⟨S2048, .i1⟩
  | 88 => ⟨S_, .f32⟩
  | 89 => ⟨S_, .f32⟩
  | 90 => ⟨S2048, .f32⟩
  | 91 => ⟨S2048, .f32⟩
  | 92 => ⟨S2048, .f32⟩
  | 93 => ⟨S1024x2003, .f32⟩
  | 94 => ⟨S2048x2003, .f32⟩
  | 95 => ⟨S_, .f32⟩
  | 96 => ⟨S2048, .f32⟩
  | 97 => ⟨S_, .f32⟩
  | 98 => ⟨S2048, .f32⟩
  | 99 => ⟨S2048, .f32⟩
  | 100 => ⟨S2048x1, .f32⟩
  | 101 => ⟨S2048x2003, .f32⟩
  | 102 => ⟨S2048x2003, .f32⟩
  | 103 => ⟨S2048x2003, .f32⟩
  | 104 => ⟨S_, .f32⟩
  | 105 => ⟨S2048, .f32⟩
  | 106 => ⟨S2048x1, .f32⟩
  | 107 => ⟨S2048x1, .f32⟩
  | 108 => ⟨S2048x2003, .f32⟩
  | 109 => ⟨S2048x2003, .f32⟩
  | 110 => ⟨S2048x1, .i32⟩
  | 111 => ⟨S_, .i32⟩
  | 112 => ⟨S2048x1, .i32⟩
  | 113 => ⟨S2048x1, .i1⟩
  | 114 => ⟨S_, .i32⟩
  | 115 => ⟨S2048x1, .i32⟩
  | 116 => ⟨S2048x1, .i32⟩
  | 117 => ⟨S2048x1, .i32⟩
  | 118 => ⟨S2048x1x1, .i32⟩
  | 119 => ⟨S1, .i32⟩
  | 120 => ⟨S_, .i32⟩
  | 121 => ⟨S2048x1x1, .i32⟩
  | 122 => ⟨S2048x1x1, .i1⟩
  | 123 => ⟨S1x1x1, .i32⟩
  | 124 => ⟨S2048x1x1, .i32⟩
  | 125 => ⟨S2048x1x1, .i1⟩
  | 126 => ⟨S2048x1x1, .i1⟩
  | 127 => ⟨S_, .i1⟩
  | _ => ⟨S2048x1024, .f32⟩

abbrev hbmTy0_2 (i : Nat) : BufTy := match i % 128 with
  | 0 => ⟨S2048x1, .i1⟩
  | 1 => ⟨S2048x1, .f32⟩
  | 2 => ⟨S_, .f32⟩
  | 3 => ⟨S2048x1, .f32⟩
  | 4 => ⟨S2048x1, .f32⟩
  | 5 => ⟨S2048, .f32⟩
  | 6 => ⟨S2048, .f32⟩
  | 7 => ⟨S2048, .f32⟩
  | 8 => ⟨S_, .f32⟩
  | 9 => ⟨S_, .f32⟩
  | 10 => ⟨S_, .f32⟩
  | 11 => ⟨S_, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_c_7 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call2_cst : Ref sig .tc := ⟨.hbm, 50, rfl⟩
abbrev main_call2_v0 : Ref sig .tc := ⟨.hbm, 51, rfl⟩
abbrev main_call2_cst_0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_cst_1 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_v26 : Ref sig .tc := ⟨.hbm, 64, rfl⟩
abbrev main_v27 : Ref sig .tc := ⟨.hbm, 65, rfl⟩
abbrev main_call3_c : Ref sig .tc := ⟨.hbm, 66, rfl⟩
abbrev main_call3_v0 : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_c_1 : Ref sig .tc := ⟨.hbm, 74, rfl⟩
abbrev main_call3_c_2 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_3 : Ref sig .tc := ⟨.hbm, 82, rfl⟩
abbrev main_call3_v12 : Ref sig .tc := ⟨.hbm, 83, rfl⟩
abbrev main_call3_v13 : Ref sig .tc := ⟨.hbm, 84, rfl⟩
abbrev main_call3_cst : Ref sig .tc := ⟨.hbm, 85, rfl⟩
abbrev main_call3_v14 : Ref sig .tc := ⟨.hbm, 86, rfl⟩
abbrev main_v28 : Ref sig .tc := ⟨.hbm, 87, rfl⟩
abbrev main_v29 : Ref sig .tc := ⟨.hbm, 88, rfl⟩
abbrev main_c_8 : Ref sig .tc := ⟨.hbm, 89, rfl⟩
abbrev main_v30 : Ref sig .tc := ⟨.hbm, 90, rfl⟩
abbrev main_v31 : Ref sig .tc := ⟨.hbm, 91, rfl⟩
abbrev main_cst_9 : Ref sig .tc := ⟨.hbm, 92, rfl⟩
abbrev main_call4_v0 : Ref sig .tc := ⟨.hbm, 93, rfl⟩
abbrev main_call4_v1 : Ref sig .tc := ⟨.hbm, 94, rfl⟩
abbrev main_v32 : Ref sig .tc := ⟨.hbm, 95, rfl⟩
abbrev main_v33 : Ref sig .tc := ⟨.hbm, 96, rfl⟩
abbrev main_c_10 : Ref sig .tc := ⟨.hbm, 97, rfl⟩
abbrev main_v34 : Ref sig .tc := ⟨.hbm, 98, rfl⟩
abbrev main_v35 : Ref sig .tc := ⟨.hbm, 99, rfl⟩
abbrev main_c_11 : Ref sig .tc := ⟨.hbm, 100, rfl⟩
abbrev main_c_12 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_call6_cst : Ref sig .tc := ⟨.hbm, 112, rfl⟩
abbrev main_call6_v0 : Ref sig .tc := ⟨.hbm, 113, rfl⟩
abbrev main_call6_cst_0 : Ref sig .tc := ⟨.hbm, 114, rfl⟩
abbrev main_call6_v1 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_v5 : Ref sig .tc := ⟨.hbm, 119, rfl⟩
abbrev main_call6_v6 : Ref sig .tc := ⟨.hbm, 120, rfl⟩
abbrev main_call6_cst_1 : Ref sig .tc := ⟨.hbm, 121, rfl⟩
abbrev main_call6_v7 : Ref sig .tc := ⟨.hbm, 122, rfl⟩
abbrev main_call6_v8 : Ref sig .tc := ⟨.hbm, 123, rfl⟩
abbrev main_call6_v9 : Ref sig .tc := ⟨.hbm, 124, rfl⟩
abbrev main_call6_v10 : Ref sig .tc := ⟨.hbm, 125, rfl⟩
abbrev main_v41 : Ref sig .tc := ⟨.hbm, 126, rfl⟩
abbrev main_v42 : Ref sig .tc := ⟨.hbm, 127, rfl⟩
abbrev main_call7_c : Ref sig .tc := ⟨.hbm, 128, rfl⟩
abbrev main_call7_v0 : Ref sig .tc := ⟨.hbm, 129, rfl⟩
abbrev main_call7_v1 : Ref sig .tc := ⟨.hbm, 130, rfl⟩
abbrev main_call7_c_0 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_call7_v5 : Ref sig .tc := ⟨.hbm, 135, rfl⟩
abbrev main_call7_c_1 : Ref sig .tc := ⟨.hbm, 136, rfl⟩
abbrev main_call7_c_2 : Ref sig .tc := ⟨.hbm, 137, rfl⟩
abbrev main_call7_v6 : Ref sig .tc := ⟨.hbm, 138, rfl⟩
abbrev main_call7_v7 : Ref sig .tc := ⟨.hbm, 139, rfl⟩
abbrev main_call7_v8 : Ref sig .tc := ⟨.hbm, 140, rfl⟩
abbrev main_call7_v9 : Ref sig .tc := ⟨.hbm, 141, rfl⟩
abbrev main_call7_v10 : Ref sig .tc := ⟨.hbm, 142, rfl⟩
abbrev main_call7_v11 : Ref sig .tc := ⟨.hbm, 143, rfl⟩
abbrev main_call7_c_3 : Ref sig .tc := ⟨.hbm, 144, rfl⟩
abbrev main_call7_v12 : Ref sig .tc := ⟨.hbm, 145, rfl⟩
abbrev main_call7_v13 : Ref sig .tc := ⟨.hbm, 146, rfl⟩
abbrev main_call7_cst : Ref sig .tc := ⟨.hbm, 147, rfl⟩
abbrev main_call7_v14 : Ref sig .tc := ⟨.hbm, 148, rfl⟩
abbrev main_v43 : Ref sig .tc := ⟨.hbm, 149, rfl⟩
abbrev main_v44 : Ref sig .tc := ⟨.hbm, 150, rfl⟩
abbrev main_c_13 : Ref sig .tc := ⟨.hbm, 151, rfl⟩
abbrev main_v45 : Ref sig .tc := ⟨.hbm, 152, rfl⟩
abbrev main_v46 : Ref sig .tc := ⟨.hbm, 153, rfl⟩
abbrev main_cst_14 : Ref sig .tc := ⟨.hbm, 154, rfl⟩
abbrev main_call8_v0 : Ref sig .tc := ⟨.hbm, 155, rfl⟩
abbrev main_call8_v1 : Ref sig .tc := ⟨.hbm, 156, rfl⟩
abbrev main_v47 : Ref sig .tc := ⟨.hbm, 157, rfl⟩
abbrev main_v48 : Ref sig .tc := ⟨.hbm, 158, rfl⟩
abbrev main_c_15 : Ref sig .tc := ⟨.hbm, 159, rfl⟩
abbrev main_v49 : Ref sig .tc := ⟨.hbm, 160, rfl⟩
abbrev main_v50 : Ref sig .tc := ⟨.hbm, 161, rfl⟩
abbrev main_c_16 : Ref sig .tc := ⟨.hbm, 162, rfl⟩
abbrev main_c_17 : Ref sig .tc := ⟨.hbm, 163, rfl⟩
abbrev main_call9_v0 : Ref sig .tc := ⟨.hbm, 164, rfl⟩
abbrev main_call9_v1 : Ref sig .tc := ⟨.hbm, 165, rfl⟩
abbrev main_call9_v2 : Ref sig .tc := ⟨.hbm, 166, rfl⟩
abbrev main_call9_v3 : Ref sig .tc := ⟨.hbm, 167, rfl⟩
abbrev main_call9_v4 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_call10_cst : Ref sig .tc := ⟨.hbm, 174, rfl⟩
abbrev main_call10_v0 : Ref sig .tc := ⟨.hbm, 175, rfl⟩
abbrev main_call10_cst_0 : Ref sig .tc := ⟨.hbm, 176, rfl⟩
abbrev main_call10_v1 : Ref sig .tc := ⟨.hbm, 177, rfl⟩
abbrev main_call10_v2 : Ref sig .tc := ⟨.hbm, 178, rfl⟩
abbrev main_call10_v3 : Ref sig .tc := ⟨.hbm, 179, rfl⟩
abbrev main_call10_v4 : Ref sig .tc := ⟨.hbm, 180, rfl⟩
abbrev main_call10_v5 : Ref sig .tc := ⟨.hbm, 181, rfl⟩
abbrev main_call10_v6 : Ref sig .tc := ⟨.hbm, 182, rfl⟩
abbrev main_call10_cst_1 : Ref sig .tc := ⟨.hbm, 183, rfl⟩
abbrev main_call10_v7 : Ref sig .tc := ⟨.hbm, 184, rfl⟩
abbrev main_call10_v8 : Ref sig .tc := ⟨.hbm, 185, rfl⟩
abbrev main_call10_v9 : Ref sig .tc := ⟨.hbm, 186, rfl⟩
abbrev main_call10_v10 : Ref sig .tc := ⟨.hbm, 187, rfl⟩
abbrev main_v56 : Ref sig .tc := ⟨.hbm, 188, rfl⟩
abbrev main_v57 : Ref sig .tc := ⟨.hbm, 189, rfl⟩
abbrev main_call11_c : Ref sig .tc := ⟨.hbm, 190, rfl⟩
abbrev main_call11_v0 : Ref sig .tc := ⟨.hbm, 191, rfl⟩
abbrev main_call11_v1 : Ref sig .tc := ⟨.hbm, 192, rfl⟩
abbrev main_call11_c_0 : Ref sig .tc := ⟨.hbm, 193, rfl⟩
abbrev main_call11_v2 : Ref sig .tc := ⟨.hbm, 194, rfl⟩
abbrev main_call11_v3 : Ref sig .tc := ⟨.hbm, 195, rfl⟩
abbrev main_call11_v4 : Ref sig .tc := ⟨.hbm, 196, rfl⟩
abbrev main_call11_v5 : Ref sig .tc := ⟨.hbm, 197, rfl⟩
abbrev main_call11_c_1 : Ref sig .tc := ⟨.hbm, 198, rfl⟩
abbrev main_call11_c_2 : Ref sig .tc := ⟨.hbm, 199, rfl⟩
abbrev main_call11_v6 : Ref sig .tc := ⟨.hbm, 200, rfl⟩
abbrev main_call11_v7 : Ref sig .tc := ⟨.hbm, 201, rfl⟩
abbrev main_call11_v8 : Ref sig .tc := ⟨.hbm, 202, rfl⟩
abbrev main_call11_v9 : Ref sig .tc := ⟨.hbm, 203, rfl⟩
abbrev main_call11_v10 : Ref sig .tc := ⟨.hbm, 204, rfl⟩
abbrev main_call11_v11 : Ref sig .tc := ⟨.hbm, 205, rfl⟩
abbrev main_call11_c_3 : Ref sig .tc := ⟨.hbm, 206, rfl⟩
abbrev main_call11_v12 : Ref sig .tc := ⟨.hbm, 207, rfl⟩
abbrev main_call11_v13 : Ref sig .tc := ⟨.hbm, 208, rfl⟩
abbrev main_call11_cst : Ref sig .tc := ⟨.hbm, 209, rfl⟩
abbrev main_call11_v14 : Ref sig .tc := ⟨.hbm, 210, rfl⟩
abbrev main_v58 : Ref sig .tc := ⟨.hbm, 211, rfl⟩
abbrev main_v59 : Ref sig .tc := ⟨.hbm, 212, rfl⟩
abbrev main_c_18 : Ref sig .tc := ⟨.hbm, 213, rfl⟩
abbrev main_v60 : Ref sig .tc := ⟨.hbm, 214, rfl⟩
abbrev main_v61 : Ref sig .tc := ⟨.hbm, 215, rfl⟩
abbrev main_cst_19 : Ref sig .tc := ⟨.hbm, 216, rfl⟩
abbrev main_call12_v0 : Ref sig .tc := ⟨.hbm, 217, rfl⟩
abbrev main_call12_v1 : Ref sig .tc := ⟨.hbm, 218, rfl⟩
abbrev main_v62 : Ref sig .tc := ⟨.hbm, 219, rfl⟩
abbrev main_v63 : Ref sig .tc := ⟨.hbm, 220, rfl⟩
abbrev main_v64 : Ref sig .tc := ⟨.hbm, 221, rfl⟩
abbrev main_v65 : Ref sig .tc := ⟨.hbm, 222, rfl⟩
abbrev main_call13_cst : Ref sig .tc := ⟨.hbm, 223, rfl⟩
abbrev main_call13_v0 : Ref sig .tc := ⟨.hbm, 224, rfl⟩
abbrev main_call13_cst_0 : Ref sig .tc := ⟨.hbm, 225, rfl⟩
abbrev main_call13_v1 : Ref sig .tc := ⟨.hbm, 226, rfl⟩
abbrev main_call13_v2 : Ref sig .tc := ⟨.hbm, 227, rfl⟩
abbrev main_call13_v3 : Ref sig .tc := ⟨.hbm, 228, rfl⟩
abbrev main_call13_v4 : Ref sig .tc := ⟨.hbm, 229, rfl⟩
abbrev main_call13_v5 : Ref sig .tc := ⟨.hbm, 230, rfl⟩
abbrev main_call13_v6 : Ref sig .tc := ⟨.hbm, 231, rfl⟩
abbrev main_call13_cst_1 : Ref sig .tc := ⟨.hbm, 232, rfl⟩
abbrev main_call13_v7 : Ref sig .tc := ⟨.hbm, 233, rfl⟩
abbrev main_call13_v8 : Ref sig .tc := ⟨.hbm, 234, rfl⟩
abbrev main_call13_v9 : Ref sig .tc := ⟨.hbm, 235, rfl⟩
abbrev main_call13_v10 : Ref sig .tc := ⟨.hbm, 236, rfl⟩
abbrev main_v66 : Ref sig .tc := ⟨.hbm, 237, rfl⟩
abbrev main_v67 : Ref sig .tc := ⟨.hbm, 238, rfl⟩
abbrev main_call14_c : Ref sig .tc := ⟨.hbm, 239, rfl⟩
abbrev main_call14_v0 : Ref sig .tc := ⟨.hbm, 240, rfl⟩
abbrev main_call14_v1 : Ref sig .tc := ⟨.hbm, 241, rfl⟩
abbrev main_call14_c_0 : Ref sig .tc := ⟨.hbm, 242, rfl⟩
abbrev main_call14_v2 : Ref sig .tc := ⟨.hbm, 243, rfl⟩
abbrev main_call14_v3 : Ref sig .tc := ⟨.hbm, 244, rfl⟩
abbrev main_call14_v4 : Ref sig .tc := ⟨.hbm, 245, rfl⟩
abbrev main_call14_v5 : Ref sig .tc := ⟨.hbm, 246, rfl⟩
abbrev main_call14_c_1 : Ref sig .tc := ⟨.hbm, 247, rfl⟩
abbrev main_call14_c_2 : Ref sig .tc := ⟨.hbm, 248, rfl⟩
abbrev main_call14_v6 : Ref sig .tc := ⟨.hbm, 249, rfl⟩
abbrev main_call14_v7 : Ref sig .tc := ⟨.hbm, 250, rfl⟩
abbrev main_call14_v8 : Ref sig .tc := ⟨.hbm, 251, rfl⟩
abbrev main_call14_v9 : Ref sig .tc := ⟨.hbm, 252, rfl⟩
abbrev main_call14_v10 : Ref sig .tc := ⟨.hbm, 253, rfl⟩
abbrev main_call14_v11 : Ref sig .tc := ⟨.hbm, 254, rfl⟩
abbrev main_call14_c_3 : Ref sig .tc := ⟨.hbm, 255, rfl⟩
abbrev main_call14_v12 : Ref sig .tc := ⟨.hbm, 256, rfl⟩
abbrev main_call14_v13 : Ref sig .tc := ⟨.hbm, 257, rfl⟩
abbrev main_call14_cst : Ref sig .tc := ⟨.hbm, 258, rfl⟩
abbrev main_call14_v14 : Ref sig .tc := ⟨.hbm, 259, rfl⟩
abbrev main_v68 : Ref sig .tc := ⟨.hbm, 260, rfl⟩
abbrev main_v69 : Ref sig .tc := ⟨.hbm, 261, rfl⟩
abbrev main_v70 : Ref sig .tc := ⟨.hbm, 262, rfl⟩
abbrev main_v71 : Ref sig .tc := ⟨.hbm, 263, rfl⟩
abbrev main_cst_20 : Ref sig .tc := ⟨.hbm, 264, rfl⟩
abbrev main_v72 : Ref sig .tc := ⟨.hbm, 265, rfl⟩
abbrev main_cst_21 : Ref sig .tc := ⟨.hbm, 266, rfl⟩
abbrev main_v73 : Ref sig .tc := ⟨.hbm, 267, rfl⟩

abbrev nD : Nat := 1
abbrev τ : Topo := Topo.v7x

variable {F : FTy → Type} [FloatOps F]
-- ==== Proof.Own.lean ====
/-
  Loads and stores through a rectangle of a memref, stated at what the memref reads.

  A memref owned whole at contents `X` reads, through a rectangle `r`, the part of `X` under `r`; after a store of `w` through `r`
  it holds `put r X w`: `w` under the rectangle and `X` elsewhere.
-/
module

public import Idealize.ShloMosaic.Lib.Writes
public import Idealize.ShloMosaic.Lib.Memref
public import Idealize.ShloMosaic.Lib.VecWindow
public import Idealize.ShloMosaic.Rules.Step
public import Idealize.ShloMosaic.Lib.Tactic

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

/-- Contents `X` with `w` written under the rectangle `r`. -/
def put {s : Shape} {α : Type} (r : Rect s) (X : s.Idx → α) (w : r.shape.Idx → α) : s.Idx → α :=
  Function.extend r.emb w X

/-- The part of `X` under the rectangle `r`. -/
def get {s : Shape} {α : Type} (r : Rect s) (X : s.Idx → α) : r.shape.Idx → α := fun x => X (r.emb x)

theorem put_emb {s : Shape} {α : Type} (r : Rect s) (X : s.Idx → α) (w : r.shape.Idx → α) (x : r.shape.Idx) :
    put r X w (r.emb x) = w x := r.emb.injective.extend_apply w X x

theorem put_of_not {s : Shape} {α : Type} (r : Rect s) (X : s.Idx → α) (w : r.shape.Idx → α) (y : s.Idx)
    (h : ¬ ∃ x, r.emb x = y) : put r X w y = X y := Function.extend_apply' w X y h

/-- A rectangle that covers the shape replaces the contents. -/
theorem put_full {s : Shape} {α : Type} (r : Rect s) (X : s.Idx → α) (w : r.shape.Idx → α) (w' : s.Idx → α)
    (h : ∀ y, ∃ x, r.emb x = y ∧ w x = w' y) : put r X w = w' := by
  funext y
  obtain ⟨x, rfl, hx⟩ := h y
  rw [put_emb, hx]

/-- A rectangle of the shape's own sizes reads the contents. -/
theorem get_unit {s : Shape} {α : Type} {off : Fin s.rank → ℕ} (inb : ∀ a, off a + s.size a ≤ s.size a) (X : s.Idx → α) :
    get (Rect.unit off s.size inb) X = X := by
  funext y
  exact congrArg X (Rect.emb_unit_full inb y)

/-- A rectangle of the shape's own sizes replaces the contents. -/
theorem put_unit {s : Shape} {α : Type} {off : Fin s.rank → ℕ} (inb : ∀ a, off a + s.size a ≤ s.size a) (X w : s.Idx → α) :
    put (Rect.unit off s.size inb) X w = w :=
  put_full _ _ _ _ fun y => ⟨y, Rect.emb_unit_full inb y, rfl⟩

section Rules

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Dev nD) (E : Set Name)
variable {α : Type} {Q : α → sProp (MT nD τ sig Ix Val Name U Lvl)}

local notation "𝕄" => MT nD τ sig Ix Val Name U Lvl

/-- A load through a rectangle of an owned memref. -/
theorem load {cs : CoreSpace} {s : Shape} {e : EltTy} {m : Memref sig .tc cs s e} {r : Rect s} {hl : m.view.LoadsAt r}
    {k : (r.shape.Idx → Val e) → Prog (TpuEff nD τ sig Val Λ .tc) α} {q : PosShare TreeShare} {X : s.Idx → Val e} :
    (owns (c.tc : Thread nD τ) m q X : sProp 𝕄)
      ⊢ iprop((owns (c.tc : Thread nD τ) m q X -∗ wp frame (wpE defs 𝒱 (c.tc : Thread nD τ) none) E (k (get r X)) Q)
        -∗ wp frame (wpE defs 𝒱 (c.tc : Thread nD τ) none) E (.op (.load m r hl) k) Q) := by
  unfold owns
  iintro ⟨%f, %hf, H⟩ Hk
  iapply (wp_load_rect 𝒱 (c.tc : Thread nD τ) none E (m := m) (r := r) (View.set_slice_subset _ _)) $$ H
  iintro H
  have e : (m.access r).read Val f = get r X := by subst hf; rfl
  rw [e]
  iapply Hk
  iexists f; isplitr; · ipureintro; exact hf
  iexact H

/-- A store through a rectangle of an owned memref. -/
theorem store {cs : CoreSpace} {s : Shape} {e : EltTy} {m : Memref sig .tc cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ .tc) α} {X : s.Idx → Val e} :
    (owns (c.tc : Thread nD τ) m fullShare X : sProp 𝕄)
      ⊢ iprop((owns (c.tc : Thread nD τ) m fullShare (put r X w) -∗ wp frame (wpE defs 𝒱 (c.tc : Thread nD τ) none) E (k ⟨⟩) Q)
        -∗ wp frame (wpE defs 𝒱 (c.tc : Thread nD τ) none) E (.op (.store m r w Finset.univ hx hm) k) Q) := by
  unfold owns
  iintro ⟨%f, %hf, H⟩ Hk
  iapply (wp_store 𝒱 (c.tc : Thread nD τ) none E (m := m) (r := r) (Mk := Finset.univ) (View.set_slice_subset _ _)) $$ H
  iintro H
  iapply Hk
  iexists _; isplitr
  swap; · iexact H
  ipureintro
  funext y
  by_cases h : ∃ x, r.emb x = y
  · obtain ⟨x, rfl⟩ := h
    rw [put_emb]
    exact View.read_writes_cons_emb m.view f r w [] x
  · rw [put_of_not r X w y h, ← hf]
    exact View.read_slice_write_of_not_mem r f w Finset.univ (fun hy => by
      obtain ⟨x, -, hx⟩ := Finset.mem_map.mp hy
      exact h ⟨x, hx⟩)

end Rules

end Cert.Own

end
-- ==== Proof.Region.lean ====
/-
  One kernel region of @main, entered from any valuation of the unscoped buffers.

  A region whose proof data constrains what the body leaves is run from a valuation `V`, unknown beforehand, to some
  valuation that has each window's array at contents the write-backs may have left and every other buffer as in `V`.
-/
module

public import Idealize.ShloMosaic.Lib.Pipeline.RegionArraysT
public import Idealize.ShloMosaic.Lib.Pipeline.FrameTail
public import Idealize.ShloMosaic.Lib.Pipeline.Regions
public import Idealize.ShloMosaic.Lib.Pipeline.ArrRel
public import Idealize.ShloMosaic.Lib.Pipeline.ValueKit.Geometry
public import Idealize.ShloMosaic.Lib.Tactic

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open PCS

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

section Arrays

open Classical in
/-- The valuation `V` with the windows' arrays at the contents `A`. -/
def setArrs {gr W : Nat} (win : Fin W → WinSpec sig gr) (A : (w : Fin W) → (Proc.devRef .tc (arrRef win w) : DevRef τ sig).ty.Contents Val)
    (V : Valuation τ sig Val) : Valuation τ sig Val := fun b =>
  if h : ∃ w : Fin W, b = Proc.devRef .tc (arrRef win w) then
    cast (congrArg (fun b' : DevRef τ sig => b'.ty.Contents Val) h.choose_spec.symm) (A h.choose)
  else V b

private theorem cast_arr {gr W : Nat} (win : Fin W → WinSpec sig gr)
    (A : (w : Fin W) → (Proc.devRef .tc (arrRef win w) : DevRef τ sig).ty.Contents Val) {w w' : Fin W} (hw : w' = w)
    (e : (Proc.devRef .tc (arrRef win w') : DevRef τ sig).ty.Contents Val = (Proc.devRef .tc (arrRef win w) : DevRef τ sig).ty.Contents Val) :
    cast e (A w') = A w := by
  subst hw; rfl

theorem setArrs_arr {gr W : Nat} (win : Fin W → WinSpec sig gr)
    (A : (w : Fin W) → (Proc.devRef .tc (arrRef win w) : DevRef τ sig).ty.Contents Val) (V : Valuation τ sig Val)
    (hinj : Function.Injective (arrRef win)) (w : Fin W) : setArrs win A V (Proc.devRef .tc (arrRef win w)) = A w := by
  have h : ∃ w' : Fin W, (Proc.devRef .tc (arrRef win w) : DevRef τ sig) = Proc.devRef .tc (arrRef win w') := ⟨w, rfl⟩
  have hw : h.choose = w := (hinj (Proc.devRef_injective _ h.choose_spec)).symm
  unfold setArrs
  rw [dif_pos h]
  exact cast_arr win A hw _

theorem setArrs_of_not {gr W : Nat} (win : Fin W → WinSpec sig gr)
    (A : (w : Fin W) → (Proc.devRef .tc (arrRef win w) : DevRef τ sig).ty.Contents Val) (V : Valuation τ sig Val)
    {b : DevRef τ sig} (hb : b ∉ arrRefs (τ := τ) win) : setArrs win A V b = V b := by
  unfold setArrs
  rw [dif_neg]
  rintro ⟨w, rfl⟩
  exact hb (Finset.mem_map.mpr ⟨_, Finset.mem_image.mpr ⟨w, Finset.mem_univ w, rfl⟩, rfl⟩)

end Arrays

/-- What an input window's buffer may hold when the body runs: the array's block where the fetch filled the buffer, anything
    elsewhere. The body leaves an input as it found it (`hkeep`). -/
theorem finds_input [∀ e, Nonempty (Val e)] {cfg : Cfg sig Λ₀} {c : Dev nD} (rd : RDat τ Val Ix Name U Lvl cfg c) (w : Fin cfg.W)
    (hin : (cfg.win w).isOut = false) (hkeep : ∀ t Y X, rd.after w t Y X → X = Y)
    (hclip : ∀ t t', (cfg.win w).index t = (cfg.win w).index t' →
      (cfg.win w).clip (cfg.grid.coords t) = (cfg.win w).clip (cfg.grid.coords t')) :
    ∀ (t : Fin cfg.N) Y, rd.Finds w t Y → ∃ d, Y = rd.fetched w t d := by
  intro t
  induction hn : t.val using Nat.strong_induction_on generalizing t with
  | _ n ih =>
    subst hn
    intro Y hY
    cases hf : (cfg.win w).fetch t with
    | true => exact (rd.finds_of_fetch hf Y).mp hY
    | false =>
      have h0 : t.val ≠ 0 := by
        intro h0
        have : (cfg.win w).fetch t = true := by
          unfold Window.fetch
          simp [hin, h0]
        rw [hf] at this; exact absurd this Bool.false_ne_true
      have hp := (rd.finds_of_pos hf h0 Y).mp hY
      have hfl : (cfg.win w).flush ⟨t.val - 1, Nat.lt_of_le_of_lt (Nat.sub_le _ _) t.isLt⟩ = false := by
        unfold Window.flush; simp [hin]
      rw [hfl] at hp
      obtain ⟨Z, hZ, hZY⟩ := hp.resolve_left Bool.false_ne_true
      obtain rfl := hkeep _ _ _ hZY
      obtain ⟨d, hd⟩ := ih (t.val - 1) (by omega) ⟨t.val - 1, Nat.lt_of_le_of_lt (Nat.sub_le _ _) t.isLt⟩ rfl _ hZ
      have hidx : (cfg.win w).index t = (cfg.win w).index ⟨t.val - 1, Nat.lt_of_le_of_lt (Nat.sub_le _ _) t.isLt⟩ := by
        unfold Window.fetch at hf
        by_contra hne
        simp [hin, h0, hne] at hf
      exact ⟨d, hd.trans (rd.fetched_congr w hidx (hclip _ _ hidx) d).symm⟩

omit [Preorder Lvl] in
/-- After the last point an output array whose write-backs are disjoint holds, at a flushing point's block, something the body may have
    left in the buffer there. -/
theorem read_flushed [∀ e, Nonempty (Val e)] {cfg : Cfg sig Λ₀} {c : Dev nD} (rd : RDat τ Val Ix Name U Lvl cfg c) (w : Fin cfg.W)
    (hinj : ∀ t t' : Fin cfg.N, (cfg.win w).flush t = true → (cfg.win w).flush t' = true → (cfg.win w).index t = (cfg.win w).index t' → t = t')
    {G : Buf Val ((cfg.win w).arr.view.loc (c.tc : Thread nD τ))} (hG : rd.ArrAt w cfg.N G) (t : Fin cfg.N) (hf : (cfg.win w).flush t = true) :
    ∃ X, rd.Leaves w t X ∧ ((cfg.win w).blk t).view.read Val G = (cfg.win w).cut (cfg.grid.coords t) X := by
  obtain ⟨X, hX, hA⟩ := hG.exists_exact
  refine ⟨X t, hX t t.isLt hf, ?_⟩
  have e := hA (Function.update (fun _ _ _ => Classical.arbitrary _) w X) fun u _ _ => by rw [Function.update_self]
  rw [e, Dat.read_blk_arrAt_eq_flushed _ w ((cfg.win w).hdisj_of_index_inj hinj) cfg.N t t.isLt hf]
  unfold Dat.flushed
  rw [RDat.withAfter_after, Function.update_self]

omit [Preorder Lvl] in
/-- The arrays after some write-backs: at some contents they may then hold. -/
theorem arraysAt_exists [∀ e, Nonempty (Val e)] {cfg : Cfg sig Λ₀} {c : Dev nD} (rd : RDat τ Val Ix Name U Lvl cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

section Region

variable (pcs : P → PCfg sig Λ₀ Val) (a : (p : P) → (pcs p).Adm)
  (rdats : (p : P) → (c : Dev nD) → RDat τ Val Ix Name U Lvl (pin pcs a p) c) (ι : Ix)
  (phinj : Function.Injective (Pipeline.cellOf (nD := nD) (τ := τ) (pin pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

/-- The core's `owes` at nothing owed. -/
abbrev idleOwes (c : Dev nD) : sProp 𝕄 := iprop(∃ W, owes (c.tc : Thread nD τ) (0 : CellTallies nD τ sig Ix) W)

/-- What a region makes of the valuation `V`: each window's array at contents it may hold after every write-back, every other
    buffer as it was. -/
def Makes (p : P) (c : Dev nD) (V V' : Valuation τ sig Val) : Prop :=
  (∀ w, (rdats p c).ArrAt w (pin pcs a p).N (V' (Proc.devRef .tc (arrRef (pin pcs a p).spec w))))
    ∧ ∀ b, b ∉ arrRefs (τ := τ) (pcs p).spec → V' b = V b

omit [Fintype P] [Preorder Lvl] in
/-- The windows' arrays as held buffers. -/
theorem arrays_held_rel {p : P} (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (Wc : Valuation τ sig Val)
    (hG : ∀ w, G w = Wc (Proc.devRef .tc (arrRef (pin pcs a p).spec w))) :
    ((rdats p c).arrays G : sProp 𝕄) = StableHlo.held (c.tc : Thread nD τ) (arrRefs (pcs p).spec) Wc := by
  rw [RDat.arrays_eq pcs a rdats p c kit.arr_whole hshare G]
  unfold StableHlo.held arrRefs
  rw [bigSep_map, show Finset.univ.image (arrRef (pcs p).spec) = Finset.univ.map ⟨arrRef (pcs p).spec, kit.win.arr_inj⟩ from
    (Finset.map_eq_image ⟨arrRef (pcs p).spec, kit.win.arr_inj⟩ Finset.univ).symm, bigSep_map]
  exact bigSep_congr fun w _ => by rw [hG]; rfl

/-- The region's record at the valuation `V`. -/
def mkRegion [∀ e, Nonempty (Val e)] {p : P} (kit : PLaunchFacts (nD := nD) (τ := τ) pcs p) (V : Valuation τ sig Val)
    (hbody : ∀ c, (rdats p c).BodyObligation defs₀ 𝒱₀ ι Set.univ)
    (howed : ∀ c t, (rdats p c).owed t = 0) (hrec : ∀ c, (rdats p c).recorded 0 = Set.univ)
    (hshare : ∀ c w, (rdats p c).share w = fullShare)
    (hA : ∀ c w, (rdats p c).A w = V (Proc.devRef .tc (arrRef (pin pcs a p).spec w)))
    (hT : ∀ k, (a p).1 k = V (Proc.devRef .tc ((pcs p).pre.ref k)))
    (hin : ∀ c, iprop(prefHeld (pcs p).pre c (fun _ => fullShare) (a p).1 ∗ scopedRest (pin pcs a p).spec c) ⊢ (rdats p c).Φ 0)
    (hout : ∀ c, (rdats p c).Φ (Fin.last (pin pcs a p).N)
      ⊢ iprop(prefHeld (pcs p).pre c (fun _ => fullShare) (a p).1 ∗ scopedRest (pin pcs a p).spec c)) :
    RDat.RegionSeg pcs a rdats ι defs₀ 𝒱₀ L lv p where
  win := kit.to₀.win
  block_pos := kit.block_pos
  stage_whole := kit.stage_whole
  K := PEmpty
  osem k := k.elim
  ho := OwnSemFacts.none _
  hbody := hbody
  hwaits := RDat.hwaits_of_owed_zero pcs a rdats ι L lv p howed
  pre c := iprop(StableHlo.held (c.tc : Thread nD τ) (ucRefs τ sig) V ∗ idleOwes (τ := τ) c)
  post c := iprop(∃ V', ⌜Makes pcs a rdats p c V V'⌝ ∗ StableHlo.held (c.tc : Thread nD τ) (ucRefs τ sig) V' ∗ idleOwes (τ := τ) c)
  X c := iprop(emp)
  Y c := prefHeld (pcs p).pre c (fun _ => fullShare) (a p).1
  Z c := StableHlo.held (c.tc : Thread nD τ) ((ucRefs τ sig \ arrRefs (pcs p).spec) \ tblRefs (pcs p).pre) V
  hentry c := by
    rw [ownSems0_none, StableHlo.held_sub_split (c.tc : Thread nD τ) (arrRefs_sub_ucRefs (pcs p).spec kit.win.arr_unscoped) V,
      StableHlo.held_sub_split (c.tc : Thread nD τ) (tblRefs_sub_ucRefs_sdiff (pcs p).spec (pcs p).pre kit.pre.unscoped kit.pre.disj) V,
      arrays_held_rel pcs a rdats kit c (hshare c) (rdats p c).A V (hA c),
      prefHeld_held (pcs p).pre kit.pre.inj c (a p).1 V hT]
    iintro ⟨⟨⟨Ha, Ht, Hr⟩, HO⟩, -, -⟩
    imodintro
    isplitl [Ha]; · iexact Ha
    isplitl [Ht]; · iexact Ht
    isplitl [HO]
    · unfold RDat.owesAt owesWithin RDat.bound
      rw [howed c 0, hrec c]
      icases HO with ⟨%W, HO⟩; iexists W; isplitr; · ipureintro; exact fun _ _ => Or.inl trivial
      iexact HO
    isplitr; · iempintro
    iexact Hr
  hin c := (show _ ⊢ iprop(prefHeld (pcs p).pre c (fun _ => fullShare) (a p).1 ∗ scopedRest (pin pcs a p).spec c) from by
    iintro ⟨-, Hpf, Hr⟩
    isplitl [Hpf] <;> iassumption).trans (hin c)
  hout c := (hout c).trans (by
    rw [ownSems0_none]
    iintro ⟨Hpf, Hr⟩
    isplitl [Hpf]; · iexact Hpf
    isplitr; · iempintro
    iexact Hr)
  hexit c := by
    iintro ⟨Ha, HO, Hpf, HZ⟩
    ihave H := (arraysAt_exists (rdats p c) (pin pcs a p).N) $$ Ha
    icases H with ⟨%A, %hArr, Ha⟩
    imodintro
    have e1 : ∀ w, A w = setArrs (pcs p).spec A V (Proc.devRef .tc (arrRef (pin pcs a p).spec w)) := fun w =>
      (setArrs_arr (pcs p).spec A V kit.win.arr_inj w).symm
    have e2 : ∀ b, b ∉ arrRefs (τ := τ) (pcs p).spec → setArrs (pcs p).spec A V b = V b := fun b hb => setArrs_of_not (pcs p).spec A V hb
    have e3 : ∀ b ∈ (ucRefs τ sig \ arrRefs (pcs p).spec) \ tblRefs (pcs p).pre, V b = setArrs (pcs p).spec A V b := fun b hb =>
      (e2 b (Finset.mem_sdiff.mp (Finset.mem_sdiff.mp hb).1).2).symm
    have e4 : ∀ k, (a p).1 k = setArrs (pcs p).spec A V (Proc.devRef .tc ((pcs p).pre.ref k)) := fun k =>
      (hT k).trans (e2 _ (Finset.disjoint_left.mp (tblRefs_disjoint_arrRefs (pcs p).spec (pcs p).pre kit.pre.disj)
        (Finset.mem_map.mpr ⟨_, Finset.mem_image.mpr ⟨k, Finset.mem_univ k, rfl⟩, rfl⟩))).symm
    iexists setArrs (pcs p).spec A V
    isplitr
    · ipureintro
      exact ⟨fun w => by rw [← e1 w]; exact hArr w, e2⟩
    rw [StableHlo.held_sub_split (c.tc : Thread nD τ) (arrRefs_sub_ucRefs (pcs p).spec kit.win.arr_unscoped) (setArrs (pcs p).spec A V),
      StableHlo.held_sub_split (c.tc : Thread nD τ) (tblRefs_sub_ucRefs_sdiff (pcs p).spec (pcs p).pre kit.pre.unscoped kit.pre.disj) (setArrs (pcs p).spec A V),
      ← arrays_held_rel pcs a rdats kit c (hshare c) A _ e1,
      ← prefHeld_held (pcs p).pre kit.pre.inj c (a p).1 _ e4, ← StableHlo.held_congr (c.tc : Thread nD τ) e3]
    isplitr [HO]
    · isplitl [Ha]; · iexact Ha
      isplitl [Hpf] <;> iassumption
    unfold RDat.owesAt owesWithin
    rw [howed c (Fin.last _)]
    icases HO with ⟨%W, -, HO⟩; iexists W; iexact HO

include phinj in

/-- The region run under any continuation that accepts whatever the region makes of the valuation. -/
theorem wp_region [∀ e, Nonempty (Val e)] [Infinite Name] [EP.LandsIn (upEmb : UEmb _ 𝕄)]
    {p : P} (kit : PLaunchFacts (nD := nD) (τ := τ) pcs p) (V : Valuation τ sig Val)
    (hbody : ∀ c, (rdats p c).BodyObligation defs₀ 𝒱₀ ι Set.univ)
    (howed : ∀ c t, (rdats p c).owed t = 0) (hrec : ∀ c, (rdats p c).recorded 0 = Set.univ)
    (hshare : ∀ c w, (rdats p c).share w = fullShare)
    (hA : ∀ c w, (rdats p c).A w = V (Proc.devRef .tc (arrRef (pin pcs a p).spec w)))
    (hT : ∀ k, (a p).1 k = V (Proc.devRef .tc ((pcs p).pre.ref k)))
    (hin : ∀ c, iprop(prefHeld (pcs p).pre c (fun _ => fullShare) (a p).1 ∗ scopedRest (pin pcs a p).spec c) ⊢ (rdats p c).Φ 0)
    (hout : ∀ c, (rdats p c).Φ (Fin.last (pin pcs a p).N)
      ⊢ iprop(prefHeld (pcs p).pre c (fun _ => fullShare) (a p).1 ∗ scopedRest (pin pcs a p).spec c))
    (c : Dev nD) {α : Type} (k : PUnit → Prog (TpuEff nD τ sig Val (Sig Λ₀ P fun p => (pcs p).Adm) .tc) α) (Q : α → sProp 𝕄) :
    iprop((∀ V', ⌜Makes pcs a rdats p c V V'⌝ -∗ (boundary (c.tc : Thread nD τ)
            ∗ StableHlo.held (c.tc : Thread nD τ) (ucRefs τ sig) V' ∗ idleOwes (τ := τ) c)
          -∗ wp frame (wpE 𝔻 𝕍 (c.tc : Thread nD τ) none) Set.univ (k ⟨⟩) Q)
        ∗ boundary (c.tc : Thread nD τ) ∗ (StableHlo.held (c.tc : Thread nD τ) (ucRefs τ sig) V ∗ idleOwes (τ := τ) c) ∗ levAts L lv
        ∗ cellsGhost (pin pcs a) EP p c ∗ toksInit (pin pcs a) EP p c)
      ⊢ wp frame (wpE 𝔻 𝕍 (c.tc : Thread nD τ) none) Set.univ (.op (.customCall (entry p) ()) k) Q := by
  refine BIBase.Entails.trans ?_ (RDat.RegionSeg.wp pcs a rdats ι phinj EP defs₀ 𝒱₀ L lv
    (mkRegion pcs a rdats ι defs₀ 𝒱₀ L lv kit V hbody howed hrec hshare hA hT hin hout) c none (fun _ h => nomatch h) k Q)
  refine sep_mono ?_ .rfl
  show _ ⊢ iprop((boundary (c.tc : Thread nD τ) ∗ ∃ V', ⌜Makes pcs a rdats p c V V'⌝
    ∗ StableHlo.held (c.tc : Thread nD τ) (ucRefs τ sig) V' ∗ idleOwes (τ := τ) c) -∗ wp frame (wpE 𝔻 𝕍 (c.tc : Thread nD τ) none) Set.univ (k ⟨⟩) Q)
  iintro Hk ⟨Hb, ⟨%V', %hV, Hh, HO⟩⟩
  ispecialize Hk $$ %V' %hV
  iapply Hk
  isplitl [Hb]; · iexact Hb
  isplitl [Hh] <;> iassumption

end Region

end Cert.Own

end
-- ==== Proof.Ideal.Tile.lean ====
/-
  One row tile of a tail kernel: the running maximum `m`, the running sum `s` and the target logit `g` of 256 rows brought up to
  date at one block of columns. The six copies of this step in each tail kernel differ in their row offset and in the operations
  on the loaded values; the step is stated once over both.
-/
module

public import proofs.«01_k».proof.Proof.Gen.KernelIdeal.Skeleton
public import proofs.«01_k».proof.Proof.Own

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own

variable {F : FTy → Type} [FloatOps F]

/-- The contents of a tail kernel's three running buffers. -/
structure St (F : FTy → Type) where
  /-- the running maximum -/
  m : Vec F S2816x1 .f32
  /-- the running sum -/
  s : Vec F S2816x1 .f32
  /-- the target logit -/
  g : Vec F S2816x1 .f32

theorem inbT (j : ℕ) (h : j + 1 ≤ 11) : ∀ a, (![256 * j, 0] : Fin 2 → ℕ) a + S256x1.size a ≤ S2816x1.size a :=
  Fin.forall_fin_two.mpr ⟨by show 256 * j + 256 ≤ 2816; omega, Nat.le_refl _⟩

/-- The rows of tile `j` of a one-column buffer. -/
abbrev rT (j : ℕ) (h : j + 1 ≤ 11) : Rect S2816x1 := Rect.unit (s := S2816x1) ![256 * j, 0] S256x1.size (inbT j h)

/-- The operations of one tile on the values it loads: the hidden rows, the old maximum, the old sum, the targets, the old logit. -/
structure Pay (F : FTy → Type) (s2 : Shape) where
  pS : (s2.Idx → Elt F .bf16) → Vec F S256x1 .f32 → Vec F S256x1 .f32 → Vec F S256x1 .f32
  pM : (s2.Idx → Elt F .bf16) → Vec F S256x1 .f32 → Vec F S256x1 .f32
  pT : (s2.Idx → Elt F .bf16) → Vec F S256x1 .i32 → Vec F S256x1 .f32 → Vec F S256x1 .f32

/-- Whether tile `j` holds a row of the cluster whose rows start at `off` and are `cnt` many. -/
abbrev act (off cnt : BitVec 32) (lo hi : BitVec 32) : BitVec 1 :=
  Scalar.cmpi .ne (Scalar.extui (Scalar.andi (Scalar.cmpi .sgt (Scalar.addi off cnt) lo) (Scalar.cmpi .slt off hi)) : BitVec 32) 0#32

/-- The three running buffers after tile `j`. -/
def tile {d : ℕ} (r2 : Rect (⟨2, ![2816, d]⟩ : Shape)) (P : Pay F r2.shape) (X2 : Vec F (⟨2, ![2816, d]⟩ : Shape) .bf16) (X4 : Vec F S2816x1 .i32)
    (j : ℕ) (h : j + 1 ≤ 11) (st : St F) : St F where
  m := put (rT j h) st.m (P.pM (get r2 X2) (get (rT j h) st.m))
  s := put (rT j h) st.s (P.pS (get r2 X2) (get (rT j h) st.m) (get (rT j h) st.s))
  g := put (rT j h) st.g (P.pT (get r2 X2) (get (rT j h) X4) (get (rT j h) st.g))

/-- The operations of tile `j`, then `k`. -/
def tileProg {d : ℕ} (M2 : Memref sig .tc .vmem (⟨2, ![2816, d]⟩ : Shape) .bf16) (M4 : Memref sig .tc .vmem S2816x1 .i32)
    (M6 M7 M8 : Memref sig .tc .vmem S2816x1 .f32) (r2 : Rect (⟨2, ![2816, d]⟩ : Shape)) (hl2 : M2.view.LoadsAt r2.toLoadRect) (P : Pay F r2.shape)
    (j : ℕ) (h : j + 1 ≤ 11) {α : Type} (k : PUnit.{1} → Prog (TpuEff nD τ sig (Elt F) Λ₀ .tc) α) : Prog (TpuEff nD τ sig (Elt F) Λ₀ .tc) α :=
  .op (.load M2 r2.toLoadRect hl2) fun v79 =>
  .op (.load M6 (rT j h).toLoadRect (View.loadsAt_vmem h_S256x1)) fun v88 =>
  .op (.load M7 (rT j h).toLoadRect (View.loadsAt_vmem h_S256x1)) fun v90 =>
  .op (.load M7 (rT j h).toLoadRect (View.loadsAt_vmem h_S256x1)) fun _ =>
  .op (.store M7 (rT j h) (P.pS v79 v88 v90) Finset.univ (View.stores_vmem_bits_univ h_S256x1 rfl) (.inl rfl)) fun _ =>
  .op (.load M6 (rT j h).toLoadRect (View.loadsAt_vmem h_S256x1)) fun _ =>
  .op (.store M6 (rT j h) (P.pM v79 v88) Finset.univ (View.stores_vmem_bits_univ h_S256x1 rfl) (.inl rfl)) fun _ =>
  .op (.load M4 (rT j h).toLoadRect (View.loadsAt_vmem h_S256x1)) fun v106 =>
  .op (.load M8 (rT j h).toLoadRect (View.loadsAt_vmem h_S256x1)) fun v114 =>
  .op (.load M8 (rT j h).toLoadRect (View.loadsAt_vmem h_S256x1)) fun _ =>
  .op (.store M8 (rT j h) (P.pT v79 v106 v114) Finset.univ (View.stores_vmem_bits_univ h_S256x1 rfl) (.inl rfl)) k

theorem inbW (d j : ℕ) (h : j + 1 ≤ 11) : ∀ a, (![256 * j, 0] : Fin 2 → ℕ) a + (⟨2, ![256, d]⟩ : Shape).size a ≤ (⟨2, ![2816, d]⟩ : Shape).size a :=
  Fin.forall_fin_two.mpr ⟨by show 256 * j + 256 ≤ 2816; omega, by show 0 + d ≤ d; omega⟩

/-- The rows of tile `j` of the table of hidden rows. -/
abbrev rW (d j : ℕ) (h : j + 1 ≤ 11) : Rect (⟨2, ![2816, d]⟩ : Shape) :=
  Rect.unit (s := (⟨2, ![2816, d]⟩ : Shape)) ![256 * j, 0] (⟨2, ![256, d]⟩ : Shape).size (inbW d j h)

/-- The running buffers after the `n` tiles from tile `j` on. -/
def tiles {d : ℕ} (P : Pay F ⟨2, ![256, d]⟩) (X2 : Vec F (⟨2, ![2816, d]⟩ : Shape) .bf16)
    (X4 : Vec F S2816x1 .i32) (off cnt : BitVec 32) : (n j : ℕ) → n + j ≤ 11 → St F → St F
  | 0, _, _, st => st
  | n + 1, j, h, st => tiles P X2 X4 off cnt n (j + 1) (by omega)
      (if act off cnt (BitVec.ofNat 32 (256 * j)) (BitVec.ofNat 32 (256 * (j + 1))) = 1#1 then tile (rW d j (by omega)) P X2 X4 j (by omega) st else st)

/-- The operations of the `n` tiles from tile `j` on, each under its condition, then `k`. -/
def tilesProg {d : ℕ} (M2 : Memref sig .tc .vmem (⟨2, ![2816, d]⟩ : Shape) .bf16) (M4 : Memref sig .tc .vmem S2816x1 .i32)
    (M6 M7 M8 : Memref sig .tc .vmem S2816x1 .f32) (hl2 : ∀ j h, M2.view.LoadsAt (rW d j h).toLoadRect)
    (P : Pay F ⟨2, ![256, d]⟩) (off cnt : BitVec 32) {α : Type} (k : PUnit.{1} → Prog (TpuEff nD τ sig (Elt F) Λ₀ .tc) α) :
    (n j : ℕ) → n + j ≤ 11 → Prog (TpuEff nD τ sig (Elt F) Λ₀ .tc) α
  | 0, _, _ => k ⟨⟩
  | n + 1, j, h =>
    if act off cnt (BitVec.ofNat 32 (256 * j)) (BitVec.ofNat 32 (256 * (j + 1))) = 1#1 then
      tileProg M2 M4 M6 M7 M8 (rW d j (by omega)) (hl2 j (by omega)) P j (by omega) fun _ => tilesProg M2 M4 M6 M7 M8 hl2 P off cnt k n (j + 1) (by omega)
    else tilesProg M2 M4 M6 M7 M8 hl2 P off cnt k n (j + 1) (by omega)

section Rules

variable {Ix : Type} [DecidableEq Ix] {U : Type} [URA U] {Lvl : Type} [Preorder Lvl]

local notation "𝕄" => MT nD τ sig Ix (Elt F) ℕ U Lvl

/-- The buffers a tile works on. -/
def tbufs (c : Dev nD) {d : ℕ} (M2 : Memref sig .tc .vmem (⟨2, ![2816, d]⟩ : Shape) .bf16) (M4 : Memref sig .tc .vmem S2816x1 .i32)
    (M6 M7 M8 : Memref sig .tc .vmem S2816x1 .f32) (X2 : Vec F (⟨2, ![2816, d]⟩ : Shape) .bf16) (X4 : Vec F S2816x1 .i32) (st : St F) : sProp 𝕄 :=
  iprop(owns (c : Thread nD τ) M2 fullShare X2 ∗ owns (c : Thread nD τ) M4 fullShare X4 ∗ owns (c : Thread nD τ) M6 fullShare st.m
    ∗ owns (c : Thread nD τ) M7 fullShare st.s ∗ owns (c : Thread nD τ) M8 fullShare st.g)

variable (𝒱 : Variants) (c : Dev nD) (E : Set ℕ)

/-- One tile, run. -/
theorem tile_wp {d : ℕ} {α : Type} {M2 : Memref sig .tc .vmem (⟨2, ![2816, d]⟩ : Shape) .bf16} {M4 : Memref sig .tc .vmem S2816x1 .i32}
    {M6 M7 M8 : Memref sig .tc .vmem S2816x1 .f32} (r2 : Rect (⟨2, ![2816, d]⟩ : Shape)) (hl2 : M2.view.LoadsAt r2.toLoadRect) (P : Pay F r2.shape)
    (j : ℕ) (h : j + 1 ≤ 11) (k : PUnit.{1} → Prog (TpuEff nD τ sig (Elt F) Λ₀ .tc) α)
    (X2 : Vec F (⟨2, ![2816, d]⟩ : Shape) .bf16) (X4 : Vec F S2816x1 .i32) (st : St F) {Q : α → sProp 𝕄} :
    (tbufs c M2 M4 M6 M7 M8 X2 X4 st : sProp 𝕄)
      ⊢ iprop((tbufs c M2 M4 M6 M7 M8 X2 X4 (tile r2 P X2 X4 j h st) -∗ wp frame (wpE (defs₀ (F := F)) 𝒱 (c : Thread nD τ) none) E (k ⟨⟩) Q)
        -∗ wp frame (wpE (defs₀ (F := F)) 𝒱 (c : Thread nD τ) none) E (tileProg M2 M4 M6 M7 M8 r2 hl2 P j h k) Q) := by
  unfold tbufs tileProg
  iintro ⟨H2, H4, H6, H7, H8⟩ Hk
  iapply (load 𝒱 c E (m := M2) (r := r2)) $$ H2
  iintro H2
  iapply (load 𝒱 c E (m := M6) (r := rT j h)) $$ H6
  iintro H6
  iapply (load 𝒱 c E (m := M7) (r := rT j h)) $$ H7
  iintro H7
  iapply (load 𝒱 c E (m := M7) (r := rT j h)) $$ H7
  iintro H7
  iapply (store 𝒱 c E (m := M7) (r := rT j h)) $$ H7
  iintro H7
  iapply (load 𝒱 c E (m := M6) (r := rT j h)) $$ H6
  iintro H6
  iapply (store 𝒱 c E (m := M6) (r := rT j h)) $$ H6
  iintro H6
  iapply (load 𝒱 c E (m := M4) (r := rT j h)) $$ H4
  iintro H4
  iapply (load 𝒱 c E (m := M8) (r := rT j h)) $$ H8
  iintro H8
  iapply (load 𝒱 c E (m := M8) (r := rT j h)) $$ H8
  iintro H8
  iapply (store 𝒱 c E (m := M8) (r := rT j h)) $$ H8
  iintro H8
  iapply Hk
  isplitl [H2]; · iexact H2
  isplitl [H4]; · iexact H4
  isplitl [H6]; · iexact H6
  isplitl [H7]; · iexact H7
  iexact H8

/-- A tile under its condition, run: with the condition false the buffers stay. -/
theorem ctile_wp {d : ℕ} {α : Type} {M2 : Memref sig .tc .vmem (⟨2, ![2816, d]⟩ : Shape) .bf16} {M4 : Memref sig .tc .vmem S2816x1 .i32}
    {M6 M7 M8 : Memref sig .tc .vmem S2816x1 .f32} (r2 : Rect (⟨2, ![2816, d]⟩ : Shape)) (hl2 : M2.view.LoadsAt r2.toLoadRect) (P : Pay F r2.shape)
    (j : ℕ) (h : j + 1 ≤ 11) (b : BitVec 1) (k : PUnit.{1} → Prog (TpuEff nD τ sig (Elt F) Λ₀ .tc) α)
    (X2 : Vec F (⟨2, ![2816, d]⟩ : Shape) .bf16) (X4 : Vec F S2816x1 .i32) (st : St F) {Q : α → sProp 𝕄} :
    (tbufs c M2 M4 M6 M7 M8 X2 X4 st : sProp 𝕄)
      ⊢ iprop((tbufs c M2 M4 M6 M7 M8 X2 X4 (if b = 1#1 then tile r2 P X2 X4 j h st else st)
            -∗ wp frame (wpE (defs₀ (F := F)) 𝒱 (c : Thread nD τ) none) E (k ⟨⟩) Q)
        -∗ wp frame (wpE (defs₀ (F := F)) 𝒱 (c : Thread nD τ) none) E (if b = 1#1 then tileProg M2 M4 M6 M7 M8 r2 hl2 P j h k else k ⟨⟩) Q) := by
  by_cases hb : b = 1#1
  · rw [if_pos hb, if_pos hb]; exact tile_wp 𝒱 c E r2 hl2 P j h k X2 X4 st
  · rw [if_neg hb, if_neg hb]
    iintro H Hk
    iapply Hk $$ H

/-- A run of tiles. -/
theorem tiles_wp {d : ℕ} {α : Type} {M2 : Memref sig .tc .vmem (⟨2, ![2816, d]⟩ : Shape) .bf16} {M4 : Memref sig .tc .vmem S2816x1 .i32}
    {M6 M7 M8 : Memref sig .tc .vmem S2816x1 .f32} (hl2 : ∀ j h, M2.view.LoadsAt (rW d j h).toLoadRect)
    (P : Pay F ⟨2, ![256, d]⟩) (off cnt : BitVec 32) (k : PUnit.{1} → Prog (TpuEff nD τ sig (Elt F) Λ₀ .tc) α)
    (X2 : Vec F (⟨2, ![2816, d]⟩ : Shape) .bf16) (X4 : Vec F S2816x1 .i32) {Q : α → sProp 𝕄} : ∀ (n j : ℕ) (h : n + j ≤ 11) (st : St F),
    (tbufs c M2 M4 M6 M7 M8 X2 X4 st : sProp 𝕄)
      ⊢ iprop((tbufs c M2 M4 M6 M7 M8 X2 X4 (tiles P X2 X4 off cnt n j h st)
            -∗ wp frame (wpE (defs₀ (F := F)) 𝒱 (c : Thread nD τ) none) E (k ⟨⟩) Q)
        -∗ wp frame (wpE (defs₀ (F := F)) 𝒱 (c : Thread nD τ) none) E (tilesProg M2 M4 M6 M7 M8 hl2 P off cnt k n j h) Q)
  | 0, _, _, st => by
    rw [tilesProg, tiles]
    iintro H Hk
    iapply Hk $$ H
  | n + 1, j, h, st => by
    rw [tilesProg, tiles]
    iintro H Hk
    have h1 : j + 1 ≤ 11 := by omega
    have h2 : n + (j + 1) ≤ 11 := by omega
    iapply (ctile_wp 𝒱 c E (rW d j h1) (hl2 j h1) P j h1 _ (fun _ => tilesProg M2 M4 M6 M7 M8 hl2 P off cnt k n (j + 1) h2)) $$ H
    iintro H
    ihave H' := (tiles_wp hl2 P off cnt k X2 X4 n (j + 1) h2 _) $$ H
    iapply H' $$ Hk

end Rules

end Cert.KernelIdeal.Pf

end
-- ==== Proof.Ideal.TailBody.lean ====
/-
  The body of a tail kernel, stated once over the three: at the first block of columns the running buffers start; every block brings
  the tiles that hold rows of the cluster up to date; the last block masks the columns past the vocabulary and then writes the
  rows' log-probabilities.
-/
module

public import proofs.«01_k».proof.Proof.Ideal.Tile

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own

variable {F : FTy → Type} [FloatOps F]

/-- What one tail kernel fills the pattern with. -/
structure Tail (F : FTy → Type) (d : ℕ) where
  /-- the block of weights, cast -/
  cast : Vec F (⟨2, ![2048, d]⟩ : Shape) .f32 → FVec F (⟨2, ![2048, d]⟩ : Shape) .bf16
  /-- the block of weights as the last point casts it -/
  castL : Vec F (⟨2, ![2048, d]⟩ : Shape) .f32 → FVec F (⟨2, ![2048, d]⟩ : Shape) .bf16
  /-- a tile at a full block -/
  pU : BitVec 32 → FVec F (⟨2, ![2048, d]⟩ : Shape) .bf16 → Pay F ⟨2, ![256, d]⟩
  /-- a tile at the last block -/
  pL : BitVec 32 → FVec F (⟨2, ![2048, d]⟩ : Shape) .bf16 → Pay F ⟨2, ![256, d]⟩
  /-- the running buffers at the start -/
  init : St F
  /-- what is written at the end -/
  outE : IVec S2816x1 1 → IVec S2816x1 1 → Vec F S2816x1 .f32 → Vec F S2816x1 .f32 → Vec F S2816x1 .f32 → Vec F S2816x1 .f32
  /-- the rows from the cluster's first on -/
  ge : BitVec 32 → IVec S2816x1 1
  /-- the rows before the cluster's end -/
  lt : BitVec 32 → BitVec 32 → IVec S2816x1 1

/-- What a tail kernel writes at the end. -/
def Tail.out {d : ℕ} (T : Tail F d) (off cnt : BitVec 32) (st : St F) : Vec F S2816x1 .f32 :=
  T.outE (T.ge off) (T.lt off cnt) st.g st.m st.s

variable {d : ℕ}

/-- The whole of a one-column buffer. -/
abbrev rC : Rect S2816x1 := Rect.unit (s := S2816x1) ![0, 0] S2816x1.size inb_S2816x1_S2816x1_0_0

theorem inbD (d : ℕ) : ∀ a, (![0, 0] : Fin 2 → ℕ) a + (⟨2, ![2048, d]⟩ : Shape).size a ≤ (⟨2, ![2048, d]⟩ : Shape).size a :=
  Fin.forall_fin_two.mpr ⟨by show 0 + 2048 ≤ 2048; omega, by show 0 + d ≤ d; omega⟩

/-- The whole of a block of weights. -/
abbrev rD (d : ℕ) : Rect (⟨2, ![2048, d]⟩ : Shape) := Rect.unit (s := ⟨2, ![2048, d]⟩) ![0, 0] (⟨2, ![2048, d]⟩ : Shape).size (inbD d)

/-- The operations of the first five tiles after the load of the weights; they return the cast weights and the sixth tile's condition. -/
def firstProg (M2 : Memref sig .tc .vmem (⟨2, ![2816, d]⟩ : Shape) .bf16) (M3 : Memref sig .tc .vmem (⟨2, ![2048, d]⟩ : Shape) .f32)
    (M4 : Memref sig .tc .vmem S2816x1 .i32) (M6 M7 M8 : Memref sig .tc .vmem S2816x1 .f32)
    (hl2 : ∀ j h, M2.view.LoadsAt (rW d j h).toLoadRect) (hl3 : M3.view.LoadsAt (rD d).toLoadRect)
    (cast : Vec F (⟨2, ![2048, d]⟩ : Shape) .f32 → FVec F (⟨2, ![2048, d]⟩ : Shape) .bf16)
    (P : FVec F (⟨2, ![2048, d]⟩ : Shape) .bf16 → Pay F ⟨2, ![256, d]⟩) (off cnt : BitVec 32) :
    Prog (TpuEff nD τ sig (Elt F) Λ₀ .tc) (Σ' (_ : FVec F (⟨2, ![2048, d]⟩ : Shape) .bf16), BitVec 1) :=
  .op (.load M3 (rD d).toLoadRect hl3) fun v11 =>
    tilesProg M2 M4 M6 M7 M8 hl2 (P (cast v11)) off cnt
      (fun _ => pure ⟨cast v11, Scalar.andi (Scalar.cmpi .sgt (Scalar.addi off cnt) 1280#32) (Scalar.cmpi .slt off 1536#32)⟩) 5 0 (by omega)

/-- The operations of the last six tiles, then `k`. -/
def restProg (M2 : Memref sig .tc .vmem (⟨2, ![2816, d]⟩ : Shape) .bf16)
    (M4 : Memref sig .tc .vmem S2816x1 .i32) (M6 M7 M8 : Memref sig .tc .vmem S2816x1 .f32)
    (hl2 : ∀ j h, M2.view.LoadsAt (rW d j h).toLoadRect) (P : Pay F ⟨2, ![256, d]⟩) (off cnt : BitVec 32) (b : BitVec 1)
    {α : Type} (k : PUnit.{1} → Prog (TpuEff nD τ sig (Elt F) Λ₀ .tc) α) : Prog (TpuEff nD τ sig (Elt F) Λ₀ .tc) α :=
  if Scalar.cmpi .ne (Scalar.extui b : BitVec 32) 0#32 = 1#1 then
    tileProg M2 M4 M6 M7 M8 (rW d 5 (by omega)) (hl2 5 (by omega)) P 5 (by omega) fun _ => tilesProg M2 M4 M6 M7 M8 hl2 P off cnt k 5 6 (by omega)
  else tilesProg M2 M4 M6 M7 M8 hl2 P off cnt k 5 6 (by omega)

/-- The operations from the last block's on: nothing at the other blocks. -/
def lastProg (M2 : Memref sig .tc .vmem (⟨2, ![2816, d]⟩ : Shape) .bf16) (M3 : Memref sig .tc .vmem (⟨2, ![2048, d]⟩ : Shape) .f32)
    (M4 : Memref sig .tc .vmem S2816x1 .i32) (M5 M6 M7 M8 : Memref sig .tc .vmem S2816x1 .f32)
    (hl2 : ∀ j h, M2.view.LoadsAt (rW d j h).toLoadRect) (hl3 : M3.view.LoadsAt (rD d).toLoadRect) (T : Tail F d) (arg0 : BitVec 32)
    (c3 : BitVec 1) (off cnt : BitVec 32) :
    Prog (TpuEff nD τ sig (Elt F) Λ₀ .tc) PUnit.{1} :=
  if _h : c3 = 1#1 then
    firstProg M2 M3 M4 M6 M7 M8 hl2 hl3 T.castL (T.pL arg0) off cnt >>= fun x =>
      (restProg M2 M4 M6 M7 M8 hl2 (T.pL arg0 x.1) off cnt x.2 (fun _ => pure ⟨T.ge off, T.lt off cnt⟩) :
        Prog (TpuEff nD τ sig (Elt F) Λ₀ .tc) (Σ' (_ : IVec S2816x1 1), IVec S2816x1 1)) >>= fun y =>
      .op (.load M8 rC.toLoadRect (View.loadsAt_vmem h_S2816x1)) fun v86 =>
      .op (.load M6 rC.toLoadRect (View.loadsAt_vmem h_S2816x1)) fun v87 =>
      .op (.load M7 rC.toLoadRect (View.loadsAt_vmem h_S2816x1)) fun v89 =>
      .op (.load M5 rC.toLoadRect (View.loadsAt_vmem h_S2816x1)) fun _ =>
      .op (.store M5 rC (T.outE y.1 y.2 v86 v87 v89) Finset.univ (View.stores_vmem_bits_univ h_S2816x1 rfl) (.inl rfl)) fun _ => pure ⟨⟩
  else pure ⟨⟩

/-- The operations from the second condition on. -/
def midProg (M2 : Memref sig .tc .vmem (⟨2, ![2816, d]⟩ : Shape) .bf16) (M3 : Memref sig .tc .vmem (⟨2, ![2048, d]⟩ : Shape) .f32)
    (M4 : Memref sig .tc .vmem S2816x1 .i32) (M6 M7 M8 : Memref sig .tc .vmem S2816x1 .f32)
    (hl2 : ∀ j h, M2.view.LoadsAt (rW d j h).toLoadRect) (hl3 : M3.view.LoadsAt (rD d).toLoadRect) (T : Tail F d) (arg0 : BitVec 32)
    (c2 : BitVec 1) (off cnt : BitVec 32) (k : PUnit.{1} → Prog (TpuEff nD τ sig (Elt F) Λ₀ .tc) PUnit.{1}) :
    Prog (TpuEff nD τ sig (Elt F) Λ₀ .tc) PUnit.{1} :=
  if _h : c2 = 1#1 then
    firstProg M2 M3 M4 M6 M7 M8 hl2 hl3 T.cast (T.pU arg0) off cnt >>= fun x => restProg M2 M4 M6 M7 M8 hl2 (T.pU arg0 x.1) off cnt x.2 k
  else k ⟨⟩

/-- The two words of the table. -/
abbrev rO (j : ℕ) (h : j < 2) : Rect S2 := Rect.unit (s := S2) ![j] S1.size
  (fun a => by rw [Fin.fin_one_eq_zero a]; show j + 1 ≤ 2; omega)

/-- Word `j` of a table. -/
def word (X : Vec F S2 .i32) (j : ℕ) (h : j < 2) : BitVec 32 := get (rO j h) X (Shape.Idx.first (numel1_S1.symm ▸ Nat.one_pos))

/-- A condition as a kernel tests it. -/
abbrev bit (b : BitVec 1) : BitVec 1 := Scalar.cmpi .ne (Scalar.extui b : BitVec 32) 0#32

/-- The operations of a tail kernel at one point. -/
def tailProg (M1 : Memref sig .tc .smem S2 .i32) (M2 : Memref sig .tc .vmem (⟨2, ![2816, d]⟩ : Shape) .bf16)
    (M3 : Memref sig .tc .vmem (⟨2, ![2048, d]⟩ : Shape) .f32)
    (M4 : Memref sig .tc .vmem S2816x1 .i32) (M5 M6 M7 M8 : Memref sig .tc .vmem S2816x1 .f32)
    (hl2 : ∀ j h, M2.view.LoadsAt (rW d j h).toLoadRect) (hl3 : M3.view.LoadsAt (rD d).toLoadRect) (T : Tail F d) (arg0 : BitVec 32)
    (nL : BitVec 32) :
    Prog (TpuEff nD τ sig (Elt F) Λ₀ .tc) PUnit.{1} :=
  smemLoad M1 (rO 0 (by omega)) numel1_S1 rfl >>= fun off => smemLoad M1 (rO 1 (by omega)) numel1_S1 rfl >>= fun cnt =>
  if _h : bit (Scalar.cmpi .eq arg0 0#32) = 1#1 then
    .op (.load M6 rC.toLoadRect (View.loadsAt_vmem h_S2816x1)) fun _ =>
    .op (.store M6 rC T.init.m Finset.univ (View.stores_vmem_bits_univ h_S2816x1 rfl) (.inl rfl)) fun _ =>
    .op (.load M7 rC.toLoadRect (View.loadsAt_vmem h_S2816x1)) fun _ =>
    .op (.store M7 rC T.init.s Finset.univ (View.stores_vmem_bits_univ h_S2816x1 rfl) (.inl rfl)) fun _ =>
    .op (.load M8 rC.toLoadRect (View.loadsAt_vmem h_S2816x1)) fun _ =>
    .op (.store M8 rC T.init.g Finset.univ (View.stores_vmem_bits_univ h_S2816x1 rfl) (.inl rfl)) fun _ =>
    midProg M2 M3 M4 M6 M7 M8 hl2 hl3 T arg0 (bit (Scalar.cmpi .slt arg0 nL)) off cnt fun _ => lastProg M2 M3 M4 M5 M6 M7 M8 hl2 hl3 T arg0 (bit (Scalar.cmpi .eq arg0 nL)) off cnt
  else midProg M2 M3 M4 M6 M7 M8 hl2 hl3 T arg0 (bit (Scalar.cmpi .slt arg0 nL)) off cnt fun _ => lastProg M2 M3 M4 M5 M6 M7 M8 hl2 hl3 T arg0 (bit (Scalar.cmpi .eq arg0 nL)) off cnt

/-- The running buffers after a tail kernel's point. -/
def Tail.step (T : Tail F d) (arg0 nL off cnt : BitVec 32) (X2 : Vec F (⟨2, ![2816, d]⟩ : Shape) .bf16)
    (X3 : Vec F (⟨2, ![2048, d]⟩ : Shape) .f32) (X4 : Vec F S2816x1 .i32) (st : St F) : St F :=
  let st0 := if bit (Scalar.cmpi .eq arg0 0#32) = 1#1 then T.init else st
  let st1 := if bit (Scalar.cmpi .slt arg0 nL) = 1#1 then tiles (T.pU arg0 (T.cast X3)) X2 X4 off cnt 11 0 (by omega) st0 else st0
  if bit (Scalar.cmpi .eq arg0 nL) = 1#1 then tiles (T.pL arg0 (T.castL X3)) X2 X4 off cnt 11 0 (by omega) st1 else st1

section Rules

variable {Ix : Type} [DecidableEq Ix] {U : Type} [URA U] {Lvl : Type} [Preorder Lvl]

local notation "𝕄" => MT nD τ sig Ix (Elt F) ℕ U Lvl

variable (𝒱 : Variants) (c : Dev nD) (E : Set ℕ)

theorem firstProg_wp {M2 : Memref sig .tc .vmem (⟨2, ![2816, d]⟩ : Shape) .bf16} {M3 : Memref sig .tc .vmem (⟨2, ![2048, d]⟩ : Shape) .f32}
    {M4 : Memref sig .tc .vmem S2816x1 .i32} {M6 M7 M8 : Memref sig .tc .vmem S2816x1 .f32}
    (hl2 : ∀ j h, M2.view.LoadsAt (rW d j h).toLoadRect) (hl3 : M3.view.LoadsAt (rD d).toLoadRect)
    (cast : Vec F (⟨2, ![2048, d]⟩ : Shape) .f32 → FVec F (⟨2, ![2048, d]⟩ : Shape) .bf16)
    (P : FVec F (⟨2, ![2048, d]⟩ : Shape) .bf16 → Pay F ⟨2, ![256, d]⟩) (off cnt : BitVec 32)
    (X2 : Vec F (⟨2, ![2816, d]⟩ : Shape) .bf16) (X3 : Vec F (⟨2, ![2048, d]⟩ : Shape) .f32) (X4 : Vec F S2816x1 .i32) (st : St F)
    {Q : (Σ' (_ : FVec F (⟨2, ![2048, d]⟩ : Shape) .bf16), BitVec 1) → sProp 𝕄} :
    iprop(tbufs c M2 M4 M6 M7 M8 X2 X4 st ∗ owns (c : Thread nD τ) M3 fullShare X3)
      ⊢ iprop((tbufs c M2 M4 M6 M7 M8 X2 X4 (tiles (P (cast X3)) X2 X4 off cnt 5 0 (by omega) st) -∗ owns (c : Thread nD τ) M3 fullShare X3
          -∗ Q ⟨cast X3, Scalar.andi (Scalar.cmpi .sgt (Scalar.addi off cnt) 1280#32) (Scalar.cmpi .slt off 1536#32)⟩)
        -∗ wp frame (wpE (defs₀ (F := F)) 𝒱 (c : Thread nD τ) none) E (firstProg M2 M3 M4 M6 M7 M8 hl2 hl3 cast P off cnt) Q) := by
  unfold firstProg
  iintro ⟨H, H3⟩ Hk
  iapply (load 𝒱 c E (m := M3) (r := rD d)) $$ H3
  iintro H3
  rw [get_unit]
  have h5 : 5 + 0 ≤ 11 := by omega
  iapply (tiles_wp 𝒱 c E hl2 (P (cast X3)) off cnt _ X2 X4 5 0 h5 st) $$ H
  iintro H
  rw [wp_pure]
  imodintro
  iapply Hk $$ H H3

theorem restProg_wp {α : Type} {M2 : Memref sig .tc .vmem (⟨2, ![2816, d]⟩ : Shape) .bf16}
    {M4 : Memref sig .tc .vmem S2816x1 .i32} {M6 M7 M8 : Memref sig .tc .vmem S2816x1 .f32}
    (hl2 : ∀ j h, M2.view.LoadsAt (rW d j h).toLoadRect)
    (P : Pay F ⟨2, ![256, d]⟩) (off cnt : BitVec 32) (k : PUnit.{1} → Prog (TpuEff nD τ sig (Elt F) Λ₀ .tc) α)
    (X2 : Vec F (⟨2, ![2816, d]⟩ : Shape) .bf16) (X4 : Vec F S2816x1 .i32) (st : St F) {Q : α → sProp 𝕄} :
    (tbufs c M2 M4 M6 M7 M8 X2 X4 (tiles P X2 X4 off cnt 5 0 (by omega) st) : sProp 𝕄)
      ⊢ iprop((tbufs c M2 M4 M6 M7 M8 X2 X4 (tiles P X2 X4 off cnt 11 0 (by omega) st)
          -∗ wp frame (wpE (defs₀ (F := F)) 𝒱 (c : Thread nD τ) none) E (k ⟨⟩) Q)
        -∗ wp frame (wpE (defs₀ (F := F)) 𝒱 (c : Thread nD τ) none) E (restProg M2 M4 M6 M7 M8 hl2 P off cnt
            (Scalar.andi (Scalar.cmpi .sgt (Scalar.addi off cnt) 1280#32) (Scalar.cmpi .slt off 1536#32)) k) Q) :=
  tiles_wp 𝒱 c E hl2 P off cnt k X2 X4 6 5 (by omega) (tiles P X2 X4 off cnt 5 0 (by omega) st)

theorem midProg_wp {M2 : Memref sig .tc .vmem (⟨2, ![2816, d]⟩ : Shape) .bf16} {M3 : Memref sig .tc .vmem (⟨2, ![2048, d]⟩ : Shape) .f32}
    {M4 : Memref sig .tc .vmem S2816x1 .i32} {M6 M7 M8 : Memref sig .tc .vmem S2816x1 .f32}
    (hl2 : ∀ j h, M2.view.LoadsAt (rW d j h).toLoadRect) (hl3 : M3.view.LoadsAt (rD d).toLoadRect) (T : Tail F d) (arg0 : BitVec 32)
    (c2 off cnt : BitVec _) (k : PUnit.{1} → Prog (TpuEff nD τ sig (Elt F) Λ₀ .tc) PUnit.{1})
    (X2 : Vec F (⟨2, ![2816, d]⟩ : Shape) .bf16) (X3 : Vec F (⟨2, ![2048, d]⟩ : Shape) .f32) (X4 : Vec F S2816x1 .i32) (st : St F)
    {Q : PUnit.{1} → sProp 𝕄} :
    iprop(tbufs c M2 M4 M6 M7 M8 X2 X4 st ∗ owns (c : Thread nD τ) M3 fullShare X3)
      ⊢ iprop((tbufs c M2 M4 M6 M7 M8 X2 X4
            (if c2 = 1#1 then tiles (T.pU arg0 (T.cast X3)) X2 X4 off cnt 11 0 (by omega) st else st)
          -∗ owns (c : Thread nD τ) M3 fullShare X3 -∗ wp frame (wpE (defs₀ (F := F)) 𝒱 (c : Thread nD τ) none) E (k ⟨⟩) Q)
        -∗ wp frame (wpE (defs₀ (F := F)) 𝒱 (c : Thread nD τ) none) E (midProg M2 M3 M4 M6 M7 M8 hl2 hl3 T arg0 c2 off cnt k) Q) := by
  unfold midProg
  by_cases h : c2 = 1#1
  · rw [dif_pos h, if_pos h, wp_bind]
    iintro H Hk
    iapply (firstProg_wp 𝒱 c E hl2 hl3 T.cast (T.pU arg0) off cnt X2 X3 X4 st) $$ H
    iintro H H3
    iapply (restProg_wp 𝒱 c E hl2 (T.pU arg0 (T.cast X3)) off cnt k X2 X4 st) $$ H
    iintro H
    iapply Hk $$ H H3
  · rw [dif_neg h, if_neg h]
    iintro ⟨H, H3⟩ Hk
    iapply Hk $$ H H3

theorem lastProg_wp {M2 : Memref sig .tc .vmem (⟨2, ![2816, d]⟩ : Shape) .bf16} {M3 : Memref sig .tc .vmem (⟨2, ![2048, d]⟩ : Shape) .f32}
    {M4 : Memref sig .tc .vmem S2816x1 .i32} {M5 M6 M7 M8 : Memref sig .tc .vmem S2816x1 .f32}
    (hl2 : ∀ j h, M2.view.LoadsAt (rW d j h).toLoadRect) (hl3 : M3.view.LoadsAt (rD d).toLoadRect) (T : Tail F d) (arg0 : BitVec 32)
    (c3 off cnt : BitVec _)
    (X2 : Vec F (⟨2, ![2816, d]⟩ : Shape) .bf16) (X3 : Vec F (⟨2, ![2048, d]⟩ : Shape) .f32) (X4 : Vec F S2816x1 .i32)
    (X5 : Vec F S2816x1 .f32) (st st' : St F)
    (hst : st' = if c3 = 1#1 then tiles (T.pL arg0 (T.castL X3)) X2 X4 off cnt 11 0 (by omega) st else st)
    {Q : PUnit.{1} → sProp 𝕄} :
    iprop(tbufs c M2 M4 M6 M7 M8 X2 X4 st ∗ owns (c : Thread nD τ) M3 fullShare X3 ∗ owns (c : Thread nD τ) M5 fullShare X5)
      ⊢ iprop((tbufs c M2 M4 M6 M7 M8 X2 X4 st' -∗ owns (c : Thread nD τ) M3 fullShare X3
          -∗ owns (c : Thread nD τ) M5 fullShare (if c3 = 1#1 then T.out off cnt st' else X5) -∗ Q ⟨⟩)
        -∗ wp frame (wpE (defs₀ (F := F)) 𝒱 (c : Thread nD τ) none) E (lastProg M2 M3 M4 M5 M6 M7 M8 hl2 hl3 T arg0 c3 off cnt) Q) := by
  unfold lastProg
  by_cases h : c3 = 1#1
  · rw [dif_pos h, if_pos h, wp_bind]
    rw [if_pos h] at hst
    subst hst
    iintro ⟨H, H3, H5⟩ Hk
    icombine H H3 as H
    iapply (firstProg_wp 𝒱 c E hl2 hl3 T.castL (T.pL arg0) off cnt X2 X3 X4 st) $$ H
    iintro H H3
    rw [wp_bind]
    iapply (restProg_wp 𝒱 c E hl2 (T.pL arg0 (T.castL X3)) off cnt _ X2 X4 st) $$ H
    iintro H
    rw [wp_pure]
    imodintro
    unfold tbufs
    icases H with ⟨H2, H4, H6, H7, H8⟩
    iapply (load 𝒱 c E (m := M8) (r := rC)) $$ H8
    iintro H8
    iapply (load 𝒱 c E (m := M6) (r := rC)) $$ H6
    iintro H6
    iapply (load 𝒱 c E (m := M7) (r := rC)) $$ H7
    iintro H7
    iapply (load 𝒱 c E (m := M5) (r := rC)) $$ H5
    iintro H5
    iapply (store 𝒱 c E (m := M5) (r := rC)) $$ H5
    iintro H5
    simp only [get_unit, put_unit, Tail.out]
    rw [wp_pure]
    imodintro
    iapply Hk $$ [H2 H4 H6 H7 H8] H3 H5
    isplitl [H2]; · iexact H2
    isplitl [H4]; · iexact H4
    isplitl [H6]; · iexact H6
    isplitl [H7]; · iexact H7
    iexact H8
  · rw [dif_neg h, if_neg h]
    rw [if_neg h] at hst
    subst hst
    iintro ⟨H, H3, H5⟩ Hk
    rw [wp_pure]
    imodintro
    iapply Hk $$ H H3 H5

theorem two_wp {M2 : Memref sig .tc .vmem (⟨2, ![2816, d]⟩ : Shape) .bf16} {M3 : Memref sig .tc .vmem (⟨2, ![2048, d]⟩ : Shape) .f32}
    {M4 : Memref sig .tc .vmem S2816x1 .i32} {M5 M6 M7 M8 : Memref sig .tc .vmem S2816x1 .f32}
    (hl2 : ∀ j h, M2.view.LoadsAt (rW d j h).toLoadRect) (hl3 : M3.view.LoadsAt (rD d).toLoadRect) (T : Tail F d) (arg0 nL : BitVec 32)
    (off cnt : BitVec 32)
    (X2 : Vec F (⟨2, ![2816, d]⟩ : Shape) .bf16) (X3 : Vec F (⟨2, ![2048, d]⟩ : Shape) .f32) (X4 : Vec F S2816x1 .i32)
    (X5 : Vec F S2816x1 .f32) (st0 st' : St F)
    (hst : st' = if bit (Scalar.cmpi .eq arg0 nL) = 1#1 then tiles (T.pL arg0 (T.castL X3)) X2 X4 off cnt 11 0 (by omega)
        (if bit (Scalar.cmpi .slt arg0 nL) = 1#1 then tiles (T.pU arg0 (T.cast X3)) X2 X4 off cnt 11 0 (by omega) st0 else st0)
      else if bit (Scalar.cmpi .slt arg0 nL) = 1#1 then tiles (T.pU arg0 (T.cast X3)) X2 X4 off cnt 11 0 (by omega) st0 else st0)
    {Q : PUnit.{1} → sProp 𝕄} :
    iprop(tbufs c M2 M4 M6 M7 M8 X2 X4 st0 ∗ owns (c : Thread nD τ) M3 fullShare X3 ∗ owns (c : Thread nD τ) M5 fullShare X5)
      ⊢ iprop((tbufs c M2 M4 M6 M7 M8 X2 X4 st' -∗ owns (c : Thread nD τ) M3 fullShare X3
          -∗ owns (c : Thread nD τ) M5 fullShare (if bit (Scalar.cmpi .eq arg0 nL) = 1#1 then T.out off cnt st' else X5) -∗ Q ⟨⟩)
        -∗ wp frame (wpE (defs₀ (F := F)) 𝒱 (c : Thread nD τ) none) E
            (midProg M2 M3 M4 M6 M7 M8 hl2 hl3 T arg0 (bit (Scalar.cmpi .slt arg0 nL)) off cnt
              fun _ => lastProg M2 M3 M4 M5 M6 M7 M8 hl2 hl3 T arg0 (bit (Scalar.cmpi .eq arg0 nL)) off cnt) Q) := by
  iintro ⟨H, H3, H5⟩ Hk
  iapply (midProg_wp 𝒱 c E hl2 hl3 T arg0 _ off cnt _ X2 X3 X4 st0) $$ [H H3]
  · isplitl [H]; · iexact H
    iexact H3
  iintro H H3
  iapply (lastProg_wp 𝒱 c E hl2 hl3 T arg0 _ off cnt X2 X3 X4 X5 _ st' hst) $$ [H H3 H5]
  · isplitl [H]; · iexact H
    isplitl [H3]; · iexact H3
    iexact H5
  iexact Hk

/-- What a tail kernel's point does. -/
theorem tail_wp {M1 : Memref sig .tc .smem S2 .i32} {M2 : Memref sig .tc .vmem (⟨2, ![2816, d]⟩ : Shape) .bf16}
    {M3 : Memref sig .tc .vmem (⟨2, ![2048, d]⟩ : Shape) .f32}
    {M4 : Memref sig .tc .vmem S2816x1 .i32} {M5 M6 M7 M8 : Memref sig .tc .vmem S2816x1 .f32}
    (hl2 : ∀ j h, M2.view.LoadsAt (rW d j h).toLoadRect) (hl3 : M3.view.LoadsAt (rD d).toLoadRect) (T : Tail F d) (arg0 nL : BitVec 32)
    (q : PosShare TreeShare) (X1 : Vec F S2 .i32)
    (X2 : Vec F (⟨2, ![2816, d]⟩ : Shape) .bf16) (X3 : Vec F (⟨2, ![2048, d]⟩ : Shape) .f32) (X4 : Vec F S2816x1 .i32)
    (X5 : Vec F S2816x1 .f32) (st : St F) {Q : PUnit.{1} → sProp 𝕄} :
    iprop(owns (c : Thread nD τ) M1 q X1 ∗ tbufs c M2 M4 M6 M7 M8 X2 X4 st ∗ owns (c : Thread nD τ) M3 fullShare X3
        ∗ owns (c : Thread nD τ) M5 fullShare X5)
      ⊢ iprop((owns (c : Thread nD τ) M1 q X1 -∗ tbufs c M2 M4 M6 M7 M8 X2 X4 (T.step arg0 nL (word X1 0 (by omega)) (word X1 1 (by omega)) X2 X3 X4 st)
          -∗ owns (c : Thread nD τ) M3 fullShare X3
          -∗ owns (c : Thread nD τ) M5 fullShare (if bit (Scalar.cmpi .eq arg0 nL) = 1#1 then
              T.out (word X1 0 (by omega)) (word X1 1 (by omega)) (T.step arg0 nL (word X1 0 (by omega)) (word X1 1 (by omega)) X2 X3 X4 st) else X5) -∗ Q ⟨⟩)
        -∗ wp frame (wpE (defs₀ (F := F)) 𝒱 (c : Thread nD τ) none) E (tailProg M1 M2 M3 M4 M5 M6 M7 M8 hl2 hl3 T arg0 nL) Q) := by
  unfold tailProg smemLoad smemLoadElt
  iintro ⟨H1, H, H3, H5⟩ Hk
  iapply (load 𝒱 c E (m := M1) (r := rO 0 (by omega))) $$ H1
  iintro H1
  iapply (load 𝒱 c E (m := M1) (r := rO 1 (by omega))) $$ H1
  iintro H1
  by_cases h : bit (Scalar.cmpi .eq arg0 0#32) = 1#1
  · simp only [Prog.bind_ret, dif_pos h]
    unfold tbufs
    icases H with ⟨H2, H4, H6, H7, H8⟩
    iapply (load 𝒱 c E (m := M6) (r := rC)) $$ H6
    iintro H6
    iapply (store 𝒱 c E (m := M6) (r := rC)) $$ H6
    iintro H6
    iapply (load 𝒱 c E (m := M7) (r := rC)) $$ H7
    iintro H7
    iapply (store 𝒱 c E (m := M7) (r := rC)) $$ H7
    iintro H7
    iapply (load 𝒱 c E (m := M8) (r := rC)) $$ H8
    iintro H8
    iapply (store 𝒱 c E (m := M8) (r := rC)) $$ H8
    iintro H8
    simp only [put_unit]
    iapply (two_wp 𝒱 c E hl2 hl3 T arg0 nL _ _ X2 X3 X4 X5 T.init (T.step arg0 nL (word X1 0 (by omega)) (word X1 1 (by omega)) X2 X3 X4 st)
      (by unfold Tail.step; rw [if_pos h]; rfl)) $$ [H2 H4 H6 H7 H8 H3 H5]
    · unfold tbufs
      isplitl [H2 H4 H6 H7 H8]
      · isplitl [H2]; · iexact H2
        isplitl [H4]; · iexact H4
        isplitl [H6]; · iexact H6
        isplitl [H7]; · iexact H7
        iexact H8
      isplitl [H3]; · iexact H3
      iexact H5
    · iapply Hk $$ H1
  · simp only [Prog.bind_ret, dif_neg h]
    iapply (two_wp 𝒱 c E hl2 hl3 T arg0 nL _ _ X2 X3 X4 X5 st (T.step arg0 nL (word X1 0 (by omega)) (word X1 1 (by omega)) X2 X3 X4 st)
      (by unfold Tail.step; rw [if_neg h]; rfl)) $$ [H H3 H5]
    · isplitl [H]; · iexact H
      isplitl [H3]; · iexact H3
      iexact H5
    · iapply Hk $$ H1

end Rules

/-- What the first kernel fills the pattern with. -/
def tail2 : Tail F 256 where
  cast := k2_pay77
  castL := k2_pay149
  pU a w := ⟨fun x m s => k2_pay14 w x m s, fun x m => k2_pay15 w x m, fun x t g => k2_pay78 (k2_pay11 w x) (k2_pay12 a) g (k2_pay16 t)⟩
  pL a w := ⟨fun x m s => k2_pay86 a w x m s, fun x m => k2_pay87 a w x m,
    fun x t g => k2_pay150 (k2_pay83 a) (k2_pay84 a w x) 7999#32 (k2_pay88 t) g⟩
  init := ⟨k2_pay1, k2_pay2, k2_pay3⟩
  outE := k2_pay10
  ge := k2_pay161 (F := F)
  lt := k2_pay162 (F := F)

section
variable (i : grid2.Coords) (arg1 : Memref sig .tc .smem S2 .i32) (harg1 : arg1.IsWhole) (arg2 : Memref sig .tc .vmem S2816x256 .bf16)
  (harg2 : arg2.IsWhole) (arg3 : Memref sig .tc .vmem S2048x256 .f32) (harg3 : arg3.IsWhole) (arg4 : Memref sig .tc .vmem S2816x1 .i32)
  (harg4 : arg4.IsWhole) (arg5 : Memref sig .tc .vmem S2816x1 .f32) (harg5 : arg5.IsWhole) (arg6 : Memref sig .tc .vmem S2816x1 .f32)
  (harg6 : arg6.IsWhole) (arg7 : Memref sig .tc .vmem S2816x1 .f32) (harg7 : arg7.IsWhole) (arg8 : Memref sig .tc .vmem S2816x1 .f32)
  (harg8 : arg8.IsWhole) (arg0 v0 v1 : BitVec 32) (v12 : FVec F S2048x256 .bf16) (v46 : BitVec 1)

theorem part12_eq2 : k2_part12 (F := F) i arg1 harg1 arg2 harg2 arg3 harg3 arg4 harg4 arg5 harg5 arg6 harg6 arg7 harg7 arg8 harg8 arg0 v0 v1
    = firstProg arg2 arg3 arg4 arg6 arg7 arg8 (fun _ _ => View.loadsAt_vmem h_S256x256) (View.loadsAt_vmem h_S2048x256) tail2.cast (tail2.pU arg0)
      v0 v1 := rfl

theorem part24_eq2 : k2_part24 (F := F) i arg1 harg1 arg2 harg2 arg3 harg3 arg4 harg4 arg5 harg5 arg6 harg6 arg7 harg7 arg8 harg8 arg0 v0 v1
    = firstProg arg2 arg3 arg4 arg6 arg7 arg8 (fun _ _ => View.loadsAt_vmem h_S256x256) (View.loadsAt_vmem h_S2048x256) tail2.castL (tail2.pL arg0)
      v0 v1 := rfl

theorem part25_eq2 : k2_part25 (F := F) i arg1 harg1 arg2 harg2 arg3 harg3 arg4 harg4 arg5 harg5 arg6 harg6 arg7 harg7 arg8 harg8 arg0 v0 v1 v12 v46
    = restProg arg2 arg4 arg6 arg7 arg8 (fun _ _ => View.loadsAt_vmem h_S256x256) (tail2.pL arg0 v12)
      v0 v1 v46 (fun _ => pure ⟨k2_pay161 (F := F) v0, k2_pay162 (F := F) v0 v1⟩) := rfl

theorem body_eq2 : cc2__tail_body (F := F) i arg1 harg1 arg2 harg2 arg3 harg3 arg4 harg4 arg5 harg5 arg6 harg6 arg7 harg7 arg8 harg8
    = tailProg arg1 arg2 arg3 arg4 arg5 arg6 arg7 arg8 (fun _ _ => View.loadsAt_vmem h_S256x256) (View.loadsAt_vmem h_S2048x256) tail2
      (BitVec.ofNat 32 (i 0).val) 3#32 := rfl

end

/-- What the second kernel fills the pattern with. -/
def tail3 : Tail F 64 where
  cast := k3_pay77
  castL := k3_pay149
  pU a w := ⟨fun x m s => k3_pay14 w x m s, fun x m => k3_pay15 w x m, fun x t g => k3_pay78 (k3_pay11 w x) (k3_pay12 a) g (k3_pay16 t)⟩
  pL a w := ⟨fun x m s => k3_pay86 a w x m s, fun x m => k3_pay87 a w x m,
    fun x t g => k3_pay150 (k3_pay83 a) (k3_pay84 a w x) 39999#32 (k3_pay88 t) g⟩
  init := ⟨k3_pay1, k3_pay2, k3_pay3⟩
  outE := k3_pay10
  ge := k3_pay161 (F := F)
  lt := k3_pay162 (F := F)

section
variable (i : grid3.Coords) (arg1 : Memref sig .tc .smem S2 .i32) (harg1 : arg1.IsWhole) (arg2 : Memref sig .tc .vmem S2816x64 .bf16)
  (harg2 : arg2.IsWhole) (arg3 : Memref sig .tc .vmem S2048x64 .f32) (harg3 : arg3.IsWhole) (arg4 : Memref sig .tc .vmem S2816x1 .i32)
  (harg4 : arg4.IsWhole) (arg5 : Memref sig .tc .vmem S2816x1 .f32) (harg5 : arg5.IsWhole) (arg6 : Memref sig .tc .vmem S2816x1 .f32)
  (harg6 : arg6.IsWhole) (arg7 : Memref sig .tc .vmem S2816x1 .f32) (harg7 : arg7.IsWhole) (arg8 : Memref sig .tc .vmem S2816x1 .f32)
  (harg8 : arg8.IsWhole) (arg0 v0 v1 : BitVec 32) (v12 : FVec F S2048x64 .bf16) (v46 : BitVec 1)

theorem part12_eq3 : k3_part12 (F := F) i arg1 harg1 arg2 harg2 arg3 harg3 arg4 harg4 arg5 harg5 arg6 harg6 arg7 harg7 arg8 harg8 arg0 v0 v1
    = firstProg arg2 arg3 arg4 arg6 arg7 arg8 (fun _ _ => View.loadsAt_vmem h_S256x64) (View.loadsAt_vmem h_S2048x64) tail3.cast (tail3.pU arg0)
      v0 v1 := rfl

theorem part24_eq3 : k3_part24 (F := F) i arg1 harg1 arg2 harg2 arg3 harg3 arg4 harg4 arg5 harg5 arg6 harg6 arg7 harg7 arg8 harg8 arg0 v0 v1
    = firstProg arg2 arg3 arg4 arg6 arg7 arg8 (fun _ _ => View.loadsAt_vmem h_S256x64) (View.loadsAt_vmem h_S2048x64) tail3.castL (tail3.pL arg0)
      v0 v1 := rfl

theorem part25_eq3 : k3_part25 (F := F) i arg1 harg1 arg2 harg2 arg3 harg3 arg4 harg4 arg5 harg5 arg6 harg6 arg7 harg7 arg8 harg8 arg0 v0 v1 v12 v46
    = restProg arg2 arg4 arg6 arg7 arg8 (fun _ _ => View.loadsAt_vmem h_S256x64) (tail3.pL arg0 v12)
      v0 v1 v46 (fun _ => pure ⟨k3_pay161 (F := F) v0, k3_pay162 (F := F) v0 v1⟩) := rfl

theorem body_eq3 : cc3__tail_body (F := F) i arg1 harg1 arg2 harg2 arg3 harg3 arg4 harg4 arg5 harg5 arg6 harg6 arg7 harg7 arg8 harg8
    = tailProg arg1 arg2 arg3 arg4 arg5 arg6 arg7 arg8 (fun _ _ => View.loadsAt_vmem h_S256x64) (View.loadsAt_vmem h_S2048x64) tail3
      (BitVec.ofNat 32 (i 0).val) 19#32 := rfl

end

/-- What the third kernel fills the pattern with. -/
def tail4 : Tail F 16 where
  cast := k4_pay77
  castL := k4_pay149
  pU a w := ⟨fun x m s => k4_pay14 w x m s, fun x m => k4_pay15 w x m, fun x t g => k4_pay78 (k4_pay11 w x) (k4_pay12 a) g (k4_pay16 t)⟩
  pL a w := ⟨fun x m s => k4_pay86 a w x m s, fun x m => k4_pay87 a w x m,
    fun x t g => k4_pay150 (k4_pay83 a) (k4_pay84 a w x) 49999#32 (k4_pay88 t) g⟩
  init := ⟨k4_pay1, k4_pay2, k4_pay3⟩
  outE := k4_pay10
  ge := k4_pay161 (F := F)
  lt := k4_pay162 (F := F)

section
variable (i : grid4.Coords) (arg1 : Memref sig .tc .smem S2 .i32) (harg1 : arg1.IsWhole) (arg2 : Memref sig .tc .vmem S2816x16 .bf16)
  (harg2 : arg2.IsWhole) (arg3 : Memref sig .tc .vmem S2048x16 .f32) (harg3 : arg3.IsWhole) (arg4 : Memref sig .tc .vmem S2816x1 .i32)
  (harg4 : arg4.IsWhole) (arg5 : Memref sig .tc .vmem S2816x1 .f32) (harg5 : arg5.IsWhole) (arg6 : Memref sig .tc .vmem S2816x1 .f32)
  (harg6 : arg6.IsWhole) (arg7 : Memref sig .tc .vmem S2816x1 .f32) (harg7 : arg7.IsWhole) (arg8 : Memref sig .tc .vmem S2816x1 .f32)
  (harg8 : arg8.IsWhole) (arg0 v0 v1 : BitVec 32) (v12 : FVec F S2048x16 .bf16) (v46 : BitVec 1)

theorem part12_eq4 : k4_part12 (F := F) i arg1 harg1 arg2 harg2 arg3 harg3 arg4 harg4 arg5 harg5 arg6 harg6 arg7 harg7 arg8 harg8 arg0 v0 v1
    = firstProg arg2 arg3 arg4 arg6 arg7 arg8 (fun _ _ => View.loadsAt_vmem h_S256x16) (View.loadsAt_vmem h_S2048x16) tail4.cast (tail4.pU arg0)
      v0 v1 := rfl

theorem part24_eq4 : k4_part24 (F := F) i arg1 harg1 arg2 harg2 arg3 harg3 arg4 harg4 arg5 harg5 arg6 harg6 arg7 harg7 arg8 harg8 arg0 v0 v1
    = firstProg arg2 arg3 arg4 arg6 arg7 arg8 (fun _ _ => View.loadsAt_vmem h_S256x16) (View.loadsAt_vmem h_S2048x16) tail4.castL (tail4.pL arg0)
      v0 v1 := rfl

theorem part25_eq4 : k4_part25 (F := F) i arg1 harg1 arg2 harg2 arg3 harg3 arg4 harg4 arg5 harg5 arg6 harg6 arg7 harg7 arg8 harg8 arg0 v0 v1 v12 v46
    = restProg arg2 arg4 arg6 arg7 arg8 (fun _ _ => View.loadsAt_vmem h_S256x16) (tail4.pL arg0 v12)
      v0 v1 v46 (fun _ => pure ⟨k4_pay161 (F := F) v0, k4_pay162 (F := F) v0 v1⟩) := rfl

theorem body_eq4 : cc4__tail_body (F := F) i arg1 harg1 arg2 harg2 arg3 harg3 arg4 harg4 arg5 harg5 arg6 harg6 arg7 harg7 arg8 harg8
    = tailProg arg1 arg2 arg3 arg4 arg5 arg6 arg7 arg8 (fun _ _ => View.loadsAt_vmem h_S256x16) (View.loadsAt_vmem h_S2048x16) tail4
      (BitVec.ofNat 32 (i 0).val) 24#32 := rfl

end

end Cert.KernelIdeal.Pf

end
-- ==== Proof.Ideal.Bodies.lean ====
/-
  What one grid point of the two preparing kernels and of the head kernel does to the buffers it works on.
-/
module

public import proofs.«01_k».proof.Proof.Ideal.TailBody

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own

variable {F : FTy → Type} [FloatOps F]

theorem inbA (a b : ℕ) : ∀ x, (![0, 0] : Fin 2 → ℕ) x + (⟨2, ![a, b]⟩ : Shape).size x ≤ (⟨2, ![a, b]⟩ : Shape).size x :=
  Fin.forall_fin_two.mpr ⟨by show 0 + a ≤ a; omega, by show 0 + b ≤ b; omega⟩

/-- The whole of a matrix. -/
abbrev rA (a b : ℕ) : Rect (⟨2, ![a, b]⟩ : Shape) := Rect.unit (s := ⟨2, ![a, b]⟩) ![0, 0] (⟨2, ![a, b]⟩ : Shape).size (inbA a b)

/-- The whole of the one-word accumulator. -/
abbrev r1 : Rect S1 := Rect.unit (s := S1) ![0] S1.size inb_S1_S1_0

/-- The word of the accumulator. -/
abbrev i1 : S1.Idx := Shape.Idx.first (numel1_S1.symm ▸ Nat.one_pos)

/-- A load of a whole matrix, then `k`. -/
abbrev ldA {a b : ℕ} {e : EltTy} {α : Type} (M : Memref sig .tc .vmem (⟨2, ![a, b]⟩ : Shape) e) (hl : M.view.LoadsAt (rA a b).toLoadRect)
    (k : Vec F (⟨2, ![a, b]⟩ : Shape) e → Prog (TpuEff nD τ sig (Elt F) Λ₀ .tc) α) : Prog (TpuEff nD τ sig (Elt F) Λ₀ .tc) α :=
  .op (.load M (rA a b).toLoadRect hl) k

/-- A store of a whole matrix, then `k`. -/
abbrev stA {a b : ℕ} {e : EltTy} {α : Type} (M : Memref sig .tc .vmem (⟨2, ![a, b]⟩ : Shape) e) (w : Vec F (⟨2, ![a, b]⟩ : Shape) e)
    (hx : (M.access (rA a b)).Stores Finset.univ)
    (k : Prog (TpuEff nD τ sig (Elt F) Λ₀ .tc) α) : Prog (TpuEff nD τ sig (Elt F) Λ₀ .tc) α :=
  .op (.store M (rA a b) w Finset.univ hx (.inl rfl)) fun _ => k

/-- The operations of the first preparing kernel at a point. -/
def prep1Prog (i : grid0.Coords) (M1 : Memref sig .tc .vmem S2048x1 .i32) (M2 : Memref sig .tc .vmem S256x1 .i32)
    (M3 M4 : Memref sig .tc .vmem S8x1 .i32) : Prog (TpuEff nD τ sig (Elt F) Λ₀ .tc) PUnit.{1} :=
  ldA M1 (View.loadsAt_vmem h_S2048x1) fun v0 =>
  .op (.load M1 (Rect.unit (s := S2048x1) (k0_off1 i) S256x1.size (k0_off1_inb i)).toLoadRect (View.loadsAt_vmem h_S256x1)) fun v16 =>
  ldA M2 (View.loadsAt_vmem h_S256x1) fun _ =>
  stA M2 (k0_pay1 (k0_pay4 (F := F) i v0 v16) (k0_pay8 (k0_pay3 (F := F) v16)) 0#32 (k0_pay9 (k0_pay5 (F := F) v0)))
    (View.stores_vmem_bits_univ h_S256x1 rfl) <|
  if _h : k0_cond1 i = 1#1 then
    ldA M3 (View.loadsAt_vmem h_S8x1) fun _ =>
    stA M3 (k0_pay6 (k0_pay5 (F := F) v0)) (View.stores_vmem_bits_univ h_S8x1 rfl) <|
    ldA M4 (View.loadsAt_vmem h_S8x1) fun _ =>
    stA M4 (k0_pay7 (k0_pay5 (F := F) v0)) (View.stores_vmem_bits_univ h_S8x1 rfl) <|
    pure ⟨⟩
  else pure ⟨⟩

theorem prep1_eq (i : grid0.Coords) (arg1 : Memref sig .tc .vmem S2048x1 .i32) (harg1 : arg1.IsWhole) (arg2 : Memref sig .tc .vmem S256x1 .i32)
    (harg2 : arg2.IsWhole) (arg3 : Memref sig .tc .vmem S8x1 .i32) (harg3 : arg3.IsWhole) (arg4 : Memref sig .tc .vmem S8x1 .i32) (harg4 : arg4.IsWhole) :
    cc0__prep1_body (F := F) i arg1 harg1 arg2 harg2 arg3 harg3 arg4 harg4 = prep1Prog i arg1 arg2 arg3 arg4 := rfl

/-- The positions the first preparing kernel computes at a point, of the targets. -/
def posOf (i : grid0.Coords) (X : Vec F S2048x1 .i32) : Vec F S256x1 .i32 :=
  k0_pay1 (k0_pay4 (F := F) i X (get (Rect.unit (s := S2048x1) (k0_off1 i) S256x1.size (k0_off1_inb i)) X))
    (k0_pay8 (k0_pay3 (F := F) (get (Rect.unit (s := S2048x1) (k0_off1 i) S256x1.size (k0_off1_inb i)) X))) 0#32 (k0_pay9 (k0_pay5 (F := F) X))

/-- The clusters' sizes, of the targets. -/
def cntOf (X : Vec F S2048x1 .i32) : Vec F S8x1 .i32 := k0_pay6 (k0_pay5 (F := F) X)

/-- The clusters' first rows, of the targets. -/
def offOf (X : Vec F S2048x1 .i32) : Vec F S8x1 .i32 := k0_pay7 (k0_pay5 (F := F) X)

/-- The hidden rows of the second preparing kernel. -/
structure Hid (F : FTy → Type) where
  a : Vec F S2048x256 .bf16
  b : Vec F S2048x64 .bf16
  c : Vec F S2048x16 .bf16

/-- The operations of the second preparing kernel's point after the hidden rows are there. -/
def prep2Rest (i : grid1.Coords) (M5 M6 : Memref sig .tc .vmem S2048x1 .i32)
    (M7 : Memref sig .tc .vmem S256x256 .bf16) (h7 : (M7.access (rA 256 256)).Stores Finset.univ)
    (M8 : Memref sig .tc .vmem S256x64 .bf16) (h8 : (M8.access (rA 256 64)).Stores Finset.univ)
    (M9 : Memref sig .tc .vmem S256x16 .bf16) (h9 : (M9.access (rA 256 16)).Stores Finset.univ)
    (M11 : Memref sig .tc .vmem S2048x256 .bf16) (M12 : Memref sig .tc .vmem S2048x64 .bf16) (M13 : Memref sig .tc .vmem S2048x16 .bf16) :
    Prog (TpuEff nD τ sig (Elt F) Λ₀ .tc) (Σ' (_ : IVec S256x2048 1) (_ : BitVec 32), IVec S256x2048 32) :=
  ldA M6 (View.loadsAt_vmem h_S2048x1) fun v7 =>
  ldA M11 (View.loadsAt_vmem h_S2048x256) fun v15 =>
  ldA M7 (View.loadsAt_vmem h_S256x256) fun _ =>
  stA M7 (k1_pay8 i v7 v15) h7 <|
  ldA M12 (View.loadsAt_vmem h_S2048x64) fun v19 =>
  ldA M8 (View.loadsAt_vmem h_S256x64) fun _ =>
  stA M8 (k1_pay9 i v7 v19) h8 <|
  ldA M13 (View.loadsAt_vmem h_S2048x16) fun v23 =>
  ldA M9 (View.loadsAt_vmem h_S256x16) fun _ =>
  stA M9 (k1_pay10 i v7 v23) h9 <|
  ldA M5 (View.loadsAt_vmem h_S2048x1) fun v27 => pure ⟨k1_pay6 (F := F) i v7, 0#32, k1_pay11 (F := F) v27⟩

/-- The operations of the second preparing kernel at a point. -/
def prep2Prog (i : grid1.Coords) (M1 : Memref sig .tc .vmem S2048x1024 .f32) (M2 : Memref sig .tc .vmem S256x1024 .f32)
    (M3 : Memref sig .tc .vmem S64x1024 .f32) (M4 : Memref sig .tc .vmem S16x1024 .f32) (M5 M6 : Memref sig .tc .vmem S2048x1 .i32)
    (M7 : Memref sig .tc .vmem S256x256 .bf16) (h7 : (M7.access (rA 256 256)).Stores Finset.univ)
    (M8 : Memref sig .tc .vmem S256x64 .bf16) (h8 : (M8.access (rA 256 64)).Stores Finset.univ)
    (M9 : Memref sig .tc .vmem S256x16 .bf16) (h9 : (M9.access (rA 256 16)).Stores Finset.univ)
    (M10 : Memref sig .tc .vmem S256x1 .i32)
    (M11 : Memref sig .tc .vmem S2048x256 .bf16) (h11 : (M11.access (rA 2048 256)).Stores Finset.univ)
    (M12 : Memref sig .tc .vmem S2048x64 .bf16) (h12 : (M12.access (rA 2048 64)).Stores Finset.univ)
    (M13 : Memref sig .tc .vmem S2048x16 .bf16) (h13 : (M13.access (rA 2048 16)).Stores Finset.univ) :
    Prog (TpuEff nD τ sig (Elt F) Λ₀ .tc) PUnit.{1} :=
  (if _h : bit (Scalar.cmpi .eq (BitVec.ofNat 32 (i 0).val) 0#32) = 1#1 then
    ldA M1 (View.loadsAt_vmem h_S2048x1024) fun v37 =>
    ldA M2 (View.loadsAt_vmem h_S256x1024) fun v39 =>
    ldA M11 (View.loadsAt_vmem h_S2048x256) fun _ =>
    stA M11 (k1_pay3 v37 v39) h11 <|
    ldA M3 (View.loadsAt_vmem h_S64x1024) fun v46 =>
    ldA M12 (View.loadsAt_vmem h_S2048x64) fun _ =>
    stA M12 (k1_pay4 v37 v46) h12 <|
    ldA M4 (View.loadsAt_vmem h_S16x1024) fun v53 =>
    ldA M13 (View.loadsAt_vmem h_S2048x16) fun _ =>
    stA M13 (k1_pay5 v37 v53) h13 <|
    prep2Rest i M5 M6 M7 h7 M8 h8 M9 h9 M11 M12 M13
  else prep2Rest i M5 M6 M7 h7 M8 h8 M9 h9 M11 M12 M13) >>= fun r =>
    ldA M10 (View.loadsAt_vmem h_S256x1) fun _ =>
    stA M10 (k1_pay1 r.1 r.2.1 r.2.2) (View.stores_vmem_bits_univ h_S256x1 rfl) <| pure ⟨⟩

theorem prep2_eq (i : grid1.Coords) (arg1 : Memref sig .tc .vmem S2048x1024 .f32) (harg1 : arg1.IsWhole)
    (arg2 : Memref sig .tc .vmem S256x1024 .f32) (harg2 : arg2.IsWhole) (arg3 : Memref sig .tc .vmem S64x1024 .f32) (harg3 : arg3.IsWhole)
    (arg4 : Memref sig .tc .vmem S16x1024 .f32) (harg4 : arg4.IsWhole) (arg5 : Memref sig .tc .vmem S2048x1 .i32) (harg5 : arg5.IsWhole)
    (arg6 : Memref sig .tc .vmem S2048x1 .i32) (harg6 : arg6.IsWhole) (arg7 : Memref sig .tc .vmem S256x256 .bf16) (harg7 : arg7.IsWhole)
    (arg8 : Memref sig .tc .vmem S256x64 .bf16) (harg8 : arg8.IsWhole) (arg9 : Memref sig .tc .vmem S256x16 .bf16) (harg9 : arg9.IsWhole)
    (arg10 : Memref sig .tc .vmem S256x1 .i32) (harg10 : arg10.IsWhole) (arg11 : Memref sig .tc .vmem S2048x256 .bf16) (harg11 : arg11.IsWhole)
    (arg12 : Memref sig .tc .vmem S2048x64 .bf16) (harg12 : arg12.IsWhole) (arg13 : Memref sig .tc .vmem S2048x16 .bf16) (harg13 : arg13.IsWhole) :
    cc1__prep2_body (F := F) i arg1 harg1 arg2 harg2 arg3 harg3 arg4 harg4 arg5 harg5 arg6 harg6 arg7 harg7 arg8 harg8 arg9 harg9 arg10 harg10
        arg11 harg11 arg12 harg12 arg13 harg13
      = prep2Prog i arg1 arg2 arg3 arg4 arg5 arg6
        arg7 (View.stores_vmem h_S256x256 (harg7.storeExact_slice rfl _ packedbf16_S256x256_S256x256_0_0) (fun _ => rfl))
        arg8 (View.stores_vmem h_S256x64 (harg8.storeExact_slice rfl _ packedbf16_S256x64_S256x64_0_0) (fun _ => rfl))
        arg9 (View.stores_vmem h_S256x16 (harg9.storeExact_slice rfl _ packedbf16_S256x16_S256x16_0_0) (fun _ => rfl)) arg10
        arg11 (View.stores_vmem h_S2048x256 (harg11.storeExact_slice rfl _ packedbf16_S2048x256_S2048x256_0_0) (fun _ => rfl))
        arg12 (View.stores_vmem h_S2048x64 (harg12.storeExact_slice rfl _ packedbf16_S2048x64_S2048x64_0_0) (fun _ => rfl))
        arg13 (View.stores_vmem h_S2048x16 (harg13.storeExact_slice rfl _ packedbf16_S2048x16_S2048x16_0_0) (fun _ => rfl)) := rfl

/-- The hidden rows, of the activations and the three first layers. -/
def hidOf (X1 : Vec F S2048x1024 .f32) (X2 : Vec F S256x1024 .f32) (X3 : Vec F S64x1024 .f32) (X4 : Vec F S16x1024 .f32) : Hid F :=
  ⟨k1_pay3 X1 X2, k1_pay4 X1 X3, k1_pay5 X1 X4⟩

/-- The targets of the rows at a point, of the positions and the targets. -/
def tsOf (i : grid1.Coords) (X6 X5 : Vec F S2048x1 .i32) : Vec F S256x1 .i32 :=
  k1_pay1 (k1_pay6 (F := F) i X6) 0#32 (k1_pay11 (F := F) X5)

/-- A load of the accumulator, then `k`. -/
abbrev ld1 {α : Type} (M : Memref sig .tc .smem S1 .f32) (k : Elt F .f32 → Prog (TpuEff nD τ sig (Elt F) Λ₀ .tc) α) :
    Prog (TpuEff nD τ sig (Elt F) Λ₀ .tc) α :=
  .op (.load M r1.toLoadRect (View.loadsAt_rect (View.loads_smem_one rfl numel1_S1))) fun f => k (f i1)

/-- A store of the accumulator, then `k`. -/
abbrev st1 {α : Type} (M : Memref sig .tc .smem S1 .f32) (w : Elt F .f32) (k : Prog (TpuEff nD τ sig (Elt F) Λ₀ .tc) α) :
    Prog (TpuEff nD τ sig (Elt F) Λ₀ .tc) α :=
  .op (.store M r1 (fun _ => w) Finset.univ (View.stores_smem_one rfl numel1_S1) (.inl rfl)) fun _ => k

/-- The operations of the head kernel's point after the accumulator has started. -/
def headRest (i : grid5.Coords) (M9 : Memref sig .tc .vmem S1x1 .f32) (M10 : Memref sig .tc .smem S1 .f32)
    (add : Elt F .f32 → Elt F .f32) : Prog (TpuEff nD τ sig (Elt F) Λ₀ .tc) PUnit.{1} :=
  ld1 M10 fun v64 => ld1 M10 fun _ => st1 M10 (add v64) <|
  if _h : k5_cond2 i = 1#1 then
    ld1 M10 fun v77 =>
    ldA M9 (View.loadsAt_vmem h_S1x1) fun _ =>
    stA M9 (k5_pay4 v77) (View.stores_vmem_bits_univ h_S1x1 rfl) <| pure ⟨⟩
  else pure ⟨⟩

/-- The operations of the head kernel at a point. -/
def headProg (i : grid5.Coords) (M1 : Memref sig .tc .vmem S256x1024 .f32) (M2 : Memref sig .tc .vmem S2003x1024 .f32)
    (M3 M4 : Memref sig .tc .vmem S256x1 .i32) (M5 M6 M7 : Memref sig .tc .vmem S2816x1 .f32) (M8 : Memref sig .tc .vmem S256x1 .f32)
    (M9 : Memref sig .tc .vmem S1x1 .f32) (M10 : Memref sig .tc .smem S1 .f32) : Prog (TpuEff nD τ sig (Elt F) Λ₀ .tc) PUnit.{1} :=
  ldA M1 (View.loadsAt_vmem h_S256x1024) fun v0 =>
  ldA M2 (View.loadsAt_vmem h_S2003x1024) fun v2 =>
  ldA M3 (View.loadsAt_vmem h_S256x1) fun v13 =>
  ldA M5 (View.loadsAt_vmem h_S2816x1) fun v42 =>
  ldA M6 (View.loadsAt_vmem h_S2816x1) fun v44 =>
  ldA M7 (View.loadsAt_vmem h_S2816x1) fun v47 =>
  ldA M4 (View.loadsAt_vmem h_S256x1) fun v51 =>
  ldA M8 (View.loadsAt_vmem h_S256x1) fun _ =>
  stA M8 (k5_pay2 (k5_pay1 v0 v2 v13) v42 v44 v47 v51) (View.stores_vmem_bits_univ h_S256x1 rfl) <|
  if _h : bit (Scalar.cmpi .eq (BitVec.ofNat 32 (i 0).val) 0#32) = 1#1 then
    ld1 M10 fun _ => st1 M10 (Scalar.ofBits .f32 0x00000000#32 : F .f32) <|
    headRest i M9 M10 (k5_pay3 (k5_pay1 v0 v2 v13) v42 v44 v47 v51)
  else headRest i M9 M10 (k5_pay3 (k5_pay1 v0 v2 v13) v42 v44 v47 v51)

theorem head_eq (i : grid5.Coords) (arg1 : Memref sig .tc .vmem S256x1024 .f32) (harg1 : arg1.IsWhole)
    (arg2 : Memref sig .tc .vmem S2003x1024 .f32) (harg2 : arg2.IsWhole) (arg3 : Memref sig .tc .vmem S256x1 .i32) (harg3 : arg3.IsWhole)
    (arg4 : Memref sig .tc .vmem S256x1 .i32) (harg4 : arg4.IsWhole) (arg5 : Memref sig .tc .vmem S2816x1 .f32) (harg5 : arg5.IsWhole)
    (arg6 : Memref sig .tc .vmem S2816x1 .f32) (harg6 : arg6.IsWhole) (arg7 : Memref sig .tc .vmem S2816x1 .f32) (harg7 : arg7.IsWhole)
    (arg8 : Memref sig .tc .vmem S256x1 .f32) (harg8 : arg8.IsWhole) (arg9 : Memref sig .tc .vmem S1x1 .f32) (harg9 : arg9.IsWhole)
    (arg10 : Memref sig .tc .smem S1 .f32) (harg10 : arg10.IsWhole) :
    cc5__head_body (F := F) i arg1 harg1 arg2 harg2 arg3 harg3 arg4 harg4 arg5 harg5 arg6 harg6 arg7 harg7 arg8 harg8 arg9 harg9 arg10 harg10
      = headProg i arg1 arg2 arg3 arg4 arg5 arg6 arg7 arg8 arg9 arg10 >>= fun _ => pure ⟨⟩ := rfl

/-- The log-probabilities at a point of the head kernel. -/
def outOf (X1 : Vec F S256x1024 .f32) (X2 : Vec F S2003x1024 .f32) (X3 X4 : Vec F S256x1 .i32) (X5 X6 X7 : Vec F S2816x1 .f32) : Vec F S256x1 .f32 :=
  k5_pay2 (k5_pay1 X1 X2 X3) X5 X6 X7 X4

/-- The accumulator after a point of the head kernel. -/
def accOf (i : grid5.Coords) (X1 : Vec F S256x1024 .f32) (X2 : Vec F S2003x1024 .f32) (X3 X4 : Vec F S256x1 .i32) (X5 X6 X7 : Vec F S2816x1 .f32)
    (a : Elt F .f32) : Elt F .f32 :=
  k5_pay3 (k5_pay1 X1 X2 X3) X5 X6 X7 X4
    (if bit (Scalar.cmpi .eq (BitVec.ofNat 32 (i 0).val) 0#32) = 1#1 then (Scalar.ofBits .f32 0x00000000#32 : F .f32) else a)

section Rules

variable {Ix : Type} [DecidableEq Ix] {U : Type} [URA U] {Lvl : Type} [Preorder Lvl]

local notation "𝕄" => MT nD τ sig Ix (Elt F) ℕ U Lvl

variable (𝒱 : Variants) (c : Dev nD) (E : Set ℕ)

theorem ldA_wp {a b : ℕ} {e : EltTy} {α : Type} {M : Memref sig .tc .vmem (⟨2, ![a, b]⟩ : Shape) e} {hl : M.view.LoadsAt (rA a b).toLoadRect}
    {k : Vec F (⟨2, ![a, b]⟩ : Shape) e → Prog (TpuEff nD τ sig (Elt F) Λ₀ .tc) α} {q : PosShare TreeShare} {X : Vec F (⟨2, ![a, b]⟩ : Shape) e}
    {Q : α → sProp 𝕄} :
    (owns (c : Thread nD τ) M q X : sProp 𝕄)
      ⊢ iprop((owns (c : Thread nD τ) M q X -∗ wp frame (wpE (defs₀ (F := F)) 𝒱 (c : Thread nD τ) none) E (k X) Q)
        -∗ wp frame (wpE (defs₀ (F := F)) 𝒱 (c : Thread nD τ) none) E (ldA M hl k) Q) := by
  have h := load (defs := defs₀ (F := F)) 𝒱 c E (m := M) (r := rA a b) (hl := hl) (k := k) (q := q) (X := X) (Q := Q)
  rwa [get_unit] at h

theorem stA_wp {a b : ℕ} {e : EltTy} {α : Type} {M : Memref sig .tc .vmem (⟨2, ![a, b]⟩ : Shape) e} {w : Vec F (⟨2, ![a, b]⟩ : Shape) e}
    {hx : (M.access (rA a b)).Stores Finset.univ} {k : Prog (TpuEff nD τ sig (Elt F) Λ₀ .tc) α} {X : Vec F (⟨2, ![a, b]⟩ : Shape) e}
    {Q : α → sProp 𝕄} :
    (owns (c : Thread nD τ) M fullShare X : sProp 𝕄)
      ⊢ iprop((owns (c : Thread nD τ) M fullShare w -∗ wp frame (wpE (defs₀ (F := F)) 𝒱 (c : Thread nD τ) none) E k Q)
        -∗ wp frame (wpE (defs₀ (F := F)) 𝒱 (c : Thread nD τ) none) E (stA M w hx k) Q) := by
  have h := store (defs := defs₀ (F := F)) 𝒱 c E (m := M) (r := rA a b) (w := w) (hx := hx) (hm := .inl rfl) (k := fun _ => k) (X := X) (Q := Q)
  rwa [put_unit] at h

theorem ld1_wp {α : Type} {M : Memref sig .tc .smem S1 .f32} {k : Elt F .f32 → Prog (TpuEff nD τ sig (Elt F) Λ₀ .tc) α} {x : Elt F .f32}
    {Q : α → sProp 𝕄} :
    (owns (c : Thread nD τ) M fullShare (fun _ => x) : sProp 𝕄)
      ⊢ iprop((owns (c : Thread nD τ) M fullShare (fun _ => x) -∗ wp frame (wpE (defs₀ (F := F)) 𝒱 (c : Thread nD τ) none) E (k x) Q)
        -∗ wp frame (wpE (defs₀ (F := F)) 𝒱 (c : Thread nD τ) none) E (ld1 M k) Q) :=
  load (defs := defs₀ (F := F)) 𝒱 c E (m := M) (r := r1) (k := fun f => k (f i1)) (X := fun _ => x) (Q := Q)

theorem st1_wp {α : Type} {M : Memref sig .tc .smem S1 .f32} {k : Prog (TpuEff nD τ sig (Elt F) Λ₀ .tc) α} {w : Elt F .f32}
    {X : Vec F S1 .f32} {Q : α → sProp 𝕄} :
    (owns (c : Thread nD τ) M fullShare X : sProp 𝕄)
      ⊢ iprop((owns (c : Thread nD τ) M fullShare (fun _ => w) -∗ wp frame (wpE (defs₀ (F := F)) 𝒱 (c : Thread nD τ) none) E k Q)
        -∗ wp frame (wpE (defs₀ (F := F)) 𝒱 (c : Thread nD τ) none) E (st1 M w k) Q) := by
  have h := store (defs := defs₀ (F := F)) 𝒱 c E (m := M) (r := r1) (w := fun _ => w)
    (hx := View.stores_smem_one rfl numel1_S1) (hm := .inl rfl) (k := fun _ => k) (X := X) (Q := Q)
  rwa [put_unit] at h

/-- A point of the first preparing kernel. -/
theorem prep1_wp (i : grid0.Coords) {M1 : Memref sig .tc .vmem S2048x1 .i32} {M2 : Memref sig .tc .vmem S256x1 .i32}
    {M3 M4 : Memref sig .tc .vmem S8x1 .i32} (X1 : Vec F S2048x1 .i32) (X2 : Vec F S256x1 .i32) (X3 X4 : Vec F S8x1 .i32) {Q : PUnit.{1} → sProp 𝕄} :
    iprop(owns (c : Thread nD τ) M1 fullShare X1 ∗ owns (c : Thread nD τ) M2 fullShare X2 ∗ owns (c : Thread nD τ) M3 fullShare X3
        ∗ owns (c : Thread nD τ) M4 fullShare X4)
      ⊢ iprop((owns (c : Thread nD τ) M1 fullShare X1 -∗ owns (c : Thread nD τ) M2 fullShare (posOf i X1)
          -∗ owns (c : Thread nD τ) M3 fullShare (if k0_cond1 i = 1#1 then cntOf X1 else X3)
          -∗ owns (c : Thread nD τ) M4 fullShare (if k0_cond1 i = 1#1 then offOf X1 else X4) -∗ Q ⟨⟩)
        -∗ wp frame (wpE (defs₀ (F := F)) 𝒱 (c : Thread nD τ) none) E (prep1Prog i M1 M2 M3 M4) Q) := by
  unfold prep1Prog posOf cntOf offOf
  iintro ⟨H1, H2, H3, H4⟩ Hk
  iapply (ldA_wp 𝒱 c E) $$ H1
  iintro H1
  iapply (load 𝒱 c E) $$ H1
  iintro H1
  iapply (ldA_wp 𝒱 c E) $$ H2
  iintro H2
  iapply (stA_wp 𝒱 c E) $$ H2
  iintro H2
  by_cases h : k0_cond1 i = 1#1
  · rw [dif_pos h, if_pos h, if_pos h]
    iapply (ldA_wp 𝒱 c E) $$ H3
    iintro H3
    iapply (stA_wp 𝒱 c E) $$ H3
    iintro H3
    iapply (ldA_wp 𝒱 c E) $$ H4
    iintro H4
    iapply (stA_wp 𝒱 c E) $$ H4
    iintro H4
    rw [wp_pure]
    imodintro
    iapply Hk $$ H1 H2 H3 H4
  · rw [dif_neg h, if_neg h, if_neg h, wp_pure]
    imodintro
    iapply Hk $$ H1 H2 H3 H4

/-- The hidden rows' buffers. -/
def hbufs (M11 : Memref sig .tc .vmem S2048x256 .bf16) (M12 : Memref sig .tc .vmem S2048x64 .bf16) (M13 : Memref sig .tc .vmem S2048x16 .bf16)
    (H : Hid F) : sProp 𝕄 :=
  iprop(owns (c : Thread nD τ) M11 fullShare H.a ∗ owns (c : Thread nD τ) M12 fullShare H.b ∗ owns (c : Thread nD τ) M13 fullShare H.c)

theorem prep2Rest_wp (i : grid1.Coords) {M5 M6 : Memref sig .tc .vmem S2048x1 .i32}
    {M7 : Memref sig .tc .vmem S256x256 .bf16} (h7 : (M7.access (rA 256 256)).Stores Finset.univ)
    {M8 : Memref sig .tc .vmem S256x64 .bf16} (h8 : (M8.access (rA 256 64)).Stores Finset.univ)
    {M9 : Memref sig .tc .vmem S256x16 .bf16} (h9 : (M9.access (rA 256 16)).Stores Finset.univ)
    {M11 : Memref sig .tc .vmem S2048x256 .bf16} {M12 : Memref sig .tc .vmem S2048x64 .bf16} {M13 : Memref sig .tc .vmem S2048x16 .bf16}
    (X5 X6 : Vec F S2048x1 .i32) (X7 : Vec F S256x256 .bf16) (X8 : Vec F S256x64 .bf16) (X9 : Vec F S256x16 .bf16)
    (H : Hid F) {Q : (Σ' (_ : IVec S256x2048 1) (_ : BitVec 32), IVec S256x2048 32) → sProp 𝕄} :
    iprop(owns (c : Thread nD τ) M5 fullShare X5 ∗ owns (c : Thread nD τ) M6 fullShare X6 ∗ owns (c : Thread nD τ) M7 fullShare X7
        ∗ owns (c : Thread nD τ) M8 fullShare X8 ∗ owns (c : Thread nD τ) M9 fullShare X9
        ∗ hbufs c M11 M12 M13 H)
      ⊢ iprop((owns (c : Thread nD τ) M5 fullShare X5 -∗ owns (c : Thread nD τ) M6 fullShare X6
          -∗ owns (c : Thread nD τ) M7 fullShare (k1_pay8 i X6 H.a) -∗ owns (c : Thread nD τ) M8 fullShare (k1_pay9 i X6 H.b)
          -∗ owns (c : Thread nD τ) M9 fullShare (k1_pay10 i X6 H.c)
          -∗ hbufs c M11 M12 M13 H -∗ Q ⟨k1_pay6 (F := F) i X6, 0#32, k1_pay11 (F := F) X5⟩)
        -∗ wp frame (wpE (defs₀ (F := F)) 𝒱 (c : Thread nD τ) none) E (prep2Rest i M5 M6 M7 h7 M8 h8 M9 h9 M11 M12 M13) Q) := by
  unfold prep2Rest hbufs
  iintro ⟨H5, H6, H7, H8, H9, H11, H12, H13⟩ Hk
  iapply (ldA_wp 𝒱 c E) $$ H6
  iintro H6
  iapply (ldA_wp 𝒱 c E) $$ H11
  iintro H11
  iapply (ldA_wp 𝒱 c E) $$ H7
  iintro H7
  iapply (stA_wp 𝒱 c E) $$ H7
  iintro H7
  iapply (ldA_wp 𝒱 c E) $$ H12
  iintro H12
  iapply (ldA_wp 𝒱 c E) $$ H8
  iintro H8
  iapply (stA_wp 𝒱 c E) $$ H8
  iintro H8
  iapply (ldA_wp 𝒱 c E) $$ H13
  iintro H13
  iapply (ldA_wp 𝒱 c E) $$ H9
  iintro H9
  iapply (stA_wp 𝒱 c E) $$ H9
  iintro H9
  iapply (ldA_wp 𝒱 c E) $$ H5
  iintro H5
  rw [wp_pure]
  imodintro
  iapply Hk $$ H5 H6 H7 H8 H9
  isplitl [H11]; · iexact H11
  isplitl [H12]; · iexact H12
  iexact H13

/-- A point of the second preparing kernel. -/
theorem prep2_wp (i : grid1.Coords) {M1 : Memref sig .tc .vmem S2048x1024 .f32} {M2 : Memref sig .tc .vmem S256x1024 .f32}
    {M3 : Memref sig .tc .vmem S64x1024 .f32} {M4 : Memref sig .tc .vmem S16x1024 .f32} {M5 M6 : Memref sig .tc .vmem S2048x1 .i32}
    {M7 : Memref sig .tc .vmem S256x256 .bf16} (h7 : (M7.access (rA 256 256)).Stores Finset.univ)
    {M8 : Memref sig .tc .vmem S256x64 .bf16} (h8 : (M8.access (rA 256 64)).Stores Finset.univ)
    {M9 : Memref sig .tc .vmem S256x16 .bf16} (h9 : (M9.access (rA 256 16)).Stores Finset.univ)
    {M10 : Memref sig .tc .vmem S256x1 .i32}
    {M11 : Memref sig .tc .vmem S2048x256 .bf16} (h11 : (M11.access (rA 2048 256)).Stores Finset.univ)
    {M12 : Memref sig .tc .vmem S2048x64 .bf16} (h12 : (M12.access (rA 2048 64)).Stores Finset.univ)
    {M13 : Memref sig .tc .vmem S2048x16 .bf16} (h13 : (M13.access (rA 2048 16)).Stores Finset.univ)
    (X1 : Vec F S2048x1024 .f32) (X2 : Vec F S256x1024 .f32) (X3 : Vec F S64x1024 .f32) (X4 : Vec F S16x1024 .f32)
    (X5 X6 : Vec F S2048x1 .i32) (X7 : Vec F S256x256 .bf16) (X8 : Vec F S256x64 .bf16) (X9 : Vec F S256x16 .bf16) (X10 : Vec F S256x1 .i32)
    (H : Hid F) {Q : PUnit.{1} → sProp 𝕄} :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7
        ∗ owns (c : Thread nD τ) M8 fullShare X8 ∗ owns (c : Thread nD τ) M9 fullShare X9 ∗ owns (c : Thread nD τ) M10 fullShare X10
        ∗ hbufs c M11 M12 M13 H)
      ⊢ iprop((owns (c : Thread nD τ) M1 fullShare X1 -∗ owns (c : Thread nD τ) M2 fullShare X2 -∗ owns (c : Thread nD τ) M3 fullShare X3
          -∗ owns (c : Thread nD τ) M4 fullShare X4 -∗ owns (c : Thread nD τ) M5 fullShare X5 -∗ owns (c : Thread nD τ) M6 fullShare X6
          -∗ owns (c : Thread nD τ) M7 fullShare (k1_pay8 i X6 (if bit (Scalar.cmpi .eq (BitVec.ofNat 32 (i 0).val) 0#32) = 1#1 then hidOf X1 X2 X3 X4 else H).a)
          -∗ owns (c : Thread nD τ) M8 fullShare (k1_pay9 i X6 (if bit (Scalar.cmpi .eq (BitVec.ofNat 32 (i 0).val) 0#32) = 1#1 then hidOf X1 X2 X3 X4 else H).b)
          -∗ owns (c : Thread nD τ) M9 fullShare (k1_pay10 i X6 (if bit (Scalar.cmpi .eq (BitVec.ofNat 32 (i 0).val) 0#32) = 1#1 then hidOf X1 X2 X3 X4 else H).c)
          -∗ owns (c : Thread nD τ) M10 fullShare (tsOf i X6 X5)
          -∗ hbufs c M11 M12 M13 (if bit (Scalar.cmpi .eq (BitVec.ofNat 32 (i 0).val) 0#32) = 1#1 then hidOf X1 X2 X3 X4 else H) -∗ Q ⟨⟩)
        -∗ wp frame (wpE (defs₀ (F := F)) 𝒱 (c : Thread nD τ) none) E
            (prep2Prog i M1 M2 M3 M4 M5 M6 M7 h7 M8 h8 M9 h9 M10 M11 h11 M12 h12 M13 h13) Q) := by
  unfold prep2Prog tsOf
  rw [wp_bind]
  iintro ⟨H1, H2, H3, H4, H5, H6, H7, H8, H9, H10, HH⟩ Hk
  by_cases h : bit (Scalar.cmpi .eq (BitVec.ofNat 32 (i 0).val) 0#32) = 1#1
  · rw [dif_pos h, if_pos h]
    unfold hbufs
    icases HH with ⟨H11, H12, H13⟩
    iapply (ldA_wp 𝒱 c E) $$ H1
    iintro H1
    iapply (ldA_wp 𝒱 c E) $$ H2
    iintro H2
    iapply (ldA_wp 𝒱 c E) $$ H11
    iintro H11
    iapply (stA_wp 𝒱 c E) $$ H11
    iintro H11
    iapply (ldA_wp 𝒱 c E) $$ H3
    iintro H3
    iapply (ldA_wp 𝒱 c E) $$ H12
    iintro H12
    iapply (stA_wp 𝒱 c E) $$ H12
    iintro H12
    iapply (ldA_wp 𝒱 c E) $$ H4
    iintro H4
    iapply (ldA_wp 𝒱 c E) $$ H13
    iintro H13
    iapply (stA_wp 𝒱 c E) $$ H13
    iintro H13
    iapply (prep2Rest_wp 𝒱 c E i h7 h8 h9 X5 X6 X7 X8 X9 (hidOf X1 X2 X3 X4)) $$ [H5 H6 H7 H8 H9 H11 H12 H13]
    · unfold hbufs
      isplitl [H5]; · iexact H5
      isplitl [H6]; · iexact H6
      isplitl [H7]; · iexact H7
      isplitl [H8]; · iexact H8
      isplitl [H9]; · iexact H9
      isplitl [H11]; · iexact H11
      isplitl [H12]; · iexact H12
      iexact H13
    iintro H5 H6 H7 H8 H9 HH
    iapply (ldA_wp 𝒱 c E) $$ H10
    iintro H10
    iapply (stA_wp 𝒱 c E) $$ H10
    iintro H10
    rw [wp_pure]
    imodintro
    unfold hbufs
    iapply Hk $$ H1 H2 H3 H4 H5 H6 H7 H8 H9 H10 HH
  · rw [dif_neg h, if_neg h]
    iapply (prep2Rest_wp 𝒱 c E i h7 h8 h9 X5 X6 X7 X8 X9 H) $$ [H5 H6 H7 H8 H9 HH]
    · isplitl [H5]; · iexact H5
      isplitl [H6]; · iexact H6
      isplitl [H7]; · iexact H7
      isplitl [H8]; · iexact H8
      isplitl [H9]; · iexact H9
      iexact HH
    iintro H5 H6 H7 H8 H9 HH
    iapply (ldA_wp 𝒱 c E) $$ H10
    iintro H10
    iapply (stA_wp 𝒱 c E) $$ H10
    iintro H10
    rw [wp_pure]
    imodintro
    iapply Hk $$ H1 H2 H3 H4 H5 H6 H7 H8 H9 H10 HH

theorem headRest_wp (i : grid5.Coords) {M9 : Memref sig .tc .vmem S1x1 .f32} {M10 : Memref sig .tc .smem S1 .f32} (add : Elt F .f32 → Elt F .f32)
    (X9 : Vec F S1x1 .f32) (a : Elt F .f32) {Q : PUnit.{1} → sProp 𝕄} :
    iprop(owns (c : Thread nD τ) M9 fullShare X9 ∗ owns (c : Thread nD τ) M10 fullShare (fun _ => a))
      ⊢ iprop((owns (c : Thread nD τ) M9 fullShare (if k5_cond2 i = 1#1 then k5_pay4 (add a) else X9)
          -∗ owns (c : Thread nD τ) M10 fullShare (fun _ => add a) -∗ Q ⟨⟩)
        -∗ wp frame (wpE (defs₀ (F := F)) 𝒱 (c : Thread nD τ) none) E (headRest i M9 M10 add) Q) := by
  unfold headRest
  iintro ⟨H9, H10⟩ Hk
  iapply (ld1_wp 𝒱 c E) $$ H10
  iintro H10
  iapply (ld1_wp 𝒱 c E) $$ H10
  iintro H10
  iapply (st1_wp 𝒱 c E) $$ H10
  iintro H10
  by_cases h : k5_cond2 i = 1#1
  · rw [dif_pos h, if_pos h]
    iapply (ld1_wp 𝒱 c E) $$ H10
    iintro H10
    iapply (ldA_wp 𝒱 c E) $$ H9
    iintro H9
    iapply (stA_wp 𝒱 c E) $$ H9
    iintro H9
    rw [wp_pure]
    imodintro
    iapply Hk $$ H9 H10
  · rw [dif_neg h, if_neg h, wp_pure]
    imodintro
    iapply Hk $$ H9 H10

/-- A point of the head kernel. -/
theorem head_wp (i : grid5.Coords) {M1 : Memref sig .tc .vmem S256x1024 .f32} {M2 : Memref sig .tc .vmem S2003x1024 .f32}
    {M3 M4 : Memref sig .tc .vmem S256x1 .i32} {M5 M6 M7 : Memref sig .tc .vmem S2816x1 .f32} {M8 : Memref sig .tc .vmem S256x1 .f32}
    {M9 : Memref sig .tc .vmem S1x1 .f32} {M10 : Memref sig .tc .smem S1 .f32}
    (X1 : Vec F S256x1024 .f32) (X2 : Vec F S2003x1024 .f32) (X3 X4 : Vec F S256x1 .i32) (X5 X6 X7 : Vec F S2816x1 .f32)
    (X8 : Vec F S256x1 .f32) (X9 : Vec F S1x1 .f32) (a : Elt F .f32) {Q : PUnit.{1} → sProp 𝕄} :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7 ∗ owns (c : Thread nD τ) M8 fullShare X8 ∗ owns (c : Thread nD τ) M9 fullShare X9
        ∗ owns (c : Thread nD τ) M10 fullShare (fun _ => a))
      ⊢ iprop((owns (c : Thread nD τ) M1 fullShare X1 -∗ owns (c : Thread nD τ) M2 fullShare X2 -∗ owns (c : Thread nD τ) M3 fullShare X3
          -∗ owns (c : Thread nD τ) M4 fullShare X4 -∗ owns (c : Thread nD τ) M5 fullShare X5 -∗ owns (c : Thread nD τ) M6 fullShare X6
          -∗ owns (c : Thread nD τ) M7 fullShare X7 -∗ owns (c : Thread nD τ) M8 fullShare (outOf X1 X2 X3 X4 X5 X6 X7)
          -∗ owns (c : Thread nD τ) M9 fullShare (if k5_cond2 i = 1#1 then k5_pay4 (accOf i X1 X2 X3 X4 X5 X6 X7 a) else X9)
          -∗ owns (c : Thread nD τ) M10 fullShare (fun _ => accOf i X1 X2 X3 X4 X5 X6 X7 a) -∗ Q ⟨⟩)
        -∗ wp frame (wpE (defs₀ (F := F)) 𝒱 (c : Thread nD τ) none) E (headProg i M1 M2 M3 M4 M5 M6 M7 M8 M9 M10) Q) := by
  unfold headProg accOf outOf
  iintro ⟨H1, H2, H3, H4, H5, H6, H7, H8, H9, H10⟩ Hk
  iapply (ldA_wp 𝒱 c E) $$ H1
  iintro H1
  iapply (ldA_wp 𝒱 c E) $$ H2
  iintro H2
  iapply (ldA_wp 𝒱 c E) $$ H3
  iintro H3
  iapply (ldA_wp 𝒱 c E) $$ H5
  iintro H5
  iapply (ldA_wp 𝒱 c E) $$ H6
  iintro H6
  iapply (ldA_wp 𝒱 c E) $$ H7
  iintro H7
  iapply (ldA_wp 𝒱 c E) $$ H4
  iintro H4
  iapply (ldA_wp 𝒱 c E) $$ H8
  iintro H8
  iapply (stA_wp 𝒱 c E) $$ H8
  iintro H8
  by_cases h : bit (Scalar.cmpi .eq (BitVec.ofNat 32 (i 0).val) 0#32) = 1#1
  · rw [dif_pos h, if_pos h]
    iapply (ld1_wp 𝒱 c E) $$ H10
    iintro H10
    iapply (st1_wp 𝒱 c E) $$ H10
    iintro H10
    iapply (headRest_wp 𝒱 c E i _ X9 _) $$ [H9 H10]
    · isplitl [H9]; · iexact H9
      iexact H10
    iapply Hk $$ H1 H2 H3 H4 H5 H6 H7 H8
  · rw [dif_neg h, if_neg h]
    iapply (headRest_wp 𝒱 c E i _ X9 a) $$ [H9 H10]
    · isplitl [H9]; · iexact H9
      iexact H10
    iapply Hk $$ H1 H2 H3 H4 H5 H6 H7 H8

end Rules

end Cert.KernelIdeal.Pf

end
-- ==== Proof.Ideal.R0.lean ====
/-
  The first preparing kernel's region: what its windows hold, and that its body keeps to it.
-/
module

public import proofs.«01_k».proof.Proof.Ideal.Bodies
public import proofs.«01_k».proof.Proof.Region
public import proofs.«01_k».proof.Proof.Gen.KernelIdeal.Launch
public import proofs.«01_k».proof.Proof.Gen.KernelIdeal.Points
public import Idealize.ShloMosaic.Lib.Pipeline.ArrRel
public import Idealize.ShloMosaic.Lib.Pipeline.Value

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Own

variable {F : FTy → Type} [FloatOps F]
variable {Ix : Type} [DecidableEq Ix] {U : Type} [URA U] {Lvl : Type} [Preorder Lvl]

local notation "𝕄" => MT nD τ sig Ix (Elt F) ℕ U Lvl

theorem zero_emb (n m : ℕ) : 0 * n + 1 * m = m := by omega

/-- A buffer at two indices with equal coordinates. -/
theorem same2 {A B : ℕ} {α : Type} (X : (⟨2, ![A, B]⟩ : Shape).Idx → α) (x y : (⟨2, ![A, B]⟩ : Shape).Idx)
    (h : (x 0).val = (y 0).val ∧ (x 1).val = (y 1).val) : X x = X y :=
  congrArg X (funext (Fin.forall_fin_two.mpr ⟨Fin.ext h.1, Fin.ext h.2⟩))

/-- The targets of a valuation. -/
abbrev vT (V : Valuation τ sig (Elt F)) : Vec F S2048x1 .i32 := V (Proc.devRef .tc main_v0)

/-- What the first preparing kernel's windows hold. -/
def rd0 (V : Valuation τ sig (Elt F)) (c : Dev nD) : RDat τ (Elt F) Ix ℕ U Lvl cfg0 c where
  A w := V (Proc.devRef .tc (arrRef spec0 w))
  after := fun
    | 0, _, Y, X => X = Y
    | 1, t, _, X => X = posOf (grid0.coords t) (vT V)
    | 2, _, _, X => X = cntOf (vT V)
    | 3, _, _, X => X = offOf (vT V)
    | ⟨_ + 4, h⟩, _, _, _ => absurd h (Nat.not_lt.2 (Nat.le_add_left _ _))
  Φ _ := scopedRest spec0 c
  q _ := fullShare
  owed _ := 0

theorem fetched0 (V : Valuation τ sig (Elt F)) (c : Dev nD) (t : Fin cfg0.N) (d) :
    (rd0 (Ix := Ix) (U := U) (Lvl := Lvl) V c).fetched 0 t d = vT V := by
  funext j
  exact same2 (vT V) (((cfg0.win 0).rect t).emb j) j ⟨zero_emb _ _, zero_emb _ _⟩

theorem body0 (V : Valuation τ sig (Elt F)) (c : Dev nD) (𝒱 : Variants) (ι : Ix) :
    (rd0 (Ix := Ix) (U := U) (Lvl := Lvl) V c).BodyObligation (defs₀ (F := F)) 𝒱 ι Set.univ := by
  intro t Y hY
  have e0 : Y 0 = vT V := by
    obtain ⟨d, hd⟩ := finds_input (rd0 (Ix := Ix) (U := U) (Lvl := Lvl) V c) 0 rfl (fun _ _ _ h => h) (fun _ _ _ => rfl) t (Y 0) (hY 0)
    rw [hd, fetched0]
  have keep : ∀ (w : Fin cfg0.W) (v : (cfg0.win w).block.Idx → Elt F (cfg0.win w).elt), (cfg0.win w).isOut = true →
      (∀ t : Fin cfg0.N, (cfg0.win w).flush t = true ↔ t.val % 8 = 7) →
      (∀ t Y X, (rd0 (Ix := Ix) (U := U) (Lvl := Lvl) V c).after w t Y X → X = v) →
      ¬ k0_cond1 (grid0.coords t) = 1#1 → Y w = v := by
    intro w v ho hfl hv hc
    have ht : t.val ≠ 0 := by
      intro h0
      apply hc
      rw [show t = t0_0 from Fin.ext h0]
      decide
    have hfe : (cfg0.win w).fetch t = false := by
      unfold Window.fetch
      rw [ho]
      rfl
    rcases ((rd0 (Ix := Ix) (U := U) (Lvl := Lvl) V c).finds_of_pos hfe ht (Y w)).mp (hY w) with h | ⟨Z, -, h⟩
    · have h7 := (hfl _).mp h
      have hN : t.val < 8 := t.isLt
      simp only at h7
      omega
    · exact hv _ _ _ h
  simp only [bigSep_W0]
  show _ ⊢ wp frame (wpE (defs₀ (F := F)) 𝒱 (c : Thread nD τ) none) Set.univ (bodyAt0 t) _
  rw [bodyAt0, prep1_eq]
  iintro ⟨HΦ, HO, H0, H1, H2, H3⟩
  iapply (prep1_wp 𝒱 c Set.univ (grid0.coords t) (Y 0) (Y 1) (Y 2) (Y 3)) $$ [H0 H1 H2 H3]
  · isplitl [H0]; · iexact H0
    isplitl [H1]; · iexact H1
    isplitl [H2]; · iexact H2
    iexact H3
  iintro H0 H1 H2 H3
  isplitl [HΦ]; · iapply (show (rd0 V c).Φ t.castSucc ⊢ (rd0 V c).Φ t.succ from .rfl) $$ HΦ
  isplitl [HO]; · iexact HO
  isplitl [H0]
  · iexists Y 0
    isplitr; · ipureintro; exact rfl
    iexact H0
  isplitl [H1]
  · iexists _
    isplitr; swap; · iexact H1
    ipureintro; show posOf _ _ = posOf _ _; rw [e0]
  isplitl [H2]
  · iexists _
    isplitr; swap; · iexact H2
    ipureintro; show ite _ _ _ = cntOf _; rw [e0]
    split
    · rfl
    · next h => exact keep 2 _ rfl flush0_2 (fun _ _ _ h => h) h
  · iexists _
    isplitr; swap; · iexact H3
    ipureintro; show ite _ _ _ = offOf _; rw [e0]
    split
    · rfl
    · next h => exact keep 3 _ rfl flush0_3 (fun _ _ _ h => h) h

end Cert.KernelIdeal.Pf

end
-- ==== Proof.Ideal.R1.lean ====
/-
  The second preparing kernel's region: what its windows hold, and that its body keeps to it.
-/
module

public import proofs.«01_k».proof.Proof.Ideal.R0
public import proofs.«01_k».proof.Proof.Region
public import proofs.«01_k».proof.Proof.Gen.KernelIdeal.Launch
public import proofs.«01_k».proof.Proof.Gen.KernelIdeal.Points
public import Idealize.ShloMosaic.Lib.Pipeline.ArrRel
public import Idealize.ShloMosaic.Lib.Pipeline.Value

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Own

variable {F : FTy → Type} [FloatOps F]
variable {Ix : Type} [DecidableEq Ix] {U : Type} [URA U] {Lvl : Type} [Preorder Lvl]

local notation "𝕄" => MT nD τ sig Ix (Elt F) ℕ U Lvl

/-- The positions of a valuation. -/
abbrev vP (V : Valuation τ sig (Elt F)) : Vec F S2048x1 .i32 := V (Proc.devRef .tc main_v1_0)

/-- The activations of a valuation. -/
abbrev vX (V : Valuation τ sig (Elt F)) : Vec F S2048x1024 .f32 := V (Proc.devRef .tc main_arg0)

/-- The hidden rows of a valuation. -/
def vH (V : Valuation τ sig (Elt F)) : Hid F :=
  hidOf (V (Proc.devRef .tc main_arg0)) (V (Proc.devRef .tc main_arg3)) (V (Proc.devRef .tc main_arg5)) (V (Proc.devRef .tc main_arg7))

/-- The scratch of the second preparing kernel: anything before the first point, the hidden rows after it. -/
def phi1 (V : Valuation τ sig (Elt F)) (c : Dev nD) (n : ℕ) : sProp 𝕄 :=
  iprop((∃ H : Hid F, ⌜n ≠ 0 → H = vH V⌝
      ∗ hbufs c (Memref.whole cc1_scratch0) (Memref.whole cc1_scratch1) (Memref.whole cc1_scratch2) H)
    ∗ scopedRestBut spec1 c [cc1_scratch0, cc1_scratch1, cc1_scratch2])

/-- What the second preparing kernel's windows hold. -/
def rd1 (V : Valuation τ sig (Elt F)) (c : Dev nD) : RDat τ (Elt F) Ix ℕ U Lvl cfg1 c where
  A w := V (Proc.devRef .tc (arrRef spec1 w))
  after := fun
    | 0, _, Y, X => X = Y
    | 1, _, Y, X => X = Y
    | 2, _, Y, X => X = Y
    | 3, _, Y, X => X = Y
    | 4, _, Y, X => X = Y
    | 5, _, Y, X => X = Y
    | 6, t, _, X => X = k1_pay8 (grid1.coords t) (vP V) (vH V).a
    | 7, t, _, X => X = k1_pay9 (grid1.coords t) (vP V) (vH V).b
    | 8, t, _, X => X = k1_pay10 (grid1.coords t) (vP V) (vH V).c
    | 9, t, _, X => X = tsOf (grid1.coords t) (vP V) (vT V)
    | ⟨_ + 10, h⟩, _, _, _ => absurd h (Nat.not_lt.2 (Nat.le_add_left _ _))
  Φ t := phi1 V c t.val
  q _ := fullShare
  owed _ := 0

theorem in1 (V : Valuation τ sig (Elt F)) (c : Dev nD) :
    (scopedRest spec1 c : sProp 𝕄) ⊢ phi1 V c 0 := by
  rw [scopedRest1_split]
  unfold phi1 hbufs
  iintro ⟨⟨⟨%f, H0⟩, ⟨%g, H1⟩, ⟨%h, H2⟩⟩, HR⟩
  isplitr [HR]; swap; · iexact HR
  iexists (⟨f, g, h⟩ : Hid F)
  isplitr
  · ipureintro; exact fun h => absurd rfl h
  rw [owns_whole, owns_whole, owns_whole]
  isplitl [H0]; · iexact H0
  isplitl [H1]; · iexact H1
  iexact H2

theorem out1 (V : Valuation τ sig (Elt F)) (c : Dev nD) (n : ℕ) :
    (phi1 V c n : sProp 𝕄) ⊢ scopedRest spec1 c := by
  rw [scopedRest1_split]
  unfold phi1 hbufs
  simp only [owns_whole]
  iintro ⟨⟨%H, ⟨-, H0, H1, H2⟩⟩, HR⟩
  isplitr [HR]; swap; · iexact HR
  isplitl [H0]; · iexists _; iexact H0
  isplitl [H1]; · iexists _; iexact H1
  iexists _; iexact H2

theorem finds1 (V : Valuation τ sig (Elt F)) (c : Dev nD) (t : Fin cfg1.N)
    (Y : (w : Fin cfg1.W) → (cfg1.win w).block.Idx → Elt F (cfg1.win w).elt)
    (hY : ∀ w, (rd1 (Ix := Ix) (U := U) (Lvl := Lvl) V c).Finds w t (Y w)) :
    Y 0 = vX V ∧ Y 1 = V (Proc.devRef .tc main_arg3) ∧ Y 2 = V (Proc.devRef .tc main_arg5) ∧ Y 3 = V (Proc.devRef .tc main_arg7)
      ∧ Y 4 = vT V ∧ Y 5 = vP V := by
  refine ⟨?_, ?_, ?_, ?_, ?_, ?_⟩
  · obtain ⟨d, hd⟩ := finds_input (rd1 V c) 0 rfl (fun _ _ _ h => h) (fun _ _ _ => rfl) t (Y 0) (hY 0)
    rw [hd]; funext j
    exact same2 (vX V) (((cfg1.win 0).rect t).emb j) j ⟨zero_emb _ _, zero_emb _ _⟩
  · obtain ⟨d, hd⟩ := finds_input (rd1 V c) 1 rfl (fun _ _ _ h => h) (fun _ _ _ => rfl) t (Y 1) (hY 1)
    rw [hd]; funext j
    exact same2 (V (Proc.devRef .tc main_arg3)) (((cfg1.win 1).rect t).emb j) j ⟨zero_emb _ _, zero_emb _ _⟩
  · obtain ⟨d, hd⟩ := finds_input (rd1 V c) 2 rfl (fun _ _ _ h => h) (fun _ _ _ => rfl) t (Y 2) (hY 2)
    rw [hd]; funext j
    exact same2 (V (Proc.devRef .tc main_arg5)) (((cfg1.win 2).rect t).emb j) j ⟨zero_emb _ _, zero_emb _ _⟩
  · obtain ⟨d, hd⟩ := finds_input (rd1 V c) 3 rfl (fun _ _ _ h => h) (fun _ _ _ => rfl) t (Y 3) (hY 3)
    rw [hd]; funext j
    exact same2 (V (Proc.devRef .tc main_arg7)) (((cfg1.win 3).rect t).emb j) j ⟨zero_emb _ _, zero_emb _ _⟩
  · obtain ⟨d, hd⟩ := finds_input (rd1 V c) 4 rfl (fun _ _ _ h => h) (fun _ _ _ => rfl) t (Y 4) (hY 4)
    rw [hd]; funext j
    exact same2 (vT V) (((cfg1.win 4).rect t).emb j) j ⟨zero_emb _ _, zero_emb _ _⟩
  · obtain ⟨d, hd⟩ := finds_input (rd1 V c) 5 rfl (fun _ _ _ h => h) (fun _ _ _ => rfl) t (Y 5) (hY 5)
    rw [hd]; funext j
    exact same2 (vP V) (((cfg1.win 5).rect t).emb j) j ⟨zero_emb _ _, zero_emb _ _⟩

theorem start1 (t : Fin grid1.N) :
    bit (Scalar.cmpi .eq (BitVec.ofNat 32 (grid1.coords t 0).val) 0#32) = 1#1 ↔ t.val = 0 := by
  revert t; decide

theorem body1 (V : Valuation τ sig (Elt F)) (c : Dev nD) (𝒱 : Variants) (ι : Ix) :
    (rd1 (Ix := Ix) (U := U) (Lvl := Lvl) V c).BodyObligation (defs₀ (F := F)) 𝒱 ι Set.univ := by
  intro t Y hY
  obtain ⟨e0, e1, e2, e3, e4, e5⟩ := finds1 V c t Y hY
  simp only [bigSep_W1]
  show _ ⊢ wp frame (wpE (defs₀ (F := F)) 𝒱 (c : Thread nD τ) none) Set.univ (bodyAt1 t) _
  rw [bodyAt1, prep2_eq]
  show iprop(phi1 V c t.val ∗ _) ⊢ _
  unfold phi1
  iintro ⟨⟨⟨%H, %hH, HH⟩, HR⟩, HO, H0, H1, H2, H3, H4, H5, H6, H7, H8, H9⟩
  have hH' : (if bit (Scalar.cmpi .eq (BitVec.ofNat 32 (grid1.coords t 0).val) 0#32) = 1#1 then hidOf (Y 0) (Y 1) (Y 2) (Y 3) else H) = vH V := by
    split
    · unfold vH; rw [e0, e1, e2, e3]
    · next h => exact hH fun h0 => h ((start1 t).mpr h0)
  iapply (prep2_wp 𝒱 c Set.univ (grid1.coords t) _ _ _ _ _ _ (Y 0) (Y 1) (Y 2) (Y 3) (Y 4) (Y 5) (Y 6) (Y 7) (Y 8) (Y 9) H)
    $$ [H0 H1 H2 H3 H4 H5 H6 H7 H8 H9 HH]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HH
  rw [hH']
  iintro H0 H1 H2 H3 H4 H5 H6 H7 H8 H9 HH
  isplitl [HH HR]
  · iapply (show phi1 V c (t.val + 1) ⊢ (rd1 V c).Φ t.succ from .rfl)
    unfold phi1
    isplitl [HH]; swap; · iexact HR
    iexists vH V
    isplitr; · ipureintro; exact fun _ => rfl
    iexact HH
  isplitl [HO]; · iexact HO
  isplitl [H0]
  · iexists _
    isplitr; swap; · iexact H0
    ipureintro; exact rfl
  isplitl [H1]
  · iexists _
    isplitr; swap; · iexact H1
    ipureintro; exact rfl
  isplitl [H2]
  · iexists _
    isplitr; swap; · iexact H2
    ipureintro; exact rfl
  isplitl [H3]
  · iexists _
    isplitr; swap; · iexact H3
    ipureintro; exact rfl
  isplitl [H4]
  · iexists _
    isplitr; swap; · iexact H4
    ipureintro; exact rfl
  isplitl [H5]
  · iexists _
    isplitr; swap; · iexact H5
    ipureintro; exact rfl
  rw [e4, e5]
  isplitl [H6]
  · iexists _
    isplitr; swap; · iexact H6
    ipureintro; exact rfl
  isplitl [H7]
  · iexists _
    isplitr; swap; · iexact H7
    ipureintro; exact rfl
  isplitl [H8]
  · iexists _
    isplitr; swap; · iexact H8
    ipureintro; exact rfl
  · iexists _
    isplitr; swap; · iexact H9
    ipureintro; exact rfl

end Cert.KernelIdeal.Pf
-- ==== Proof.Ideal.R5.lean ====
/-
  The head kernel's region: what its windows hold, and that its body keeps to it.
-/
module

public import proofs.«01_k».proof.Proof.Ideal.R1
public import Idealize.ShloMosaic.Lib.Pointwise.Index
public import proofs.«01_k».proof.Proof.Region
public import proofs.«01_k».proof.Proof.Gen.KernelIdeal.Launch
public import proofs.«01_k».proof.Proof.Gen.KernelIdeal.Points
public import Idealize.ShloMosaic.Lib.Pipeline.ArrRel
public import Idealize.ShloMosaic.Lib.Pipeline.Value

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Own

variable {F : FTy → Type} [FloatOps F]
variable {Ix : Type} [DecidableEq Ix] {U : Type} [URA U] {Lvl : Type} [Preorder Lvl]

local notation "𝕄" => MT nD τ sig Ix (Elt F) ℕ U Lvl

/-- The 256 rows of block `n` of an array of 2048. -/
def rowBlk {d : ℕ} {α : Type} (X : (⟨2, ![2048, d]⟩ : Shape).Idx → α) (n : Fin 8) : (⟨2, ![256, d]⟩ : Shape).Idx → α :=
  fun j => X (Idealize.ShloMosaic.ix2 ⟨n.val * 256 + (j 0).val, by have := n.isLt; have h : (j 0).val < 256 := (j 0).isLt; omega⟩ (j 1))

/-- The three tails' log-probabilities and the head's weights of a valuation. -/
abbrev vL1 (V : Valuation τ sig (Elt F)) : Vec F S2816x1 .f32 := V (Proc.devRef .tc main_v24)
abbrev vL2 (V : Valuation τ sig (Elt F)) : Vec F S2816x1 .f32 := V (Proc.devRef .tc main_v25)
abbrev vL3 (V : Valuation τ sig (Elt F)) : Vec F S2816x1 .f32 := V (Proc.devRef .tc main_v26)
abbrev vW (V : Valuation τ sig (Elt F)) : Vec F S2003x1024 .f32 := V (Proc.devRef .tc main_arg2)

/-- The log-probabilities of block `n` of the rows. -/
def outBlk (V : Valuation τ sig (Elt F)) (n : Fin 8) : Vec F S256x1 .f32 :=
  outOf (rowBlk (vX V) n) (vW V) (rowBlk (vT V) n) (rowBlk (vP V) n) (vL1 V) (vL2 V) (vL3 V)

/-- The accumulator after the first `n` blocks of rows. -/
def accAt (V : Valuation τ sig (Elt F)) : (n : ℕ) → n ≤ 8 → Elt F .f32
  | 0, _ => (Scalar.ofBits .f32 0x00000000#32 : F .f32)
  | n + 1, h => k5_pay3 (k5_pay1 (rowBlk (vX V) ⟨n, h⟩) (vW V) (rowBlk (vT V) ⟨n, h⟩)) (vL1 V) (vL2 V) (vL3 V) (rowBlk (vP V) ⟨n, h⟩)
      (accAt V n (Nat.le_of_succ_le h))

/-- The accumulator's buffer: anything before the first point, the sum over the blocks done after it. -/
def phi5 (V : Valuation τ sig (Elt F)) (c : Dev nD) (n : ℕ) (h : n ≤ 8) : sProp 𝕄 :=
  iprop((∃ a : Elt F .f32, ⌜n ≠ 0 → a = accAt V n h⌝ ∗ owns (c : Thread nD τ) (Memref.whole cc5_scratch0) fullShare (fun _ => a))
    ∗ scopedRestBut spec5 c [cc5_scratch0])

/-- What the head kernel's windows hold. -/
def rd5 (V : Valuation τ sig (Elt F)) (c : Dev nD) : RDat τ (Elt F) Ix ℕ U Lvl cfg5 c where
  A w := V (Proc.devRef .tc (arrRef spec5 w))
  after := fun
    | 0, _, Y, X => X = Y
    | 1, _, Y, X => X = Y
    | 2, _, Y, X => X = Y
    | 3, _, Y, X => X = Y
    | 4, _, Y, X => X = Y
    | 5, _, Y, X => X = Y
    | 6, _, Y, X => X = Y
    | 7, t, _, X => X = outBlk V t
    | 8, t, _, X => t.val = 7 → X = k5_pay4 (accAt V 8 (Nat.le_refl 8))
    | ⟨_ + 9, h⟩, _, _, _ => absurd h (Nat.not_lt.2 (Nat.le_add_left _ _))
  Φ t := phi5 V c t.val (Nat.le_of_lt_succ t.isLt)
  q _ := fullShare
  owed _ := 0

theorem one1 (i j : S1.Idx) : i = j := funext (Fin.forall_fin_one.mpr (Subsingleton.elim (α := Fin 1) _ _))

theorem in5 (V : Valuation τ sig (Elt F)) (c : Dev nD) :
    (scopedRest spec5 c : sProp 𝕄) ⊢ phi5 V c 0 (Nat.zero_le 8) := by
  rw [scopedRest5_split]
  unfold phi5
  simp only [owns_whole]
  iintro ⟨⟨%f, H0⟩, HR⟩
  isplitr [HR]; swap; · iexact HR
  have e : f = fun _ => f i1 := funext fun j => congrArg f (one1 j i1)
  rw [e]
  iexists f i1
  isplitr
  · ipureintro; exact fun h => absurd rfl h
  iexact H0

theorem out5 (V : Valuation τ sig (Elt F)) (c : Dev nD) (n : ℕ) (h : n ≤ 8) :
    (phi5 V c n h : sProp 𝕄) ⊢ scopedRest spec5 c := by
  rw [scopedRest5_split]
  unfold phi5
  simp only [owns_whole]
  iintro ⟨⟨%a, ⟨-, H0⟩⟩, HR⟩
  isplitr [HR]; swap; · iexact HR
  iexists _; iexact H0

theorem coord5 (t : Fin grid5.N) : (BitVec.ofNat 32 (grid5.coords t 0).val).toNat = t.val := by
  revert t; decide

theorem blk_emb (t : Fin grid5.N) (m : ℕ) : (BitVec.ofNat 32 (grid5.coords t 0).val).toNat * 256 + 1 * m = t.val * 256 + m := by
  rw [coord5, Nat.one_mul]

theorem finds5 (V : Valuation τ sig (Elt F)) (c : Dev nD) (t : Fin cfg5.N)
    (Y : (w : Fin cfg5.W) → (cfg5.win w).block.Idx → Elt F (cfg5.win w).elt)
    (hY : ∀ w, (rd5 (Ix := Ix) (U := U) (Lvl := Lvl) V c).Finds w t (Y w)) :
    Y 0 = rowBlk (vX V) t ∧ Y 1 = vW V ∧ Y 2 = rowBlk (vT V) t ∧ Y 3 = rowBlk (vP V) t
      ∧ Y 4 = vL1 V ∧ Y 5 = vL2 V ∧ Y 6 = vL3 V := by
  refine ⟨?_, ?_, ?_, ?_, ?_, ?_, ?_⟩
  · obtain ⟨d, hd⟩ := finds_input (rd5 V c) 0 rfl (fun _ _ _ h => h) (fun _ _ _ => rfl) t (Y 0) (hY 0)
    rw [hd]; funext j
    exact same2 (vX V) (((cfg5.win 0).rect t).emb j) _ ⟨blk_emb t _, zero_emb _ _⟩
  · obtain ⟨d, hd⟩ := finds_input (rd5 V c) 1 rfl (fun _ _ _ h => h) (fun _ _ _ => rfl) t (Y 1) (hY 1)
    rw [hd]; funext j
    exact same2 (vW V) (((cfg5.win 1).rect t).emb j) j ⟨zero_emb _ _, zero_emb _ _⟩
  · obtain ⟨d, hd⟩ := finds_input (rd5 V c) 2 rfl (fun _ _ _ h => h) (fun _ _ _ => rfl) t (Y 2) (hY 2)
    rw [hd]; funext j
    exact same2 (vT V) (((cfg5.win 2).rect t).emb j) _ ⟨blk_emb t _, zero_emb _ _⟩
  · obtain ⟨d, hd⟩ := finds_input (rd5 V c) 3 rfl (fun _ _ _ h => h) (fun _ _ _ => rfl) t (Y 3) (hY 3)
    rw [hd]; funext j
    exact same2 (vP V) (((cfg5.win 3).rect t).emb j) _ ⟨blk_emb t _, zero_emb _ _⟩
  · obtain ⟨d, hd⟩ := finds_input (rd5 V c) 4 rfl (fun _ _ _ h => h) (fun _ _ _ => rfl) t (Y 4) (hY 4)
    rw [hd]; funext j
    exact same2 (vL1 V) (((cfg5.win 4).rect t).emb j) j ⟨zero_emb _ _, zero_emb _ _⟩
  · obtain ⟨d, hd⟩ := finds_input (rd5 V c) 5 rfl (fun _ _ _ h => h) (fun _ _ _ => rfl) t (Y 5) (hY 5)
    rw [hd]; funext j
    exact same2 (vL2 V) (((cfg5.win 5).rect t).emb j) j ⟨zero_emb _ _, zero_emb _ _⟩
  · obtain ⟨d, hd⟩ := finds_input (rd5 V c) 6 rfl (fun _ _ _ h => h) (fun _ _ _ => rfl) t (Y 6) (hY 6)
    rw [hd]; funext j
    exact same2 (vL3 V) (((cfg5.win 6).rect t).emb j) j ⟨zero_emb _ _, zero_emb _ _⟩

theorem start5 (t : Fin grid5.N) :
    bit (Scalar.cmpi .eq (BitVec.ofNat 32 (grid5.coords t 0).val) 0#32) = 1#1 ↔ t.val = 0 := by
  revert t; decide

theorem last5 (t : Fin grid5.N) : k5_cond2 (grid5.coords t) = 1#1 ↔ t.val = 7 := by
  revert t; decide

theorem body5 (V : Valuation τ sig (Elt F)) (c : Dev nD) (𝒱 : Variants) (ι : Ix) :
    (rd5 (Ix := Ix) (U := U) (Lvl := Lvl) V c).BodyObligation (defs₀ (F := F)) 𝒱 ι Set.univ := by
  intro t Y hY
  obtain ⟨e0, e1, e2, e3, e4, e5, e6⟩ := finds5 V c t Y hY
  simp only [bigSep_W5]
  show _ ⊢ wp frame (wpE (defs₀ (F := F)) 𝒱 (c : Thread nD τ) none) Set.univ (bodyAt5 t) _
  rw [bodyAt5, head_eq, wp_bind]
  have hN : t.val < 8 := t.isLt
  show iprop(phi5 V c t.val (Nat.le_of_lt hN) ∗ _) ⊢ _
  unfold phi5
  iintro ⟨⟨⟨%a, %ha, HA⟩, HR⟩, HO, H0, H1, H2, H3, H4, H5, H6, H7, H8⟩
  have hacc : accOf (grid5.coords t) (Y 0) (Y 1) (Y 2) (Y 3) (Y 4) (Y 5) (Y 6) a = accAt V (t.val + 1) hN := by
    unfold accOf
    have e : (if bit (Scalar.cmpi .eq (BitVec.ofNat 32 (grid5.coords t 0).val) 0#32) = 1#1 then (Scalar.ofBits .f32 0x00000000#32 : F .f32) else a)
        = accAt V t.val (Nat.le_of_lt hN) := by
      split
      · next h =>
        have h0 := (start5 t).mp h
        have : ∀ n (hn : n ≤ 8), n = 0 → (Scalar.ofBits .f32 0x00000000#32 : F .f32) = accAt V n hn := by
          intro n hn h; subst h; rfl
        exact this _ _ h0
      · next h => exact ha fun h0 => h ((start5 t).mpr h0)
    rw [e, e0, e1, e2, e3, e4, e5, e6]
    rfl
  iapply (head_wp 𝒱 c Set.univ (grid5.coords t) (Y 0) (Y 1) (Y 2) (Y 3) (Y 4) (Y 5) (Y 6) (Y 7) (Y 8) a)
    $$ [H0 H1 H2 H3 H4 H5 H6 H7 H8 HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HA
  rw [hacc]
  iintro H0 H1 H2 H3 H4 H5 H6 H7 H8 HA
  rw [wp_pure]
  imodintro
  isplitl [HA HR]
  · iapply (show phi5 V c (t.val + 1) hN ⊢ (rd5 V c).Φ t.succ from .rfl)
    unfold phi5
    isplitl [HA]; swap; · iexact HR
    iexists accAt V (t.val + 1) hN
    isplitr; · ipureintro; exact fun _ => rfl
    iexact HA
  isplitl [HO]; · iexact HO
  isplitl [H0]
  · iexists _
    isplitr; swap; · iexact H0
    ipureintro; exact rfl
  isplitl [H1]
  · iexists _
    isplitr; swap; · iexact H1
    ipureintro; exact rfl
  isplitl [H2]
  · iexists _
    isplitr; swap; · iexact H2
    ipureintro; exact rfl
  isplitl [H3]
  · iexists _
    isplitr; swap; · iexact H3
    ipureintro; exact rfl
  isplitl [H4]
  · iexists _
    isplitr; swap; · iexact H4
    ipureintro; exact rfl
  isplitl [H5]
  · iexists _
    isplitr; swap; · iexact H5
    ipureintro; exact rfl
  isplitl [H6]
  · iexists _
    isplitr; swap; · iexact H6
    ipureintro; exact rfl
  isplitl [H7]
  · iexists _
    isplitr; swap; · iexact H7
    ipureintro
    show outOf _ _ _ _ _ _ _ = outBlk V t
    rw [e0, e1, e2, e3, e4, e5, e6]
    rfl
  · iexists _
    isplitr; swap; · iexact H8
    ipureintro
    intro h7
    have : ∀ n (hn : n + 1 ≤ 8), n = 7 → k5_pay4 (accAt V (n + 1) hn) = k5_pay4 (accAt V 8 (Nat.le_refl 8)) := by
      intro n hn h; subst h; rfl
    rw [if_pos ((last5 t).mpr h7)]
    exact this _ _ h7

end Cert.KernelIdeal.Pf

end
-- ==== Proof.Ideal.Tails.lean ====
/-
  What the tail kernels' running buffers may hold after a number of blocks of columns, and a point of a tail kernel in those terms.
  The last block's rows past the vocabulary are not the program's to choose, so the buffers are described by a relation.
-/
module

public import proofs.«01_k».proof.Proof.Ideal.TailBody
public import Idealize.ShloMosaic.Lib.Pointwise.Index

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Own

variable {F : FTy → Type} [FloatOps F]
variable {Ix : Type} [DecidableEq Ix] {U : Type} [URA U] {Lvl : Type} [Preorder Lvl]

local notation "𝕄" => MT nD τ sig Ix (Elt F) ℕ U Lvl

/-- `X` is block `n` of the rows of `W` where the block lies inside `W`. -/
def Agrees {d rows : ℕ} {α : Type} (W : (⟨2, ![rows, d]⟩ : Shape).Idx → α) (n : ℕ) (X : (⟨2, ![2048, d]⟩ : Shape).Idx → α) : Prop :=
  ∀ (j : (⟨2, ![2048, d]⟩ : Shape).Idx) (h : n * 2048 + (j 0).val < rows), X j = W (Idealize.ShloMosaic.ix2 ⟨n * 2048 + (j 0).val, h⟩ (j 1))

/-- What a tail kernel's running buffers may hold after the first `n` blocks of columns. -/
inductive Reach {d rows : ℕ} (T : Tail F d) (nL off cnt : BitVec 32) (H : Vec F (⟨2, ![2816, d]⟩ : Shape) .bf16)
    (W : (⟨2, ![rows, d]⟩ : Shape).Idx → Elt F .f32) (ts : Vec F S2816x1 .i32) : ℕ → St F → Prop
  | zero (st : St F) : Reach T nL off cnt H W ts 0 st
  | succ (n : ℕ) (st : St F) (X : Vec F (⟨2, ![2048, d]⟩ : Shape) .f32) (hX : Agrees W n X) (h : Reach T nL off cnt H W ts n st) :
      Reach T nL off cnt H W ts (n + 1) (T.step (BitVec.ofNat 32 n) nL off cnt H X ts st)

/-- What a tail kernel may have written when its `N` blocks are done. -/
def Done {d rows : ℕ} (T : Tail F d) (nL : BitVec 32) (tab : Vec F S2 .i32) (H : Vec F (⟨2, ![2816, d]⟩ : Shape) .bf16)
    (W : (⟨2, ![rows, d]⟩ : Shape).Idx → Elt F .f32) (ts : Vec F S2816x1 .i32) (N : ℕ) (X : Vec F S2816x1 .f32) : Prop :=
  ∃ st, Reach T nL (word tab 0 (by omega)) (word tab 1 (by omega)) H W ts N st
    ∧ X = T.out (word tab 0 (by omega)) (word tab 1 (by omega)) st

/-- A tail kernel's running buffers. -/
def sbufs (c : Dev nD) (M6 M7 M8 : Memref sig .tc .vmem S2816x1 .f32) (st : St F) : sProp 𝕄 :=
  iprop(owns (c : Thread nD τ) M6 fullShare st.m ∗ owns (c : Thread nD τ) M7 fullShare st.s ∗ owns (c : Thread nD τ) M8 fullShare st.g)

/-- A point of a tail kernel. -/
theorem tail_point (𝒱 : Variants) (c : Dev nD) {d rows : ℕ}
    {M1 : Memref sig .tc .smem S2 .i32} {M2 : Memref sig .tc .vmem (⟨2, ![2816, d]⟩ : Shape) .bf16}
    {M3 : Memref sig .tc .vmem (⟨2, ![2048, d]⟩ : Shape) .f32}
    {M4 : Memref sig .tc .vmem S2816x1 .i32} {M5 M6 M7 M8 : Memref sig .tc .vmem S2816x1 .f32}
    (hl2 : ∀ j h, M2.view.LoadsAt (rW d j h).toLoadRect) (hl3 : M3.view.LoadsAt (rD d).toLoadRect) (T : Tail F d) (arg0 nL : BitVec 32)
    (X1 : Vec F S2 .i32) (H : Vec F (⟨2, ![2816, d]⟩ : Shape) .bf16) (W : (⟨2, ![rows, d]⟩ : Shape).Idx → Elt F .f32)
    (ts : Vec F S2816x1 .i32) (n N : ℕ) (harg : arg0 = BitVec.ofNat 32 n) (hN : n = N → bit (Scalar.cmpi .eq arg0 nL) = 1#1)
    (X3 : Vec F (⟨2, ![2048, d]⟩ : Shape) .f32) (hX3 : Agrees W n X3)
    (X5 : Vec F S2816x1 .f32) {Q : PUnit.{1} → sProp 𝕄} :
    iprop(owns (c : Thread nD τ) M1 fullShare X1
        ∗ (∃ st, ⌜Reach T nL (word X1 0 (by omega)) (word X1 1 (by omega)) H W ts n st⌝ ∗ sbufs c M6 M7 M8 st)
        ∗ owns (c : Thread nD τ) M2 fullShare H ∗ owns (c : Thread nD τ) M3 fullShare X3 ∗ owns (c : Thread nD τ) M4 fullShare ts
        ∗ owns (c : Thread nD τ) M5 fullShare X5)
      ⊢ iprop((owns (c : Thread nD τ) M1 fullShare X1
          -∗ (∃ st, ⌜Reach T nL (word X1 0 (by omega)) (word X1 1 (by omega)) H W ts (n + 1) st⌝ ∗ sbufs c M6 M7 M8 st)
          -∗ owns (c : Thread nD τ) M2 fullShare H -∗ owns (c : Thread nD τ) M3 fullShare X3 -∗ owns (c : Thread nD τ) M4 fullShare ts
          -∗ (∃ X, ⌜n = N → Done T nL X1 H W ts (n + 1) X⌝ ∗ owns (c : Thread nD τ) M5 fullShare X) -∗ Q ⟨⟩)
        -∗ wp frame (wpE (defs₀ (F := F)) 𝒱 (c : Thread nD τ) none) Set.univ (tailProg M1 M2 M3 M4 M5 M6 M7 M8 hl2 hl3 T arg0 nL) Q) := by
  subst harg
  iintro ⟨H1, ⟨%st, %hst, HS⟩, H2, H3, H4, H5⟩ Hk
  unfold sbufs
  icases HS with ⟨H6, H7, H8⟩
  iapply (tail_wp 𝒱 c Set.univ hl2 hl3 T (BitVec.ofNat 32 n) nL fullShare X1 H X3 ts X5 st) $$ [H1 H2 H3 H4 H5 H6 H7 H8]
  · unfold tbufs
    isplitl [H1]; · iexact H1
    isplitl [H2 H4 H6 H7 H8]
    · isplitl [H2]; · iexact H2
      isplitl [H4]; · iexact H4
      isplitl [H6]; · iexact H6
      isplitl [H7]; · iexact H7
      iexact H8
    isplitl [H3]; · iexact H3
    iexact H5
  have hst' := Reach.succ n st X3 hX3 hst
  unfold tbufs
  iintro H1 ⟨H2, H4, H6, H7, H8⟩ H3 H5
  iapply Hk $$ H1 [H6 H7 H8] H2 H3 H4 [H5]
  · iexists _
    isplitr; · ipureintro; exact hst'
    isplitl [H6]; · iexact H6
    isplitl [H7]; · iexact H7
    iexact H8
  · iexists _
    isplitr; swap; · iexact H5
    ipureintro
    intro hn
    rw [if_pos (hN hn)]
    exact ⟨_, hst', rfl⟩

end Cert.KernelIdeal.Pf

end
-- ==== Proof.Ideal.TailRegions.lean ====
/-
  The tail kernels' regions: what their windows hold, and that their bodies keep to it.
-/
module

public import proofs.«01_k».proof.Proof.Ideal.R1
public import proofs.«01_k».proof.Proof.Ideal.Tails
public import proofs.«01_k».proof.Proof.Region
public import proofs.«01_k».proof.Proof.Gen.KernelIdeal.Launch
public import proofs.«01_k».proof.Proof.Gen.KernelIdeal.Points
public import Idealize.ShloMosaic.Lib.Pipeline.ArrRel
public import Idealize.ShloMosaic.Lib.Pipeline.Value

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Own

variable {F : FTy → Type} [FloatOps F]
variable {Ix : Type} [DecidableEq Ix] {U : Type} [URA U] {Lvl : Type} [Preorder Lvl]

local notation "𝕄" => MT nD τ sig Ix (Elt F) ℕ U Lvl

/-- The targets of the permuted rows of a valuation. -/
abbrev vTs (V : Valuation τ sig (Elt F)) : Vec F S2816x1 .i32 := V (Proc.devRef .tc main_v2_3)

theorem extent_of (ix k d j : ℕ) (hj : j < k) (h : ix * k + j < d) : j < (Pipeline.Clip.of ix k d).extent k := by
  unfold Pipeline.Clip.of
  split
  · exact hj
  · show j < d - ix * k; omega

/-- What kernel 2's result may be, of a valuation and a table. -/
abbrev done2 (V : Valuation τ sig (Elt F)) (tab : Vec F S2 .i32) (X : Vec F S2816x1 .f32) : Prop :=
  Done (rows := 8000) (tail2 (F := F)) 3#32 tab (V (Proc.devRef .tc main_v2_0)) (V (Proc.devRef .tc main_arg4)) (vTs V) 4 X

/-- The table and the running buffers of kernel 2 after its first `n` points. -/
def phi2 (V : Valuation τ sig (Elt F)) (c : Dev nD) (a : (pcfg2 (F := F)).Adm) (n : ℕ) : sProp 𝕄 :=
  iprop(owns (c : Thread nD τ) (Memref.whole main_v9) fullShare (a.1 0)
    ∗ (∃ st, ⌜Reach (rows := 8000) (tail2 (F := F)) 3#32 (word (a.1 0) 0 (by omega)) (word (a.1 0) 1 (by omega))
          (V (Proc.devRef .tc main_v2_0)) (V (Proc.devRef .tc main_arg4)) (vTs V) n st⌝
        ∗ sbufs c (Memref.whole cc2_scratch0) (Memref.whole cc2_scratch1) (Memref.whole cc2_scratch2) st)
    ∗ scopedRestBut spec2 c [cc2_scratch0, cc2_scratch1, cc2_scratch2])

/-- What kernel 2's windows hold. -/
def rd2 (V : Valuation τ sig (Elt F)) (a : (pcfg2 (F := F)).Adm) (c : Dev nD) : RDat τ (Elt F) Ix ℕ U Lvl (cfg2 a) c where
  A w := V (Proc.devRef .tc (arrRef spec2 w))
  after := fun
    | 0, _, Y, X => X = Y
    | 1, _, Y, X => X = Y
    | 2, _, Y, X => X = Y
    | 3, t, _, X => t.val = 3 → done2 V (a.1 0) X
    | ⟨_ + 4, h⟩, _, _, _ => absurd h (Nat.not_lt.2 (Nat.le_add_left _ _))
  Φ t := phi2 V c a t.val
  q _ := fullShare
  owed _ := 0

/-- The table, held. -/
def held2 (c : Dev nD) (X : Vec F S2 .i32) : sProp 𝕄 := owns (c : Thread nD τ) (Memref.whole main_v9) fullShare X

theorem table2 (c : Dev nD) (f : pre2.Contents (Elt F)) :
    (prefHeld (τ := τ) pre2 c (fun _ => fullShare) f : sProp 𝕄) = held2 c (f 0) := by
  unfold prefHeld held2
  rw [bigSep_univ_of_subsingleton (0 : Fin 1)]
  exact (owns_whole _ _ _ _).symm

theorem in2 (V : Valuation τ sig (Elt F)) (a : (pcfg2 (F := F)).Adm) (c : Dev nD) :
    iprop(prefHeld (τ := τ) pre2 c (fun _ => fullShare) a.1 ∗ scopedRest spec2 c : sProp 𝕄) ⊢ phi2 V c a 0 := by
  rw [scopedRest2_split]
  rw [table2]
  unfold phi2 sbufs
  rw [show (owns (c : Thread nD τ) (Memref.whole main_v9) fullShare (a.1 0) : sProp 𝕄) = held2 c (a.1 0) from rfl]
  simp only [owns_whole]
  iintro ⟨HT, ⟨⟨%f, H0⟩, ⟨%g, H1⟩, ⟨%h, H2⟩⟩, HR⟩
  isplitl [HT]; · iexact HT
  isplitr [HR]; swap; · iexact HR
  iexists (⟨f, g, h⟩ : St F)
  isplitr
  · ipureintro; exact Reach.zero _
  isplitl [H0]; · iexact H0
  isplitl [H1]; · iexact H1
  iexact H2

theorem out2 (V : Valuation τ sig (Elt F)) (a : (pcfg2 (F := F)).Adm) (c : Dev nD) (n : ℕ) :
    (phi2 V c a n : sProp 𝕄) ⊢ iprop(prefHeld (τ := τ) pre2 c (fun _ => fullShare) a.1 ∗ scopedRest spec2 c) := by
  rw [scopedRest2_split]
  rw [table2]
  unfold phi2 sbufs
  rw [show (owns (c : Thread nD τ) (Memref.whole main_v9) fullShare (a.1 0) : sProp 𝕄) = held2 c (a.1 0) from rfl]
  simp only [owns_whole]
  iintro ⟨HT, ⟨%st, ⟨-, H0, H1, H2⟩⟩, HR⟩
  isplitl [HT]; · iexact HT
  isplitr [HR]; swap; · iexact HR
  isplitl [H0]; · iexists _; iexact H0
  isplitl [H1]; · iexists _; iexact H1
  iexists _; iexact H2

theorem coord2 (t : Fin grid2.N) : (BitVec.ofNat 32 (grid2.coords t 0).val).toNat = t.val ∧ (grid2.coords t 0).val = t.val := by
  revert t; decide

theorem last2 (t : Fin grid2.N) : t.val = 3 → bit (Scalar.cmpi .eq (BitVec.ofNat 32 (grid2.coords t 0).val) 3#32) = 1#1 := by
  revert t; decide

theorem finds2 (V : Valuation τ sig (Elt F)) (a : (pcfg2 (F := F)).Adm) (c : Dev nD) (t : Fin grid2.N)
    (Y : (w : Fin 4) → (spec2 w).block.Idx → Elt F (spec2 w).elt)
    (hY : ∀ w, (rd2 (Ix := Ix) (U := U) (Lvl := Lvl) V a c).Finds w t (Y w)) :
    Y 0 = V (Proc.devRef .tc main_v2_0) ∧ Agrees (rows := 8000) (V (Proc.devRef .tc main_arg4)) t.val (Y 1) ∧ Y 2 = vTs V := by
  refine ⟨?_, ?_, ?_⟩
  · obtain ⟨d, hd⟩ := finds_input (rd2 V a c) 0 rfl (fun _ _ _ h => h) (fun _ _ _ => rfl) t (Y 0) (hY 0)
    rw [hd]; funext j
    exact same2 (V (Proc.devRef .tc main_v2_0)) ((((cfg2 a).win 0).rect t).emb j) j ⟨zero_emb _ _, zero_emb _ _⟩
  · obtain ⟨d, hd⟩ := finds_input (rd2 V a c) 1 rfl (fun _ _ _ h => h)
      (fun t t' h => funext fun x => congrArg (fun n => Pipeline.Clip.of n (S2048x256.size x) (S8000x256.size x)) (congrFun h x)) t (Y 1) (hY 1)
    rw [hd]
    intro j hj
    have hm : ((cfg2 a).win 1).moved (grid2.coords t) j = true :=
      (((cfg2 a).win 1).moved_iff _ j).mpr (Fin.forall_fin_two.mpr
        ⟨extent_of (cc2_transform_1 (grid2.coords t) 0) 2048 8000 _ (j 0).isLt (by rw [show cc2_transform_1 (grid2.coords t) 0 = t.val from (coord2 t).1]; exact hj),
          extent_of (cc2_transform_1 (grid2.coords t) 1) 256 256 _ (j 1).isLt (by rw [show cc2_transform_1 (grid2.coords t) 1 = 0 from rfl, Nat.zero_mul, Nat.zero_add]; exact (j 1).isLt)⟩)
    show ((cfg2 a).win 1).fill _ d _ j = _
    unfold Window.fill
    rw [dif_pos hm]
    exact same2 (V (Proc.devRef .tc main_arg4)) ((((cfg2 a).win 1).rect t).emb _) _ ⟨by
      show (BitVec.ofNat 32 (grid2.coords t 0).val).toNat * 2048 + 1 * (j 0).val = t.val * 2048 + (j 0).val
      rw [(coord2 t).1, Nat.one_mul], zero_emb _ _⟩
  · obtain ⟨d, hd⟩ := finds_input (rd2 V a c) 2 rfl (fun _ _ _ h => h) (fun _ _ _ => rfl) t (Y 2) (hY 2)
    rw [hd]; funext j
    exact same2 (vTs V) ((((cfg2 a).win 2).rect t).emb j) j ⟨zero_emb _ _, zero_emb _ _⟩

theorem point2 (V : Valuation τ sig (Elt F)) (a : (pcfg2 (F := F)).Adm) (c : Dev nD) (𝒱 : Variants) (t : Fin grid2.N)
    (s0 : Fin 1) (h0 : (stage2_0 s0).IsWhole) (s1 : Fin 2) (h1 : (stage2_1 s1).IsWhole) (s2 : Fin 1) (h2 : (stage2_2 s2).IsWhole)
    (s3 : Fin 1) (h3 : (stage2_3 s3).IsWhole) (Y1 : Vec F S2048x256 .f32) (Y3 : Vec F S2816x1 .f32)
    (e1 : Agrees (rows := 8000) (V (Proc.devRef .tc main_arg4)) t.val Y1) (O : sProp 𝕄) :
    iprop(phi2 V c a t.val ∗ O ∗ owns (c : Thread nD τ) (stage2_0 s0) fullShare (V (Proc.devRef .tc main_v2_0))
        ∗ owns (c : Thread nD τ) (stage2_1 s1) fullShare Y1 ∗ owns (c : Thread nD τ) (stage2_2 s2) fullShare (vTs V)
        ∗ owns (c : Thread nD τ) (stage2_3 s3) fullShare Y3)
      ⊢ wp frame (wpE (defs₀ (F := F)) 𝒱 (c : Thread nD τ) none) Set.univ
        (cc2__tail_body (grid2.coords t) (Memref.whole main_v9) (Memref.isWhole_whole _) (stage2_0 s0) h0 (stage2_1 s1) h1
          (stage2_2 s2) h2 (stage2_3 s3) h3
          (Memref.whole cc2_scratch0) (Memref.isWhole_whole _) (Memref.whole cc2_scratch1) (Memref.isWhole_whole _)
          (Memref.whole cc2_scratch2) (Memref.isWhole_whole _))
        fun _ => iprop(phi2 V c a (t.val + 1) ∗ O
          ∗ (∃ X, ⌜X = V (Proc.devRef .tc main_v2_0)⌝ ∗ owns (c : Thread nD τ) (stage2_0 s0) fullShare X)
          ∗ (∃ X, ⌜X = Y1⌝ ∗ owns (c : Thread nD τ) (stage2_1 s1) fullShare X)
          ∗ (∃ X, ⌜X = vTs V⌝ ∗ owns (c : Thread nD τ) (stage2_2 s2) fullShare X)
          ∗ (∃ X, ⌜t.val = 3 → done2 V (a.1 0) X⌝ ∗ owns (c : Thread nD τ) (stage2_3 s3) fullShare X)) := by
  rw [body_eq2]
  unfold phi2
  iintro ⟨⟨HT, HS, HR⟩, HO, H0, H1, H2, H3⟩
  iapply (tail_point 𝒱 c _ _ (tail2 (F := F)) _ 3#32 (a.1 0) (V (Proc.devRef .tc main_v2_0)) (rows := 8000) (V (Proc.devRef .tc main_arg4)) (vTs V) t.val 3
    (by rw [(coord2 t).2]) (last2 t) Y1 e1 Y3) $$ [HT HS H0 H1 H2 H3]
  · isplitl [HT]; · iexact HT
    isplitl [HS]; · iexact HS
    isplitl [H0]; · iexact H0
    isplitl [H1]; · iexact H1
    isplitl [H2]; · iexact H2
    iexact H3
  iintro HT HS H0 H1 H2 ⟨%X, %hX, H3⟩
  isplitl [HT HS HR]
  · isplitl [HT]; · iexact HT
    isplitl [HS]; · iexact HS
    iexact HR
  isplitl [HO]; · iexact HO
  isplitl [H0]
  · iexists _
    isplitr; swap; · iexact H0
    ipureintro; exact rfl
  isplitl [H1]
  · iexists _
    isplitr; swap; · iexact H1
    ipureintro; exact rfl
  isplitl [H2]
  · iexists _
    isplitr; swap; · iexact H2
    ipureintro; exact rfl
  · iexists X
    isplitr; swap; · iexact H3
    ipureintro
    intro h7
    have : ∀ n, n = 3 → Done (rows := 8000) (tail2 (F := F)) 3#32 (a.1 0) (V (Proc.devRef .tc main_v2_0)) (V (Proc.devRef .tc main_arg4)) (vTs V) (n + 1) X
        → done2 V (a.1 0) X := by
      intro n hn h; subst hn; exact h
    exact this _ h7 (hX h7)

theorem body2 (V : Valuation τ sig (Elt F)) (a : (pcfg2 (F := F)).Adm) (c : Dev nD) (𝒱 : Variants) (ι : Ix) :
    (rd2 (Ix := Ix) (U := U) (Lvl := Lvl) V a c).BodyObligation (defs₀ (F := F)) 𝒱 ι Set.univ := by
  intro t Y hY
  obtain ⟨e0, e1, e2⟩ := finds2 V a c t Y hY
  simp only [bigSep_W2]
  have h := point2 (Ix := Ix) (U := U) (Lvl := Lvl) V a c 𝒱 t ((cfg2 a).slots t 0) (hstage2 0 _) ((cfg2 a).slots t 1) (hstage2 1 _)
    ((cfg2 a).slots t 2) (hstage2 2 _) ((cfg2 a).slots t 3) (hstage2 3 _) (Y 1) (Y 3) e1 ((rd2 V a c).owesAt ι t.castSucc)
  rw [← e0, ← e2] at h
  exact h

/-- What kernel 3's result may be, of a valuation and a table. -/
abbrev done3 (V : Valuation τ sig (Elt F)) (tab : Vec F S2 .i32) (X : Vec F S2816x1 .f32) : Prop :=
  Done (rows := 40000) (tail3 (F := F)) 19#32 tab (V (Proc.devRef .tc main_v2_1)) (V (Proc.devRef .tc main_arg6)) (vTs V) 20 X

/-- The table and the running buffers of kernel 3 after its first `n` points. -/
def phi3 (V : Valuation τ sig (Elt F)) (c : Dev nD) (a : (pcfg3 (F := F)).Adm) (n : ℕ) : sProp 𝕄 :=
  iprop(owns (c : Thread nD τ) (Memref.whole main_v16) fullShare (a.1 0)
    ∗ (∃ st, ⌜Reach (rows := 40000) (tail3 (F := F)) 19#32 (word (a.1 0) 0 (by omega)) (word (a.1 0) 1 (by omega))
          (V (Proc.devRef .tc main_v2_1)) (V (Proc.devRef .tc main_arg6)) (vTs V) n st⌝
        ∗ sbufs c (Memref.whole cc3_scratch0) (Memref.whole cc3_scratch1) (Memref.whole cc3_scratch2) st)
    ∗ scopedRestBut spec3 c [cc3_scratch0, cc3_scratch1, cc3_scratch2])

/-- What kernel 3's windows hold. -/
def rd3 (V : Valuation τ sig (Elt F)) (a : (pcfg3 (F := F)).Adm) (c : Dev nD) : RDat τ (Elt F) Ix ℕ U Lvl (cfg3 a) c where
  A w := V (Proc.devRef .tc (arrRef spec3 w))
  after := fun
    | 0, _, Y, X => X = Y
    | 1, _, Y, X => X = Y
    | 2, _, Y, X => X = Y
    | 3, t, _, X => t.val = 19 → done3 V (a.1 0) X
    | ⟨_ + 4, h⟩, _, _, _ => absurd h (Nat.not_lt.2 (Nat.le_add_left _ _))
  Φ t := phi3 V c a t.val
  q _ := fullShare
  owed _ := 0

/-- The table, held. -/
def held3 (c : Dev nD) (X : Vec F S2 .i32) : sProp 𝕄 := owns (c : Thread nD τ) (Memref.whole main_v16) fullShare X

theorem table3 (c : Dev nD) (f : pre3.Contents (Elt F)) :
    (prefHeld (τ := τ) pre3 c (fun _ => fullShare) f : sProp 𝕄) = held3 c (f 0) := by
  unfold prefHeld held3
  rw [bigSep_univ_of_subsingleton (0 : Fin 1)]
  exact (owns_whole _ _ _ _).symm

theorem in3 (V : Valuation τ sig (Elt F)) (a : (pcfg3 (F := F)).Adm) (c : Dev nD) :
    iprop(prefHeld (τ := τ) pre3 c (fun _ => fullShare) a.1 ∗ scopedRest spec3 c : sProp 𝕄) ⊢ phi3 V c a 0 := by
  rw [scopedRest3_split]
  rw [table3]
  unfold phi3 sbufs
  rw [show (owns (c : Thread nD τ) (Memref.whole main_v16) fullShare (a.1 0) : sProp 𝕄) = held3 c (a.1 0) from rfl]
  simp only [owns_whole]
  iintro ⟨HT, ⟨⟨%f, H0⟩, ⟨%g, H1⟩, ⟨%h, H2⟩⟩, HR⟩
  isplitl [HT]; · iexact HT
  isplitr [HR]; swap; · iexact HR
  iexists (⟨f, g, h⟩ : St F)
  isplitr
  · ipureintro; exact Reach.zero _
  isplitl [H0]; · iexact H0
  isplitl [H1]; · iexact H1
  iexact H2

theorem out3 (V : Valuation τ sig (Elt F)) (a : (pcfg3 (F := F)).Adm) (c : Dev nD) (n : ℕ) :
    (phi3 V c a n : sProp 𝕄) ⊢ iprop(prefHeld (τ := τ) pre3 c (fun _ => fullShare) a.1 ∗ scopedRest spec3 c) := by
  rw [scopedRest3_split]
  rw [table3]
  unfold phi3 sbufs
  rw [show (owns (c : Thread nD τ) (Memref.whole main_v16) fullShare (a.1 0) : sProp 𝕄) = held3 c (a.1 0) from rfl]
  simp only [owns_whole]
  iintro ⟨HT, ⟨%st, ⟨-, H0, H1, H2⟩⟩, HR⟩
  isplitl [HT]; · iexact HT
  isplitr [HR]; swap; · iexact HR
  isplitl [H0]; · iexists _; iexact H0
  isplitl [H1]; · iexists _; iexact H1
  iexists _; iexact H2

theorem coord3 (t : Fin grid3.N) : (BitVec.ofNat 32 (grid3.coords t 0).val).toNat = t.val ∧ (grid3.coords t 0).val = t.val := by
  revert t; decide

theorem last3 (t : Fin grid3.N) : t.val = 19 → bit (Scalar.cmpi .eq (BitVec.ofNat 32 (grid3.coords t 0).val) 19#32) = 1#1 := by
  revert t; decide

theorem finds3 (V : Valuation τ sig (Elt F)) (a : (pcfg3 (F := F)).Adm) (c : Dev nD) (t : Fin grid3.N)
    (Y : (w : Fin 4) → (spec3 w).block.Idx → Elt F (spec3 w).elt)
    (hY : ∀ w, (rd3 (Ix := Ix) (U := U) (Lvl := Lvl) V a c).Finds w t (Y w)) :
    Y 0 = V (Proc.devRef .tc main_v2_1) ∧ Agrees (rows := 40000) (V (Proc.devRef .tc main_arg6)) t.val (Y 1) ∧ Y 2 = vTs V := by
  refine ⟨?_, ?_, ?_⟩
  · obtain ⟨d, hd⟩ := finds_input (rd3 V a c) 0 rfl (fun _ _ _ h => h) (fun _ _ _ => rfl) t (Y 0) (hY 0)
    rw [hd]; funext j
    exact same2 (V (Proc.devRef .tc main_v2_1)) ((((cfg3 a).win 0).rect t).emb j) j ⟨zero_emb _ _, zero_emb _ _⟩
  · obtain ⟨d, hd⟩ := finds_input (rd3 V a c) 1 rfl (fun _ _ _ h => h)
      (fun t t' h => funext fun x => congrArg (fun n => Pipeline.Clip.of n (S2048x64.size x) (S40000x64.size x)) (congrFun h x)) t (Y 1) (hY 1)
    rw [hd]
    intro j hj
    have hm : ((cfg3 a).win 1).moved (grid3.coords t) j = true :=
      (((cfg3 a).win 1).moved_iff _ j).mpr (Fin.forall_fin_two.mpr
        ⟨extent_of (cc3_transform_1 (grid3.coords t) 0) 2048 40000 _ (j 0).isLt (by rw [show cc3_transform_1 (grid3.coords t) 0 = t.val from (coord3 t).1]; exact hj),
          extent_of (cc3_transform_1 (grid3.coords t) 1) 64 64 _ (j 1).isLt (by rw [show cc3_transform_1 (grid3.coords t) 1 = 0 from rfl, Nat.zero_mul, Nat.zero_add]; exact (j 1).isLt)⟩)
    show ((cfg3 a).win 1).fill _ d _ j = _
    unfold Window.fill
    rw [dif_pos hm]
    exact same2 (V (Proc.devRef .tc main_arg6)) ((((cfg3 a).win 1).rect t).emb _) _ ⟨by
      show (BitVec.ofNat 32 (grid3.coords t 0).val).toNat * 2048 + 1 * (j 0).val = t.val * 2048 + (j 0).val
      rw [(coord3 t).1, Nat.one_mul], zero_emb _ _⟩
  · obtain ⟨d, hd⟩ := finds_input (rd3 V a c) 2 rfl (fun _ _ _ h => h) (fun _ _ _ => rfl) t (Y 2) (hY 2)
    rw [hd]; funext j
    exact same2 (vTs V) ((((cfg3 a).win 2).rect t).emb j) j ⟨zero_emb _ _, zero_emb _ _⟩

theorem point3 (V : Valuation τ sig (Elt F)) (a : (pcfg3 (F := F)).Adm) (c : Dev nD) (𝒱 : Variants) (t : Fin grid3.N)
    (s0 : Fin 1) (h0 : (stage3_0 s0).IsWhole) (s1 : Fin 2) (h1 : (stage3_1 s1).IsWhole) (s2 : Fin 1) (h2 : (stage3_2 s2).IsWhole)
    (s3 : Fin 1) (h3 : (stage3_3 s3).IsWhole) (Y1 : Vec F S2048x64 .f32) (Y3 : Vec F S2816x1 .f32)
    (e1 : Agrees (rows := 40000) (V (Proc.devRef .tc main_arg6)) t.val Y1) (O : sProp 𝕄) :
    iprop(phi3 V c a t.val ∗ O ∗ owns (c : Thread nD τ) (stage3_0 s0) fullShare (V (Proc.devRef .tc main_v2_1))
        ∗ owns (c : Thread nD τ) (stage3_1 s1) fullShare Y1 ∗ owns (c : Thread nD τ) (stage3_2 s2) fullShare (vTs V)
        ∗ owns (c : Thread nD τ) (stage3_3 s3) fullShare Y3)
      ⊢ wp frame (wpE (defs₀ (F := F)) 𝒱 (c : Thread nD τ) none) Set.univ
        (cc3__tail_body (grid3.coords t) (Memref.whole main_v16) (Memref.isWhole_whole _) (stage3_0 s0) h0 (stage3_1 s1) h1
          (stage3_2 s2) h2 (stage3_3 s3) h3
          (Memref.whole cc3_scratch0) (Memref.isWhole_whole _) (Memref.whole cc3_scratch1) (Memref.isWhole_whole _)
          (Memref.whole cc3_scratch2) (Memref.isWhole_whole _))
        fun _ => iprop(phi3 V c a (t.val + 1) ∗ O
          ∗ (∃ X, ⌜X = V (Proc.devRef .tc main_v2_1)⌝ ∗ owns (c : Thread nD τ) (stage3_0 s0) fullShare X)
          ∗ (∃ X, ⌜X = Y1⌝ ∗ owns (c : Thread nD τ) (stage3_1 s1) fullShare X)
          ∗ (∃ X, ⌜X = vTs V⌝ ∗ owns (c : Thread nD τ) (stage3_2 s2) fullShare X)
          ∗ (∃ X, ⌜t.val = 19 → done3 V (a.1 0) X⌝ ∗ owns (c : Thread nD τ) (stage3_3 s3) fullShare X)) := by
  rw [body_eq3]
  unfold phi3
  iintro ⟨⟨HT, HS, HR⟩, HO, H0, H1, H2, H3⟩
  iapply (tail_point 𝒱 c _ _ (tail3 (F := F)) _ 19#32 (a.1 0) (V (Proc.devRef .tc main_v2_1)) (rows := 40000) (V (Proc.devRef .tc main_arg6)) (vTs V) t.val 19
    (by rw [(coord3 t).2]) (last3 t) Y1 e1 Y3) $$ [HT HS H0 H1 H2 H3]
  · isplitl [HT]; · iexact HT
    isplitl [HS]; · iexact HS
    isplitl [H0]; · iexact H0
    isplitl [H1]; · iexact H1
    isplitl [H2]; · iexact H2
    iexact H3
  iintro HT HS H0 H1 H2 ⟨%X, %hX, H3⟩
  isplitl [HT HS HR]
  · isplitl [HT]; · iexact HT
    isplitl [HS]; · iexact HS
    iexact HR
  isplitl [HO]; · iexact HO
  isplitl [H0]
  · iexists _
    isplitr; swap; · iexact H0
    ipureintro; exact rfl
  isplitl [H1]
  · iexists _
    isplitr; swap; · iexact H1
    ipureintro; exact rfl
  isplitl [H2]
  · iexists _
    isplitr; swap; · iexact H2
    ipureintro; exact rfl
  · iexists X
    isplitr; swap; · iexact H3
    ipureintro
    intro h7
    have : ∀ n, n = 19 → Done (rows := 40000) (tail3 (F := F)) 19#32 (a.1 0) (V (Proc.devRef .tc main_v2_1)) (V (Proc.devRef .tc main_arg6)) (vTs V) (n + 1) X
        → done3 V (a.1 0) X := by
      intro n hn h; subst hn; exact h
    exact this _ h7 (hX h7)

theorem body3 (V : Valuation τ sig (Elt F)) (a : (pcfg3 (F := F)).Adm) (c : Dev nD) (𝒱 : Variants) (ι : Ix) :
    (rd3 (Ix := Ix) (U := U) (Lvl := Lvl) V a c).BodyObligation (defs₀ (F := F)) 𝒱 ι Set.univ := by
  intro t Y hY
  obtain ⟨e0, e1, e2⟩ := finds3 V a c t Y hY
  simp only [bigSep_W3]
  have h := point3 (Ix := Ix) (U := U) (Lvl := Lvl) V a c 𝒱 t ((cfg3 a).slots t 0) (hstage3 0 _) ((cfg3 a).slots t 1) (hstage3 1 _)
    ((cfg3 a).slots t 2) (hstage3 2 _) ((cfg3 a).slots t 3) (hstage3 3 _) (Y 1) (Y 3) e1 ((rd3 V a c).owesAt ι t.castSucc)
  rw [← e0, ← e2] at h
  exact h

/-- What kernel 4's result may be, of a valuation and a table. -/
abbrev done4 (V : Valuation τ sig (Elt F)) (tab : Vec F S2 .i32) (X : Vec F S2816x1 .f32) : Prop :=
  Done (rows := 50000) (tail4 (F := F)) 24#32 tab (V (Proc.devRef .tc main_v2_2)) (V (Proc.devRef .tc main_arg8)) (vTs V) 25 X

/-- The table and the running buffers of kernel 4 after its first `n` points. -/
def phi4 (V : Valuation τ sig (Elt F)) (c : Dev nD) (a : (pcfg4 (F := F)).Adm) (n : ℕ) : sProp 𝕄 :=
  iprop(owns (c : Thread nD τ) (Memref.whole main_v23) fullShare (a.1 0)
    ∗ (∃ st, ⌜Reach (rows := 50000) (tail4 (F := F)) 24#32 (word (a.1 0) 0 (by omega)) (word (a.1 0) 1 (by omega))
          (V (Proc.devRef .tc main_v2_2)) (V (Proc.devRef .tc main_arg8)) (vTs V) n st⌝
        ∗ sbufs c (Memref.whole cc4_scratch0) (Memref.whole cc4_scratch1) (Memref.whole cc4_scratch2) st)
    ∗ scopedRestBut spec4 c [cc4_scratch0, cc4_scratch1, cc4_scratch2])

/-- What kernel 4's windows hold. -/
def rd4 (V : Valuation τ sig (Elt F)) (a : (pcfg4 (F := F)).Adm) (c : Dev nD) : RDat τ (Elt F) Ix ℕ U Lvl (cfg4 a) c where
  A w := V (Proc.devRef .tc (arrRef spec4 w))
  after := fun
    | 0, _, Y, X => X = Y
    | 1, _, Y, X => X = Y
    | 2, _, Y, X => X = Y
    | 3, t, _, X => t.val = 24 → done4 V (a.1 0) X
    | ⟨_ + 4, h⟩, _, _, _ => absurd h (Nat.not_lt.2 (Nat.le_add_left _ _))
  Φ t := phi4 V c a t.val
  q _ := fullShare
  owed _ := 0

/-- The table, held. -/
def held4 (c : Dev nD) (X : Vec F S2 .i32) : sProp 𝕄 := owns (c : Thread nD τ) (Memref.whole main_v23) fullShare X

theorem table4 (c : Dev nD) (f : pre4.Contents (Elt F)) :
    (prefHeld (τ := τ) pre4 c (fun _ => fullShare) f : sProp 𝕄) = held4 c (f 0) := by
  unfold prefHeld held4
  rw [bigSep_univ_of_subsingleton (0 : Fin 1)]
  exact (owns_whole _ _ _ _).symm

theorem in4 (V : Valuation τ sig (Elt F)) (a : (pcfg4 (F := F)).Adm) (c : Dev nD) :
    iprop(prefHeld (τ := τ) pre4 c (fun _ => fullShare) a.1 ∗ scopedRest spec4 c : sProp 𝕄) ⊢ phi4 V c a 0 := by
  rw [scopedRest4_split]
  rw [table4]
  unfold phi4 sbufs
  rw [show (owns (c : Thread nD τ) (Memref.whole main_v23) fullShare (a.1 0) : sProp 𝕄) = held4 c (a.1 0) from rfl]
  simp only [owns_whole]
  iintro ⟨HT, ⟨⟨%f, H0⟩, ⟨%g, H1⟩, ⟨%h, H2⟩⟩, HR⟩
  isplitl [HT]; · iexact HT
  isplitr [HR]; swap; · iexact HR
  iexists (⟨f, g, h⟩ : St F)
  isplitr
  · ipureintro; exact Reach.zero _
  isplitl [H0]; · iexact H0
  isplitl [H1]; · iexact H1
  iexact H2

theorem out4 (V : Valuation τ sig (Elt F)) (a : (pcfg4 (F := F)).Adm) (c : Dev nD) (n : ℕ) :
    (phi4 V c a n : sProp 𝕄) ⊢ iprop(prefHeld (τ := τ) pre4 c (fun _ => fullShare) a.1 ∗ scopedRest spec4 c) := by
  rw [scopedRest4_split]
  rw [table4]
  unfold phi4 sbufs
  rw [show (owns (c : Thread nD τ) (Memref.whole main_v23) fullShare (a.1 0) : sProp 𝕄) = held4 c (a.1 0) from rfl]
  simp only [owns_whole]
  iintro ⟨HT, ⟨%st, ⟨-, H0, H1, H2⟩⟩, HR⟩
  isplitl [HT]; · iexact HT
  isplitr [HR]; swap; · iexact HR
  isplitl [H0]; · iexists _; iexact H0
  isplitl [H1]; · iexists _; iexact H1
  iexists _; iexact H2

theorem coord4 (t : Fin grid4.N) : (BitVec.ofNat 32 (grid4.coords t 0).val).toNat = t.val ∧ (grid4.coords t 0).val = t.val := by
  revert t; decide

theorem last4 (t : Fin grid4.N) : t.val = 24 → bit (Scalar.cmpi .eq (BitVec.ofNat 32 (grid4.coords t 0).val) 24#32) = 1#1 := by
  revert t; decide

theorem finds4 (V : Valuation τ sig (Elt F)) (a : (pcfg4 (F := F)).Adm) (c : Dev nD) (t : Fin grid4.N)
    (Y : (w : Fin 4) → (spec4 w).block.Idx → Elt F (spec4 w).elt)
    (hY : ∀ w, (rd4 (Ix := Ix) (U := U) (Lvl := Lvl) V a c).Finds w t (Y w)) :
    Y 0 = V (Proc.devRef .tc main_v2_2) ∧ Agrees (rows := 50000) (V (Proc.devRef .tc main_arg8)) t.val (Y 1) ∧ Y 2 = vTs V := by
  refine ⟨?_, ?_, ?_⟩
  · obtain ⟨d, hd⟩ := finds_input (rd4 V a c) 0 rfl (fun _ _ _ h => h) (fun _ _ _ => rfl) t (Y 0) (hY 0)
    rw [hd]; funext j
    exact same2 (V (Proc.devRef .tc main_v2_2)) ((((cfg4 a).win 0).rect t).emb j) j ⟨zero_emb _ _, zero_emb _ _⟩
  · obtain ⟨d, hd⟩ := finds_input (rd4 V a c) 1 rfl (fun _ _ _ h => h)
      (fun t t' h => funext fun x => congrArg (fun n => Pipeline.Clip.of n (S2048x16.size x) (S50000x16.size x)) (congrFun h x)) t (Y 1) (hY 1)
    rw [hd]
    intro j hj
    have hm : ((cfg4 a).win 1).moved (grid4.coords t) j = true :=
      (((cfg4 a).win 1).moved_iff _ j).mpr (Fin.forall_fin_two.mpr
        ⟨extent_of (cc4_transform_1 (grid4.coords t) 0) 2048 50000 _ (j 0).isLt (by rw [show cc4_transform_1 (grid4.coords t) 0 = t.val from (coord4 t).1]; exact hj),
          extent_of (cc4_transform_1 (grid4.coords t) 1) 16 16 _ (j 1).isLt (by rw [show cc4_transform_1 (grid4.coords t) 1 = 0 from rfl, Nat.zero_mul, Nat.zero_add]; exact (j 1).isLt)⟩)
    show ((cfg4 a).win 1).fill _ d _ j = _
    unfold Window.fill
    rw [dif_pos hm]
    exact same2 (V (Proc.devRef .tc main_arg8)) ((((cfg4 a).win 1).rect t).emb _) _ ⟨by
      show (BitVec.ofNat 32 (grid4.coords t 0).val).toNat * 2048 + 1 * (j 0).val = t.val * 2048 + (j 0).val
      rw [(coord4 t).1, Nat.one_mul], zero_emb _ _⟩
  · obtain ⟨d, hd⟩ := finds_input (rd4 V a c) 2 rfl (fun _ _ _ h => h) (fun _ _ _ => rfl) t (Y 2) (hY 2)
    rw [hd]; funext j
    exact same2 (vTs V) ((((cfg4 a).win 2).rect t).emb j) j ⟨zero_emb _ _, zero_emb _ _⟩

theorem point4 (V : Valuation τ sig (Elt F)) (a : (pcfg4 (F := F)).Adm) (c : Dev nD) (𝒱 : Variants) (t : Fin grid4.N)
    (s0 : Fin 1) (h0 : (stage4_0 s0).IsWhole) (s1 : Fin 2) (h1 : (stage4_1 s1).IsWhole) (s2 : Fin 1) (h2 : (stage4_2 s2).IsWhole)
    (s3 : Fin 1) (h3 : (stage4_3 s3).IsWhole) (Y1 : Vec F S2048x16 .f32) (Y3 : Vec F S2816x1 .f32)
    (e1 : Agrees (rows := 50000) (V (Proc.devRef .tc main_arg8)) t.val Y1) (O : sProp 𝕄) :
    iprop(phi4 V c a t.val ∗ O ∗ owns (c : Thread nD τ) (stage4_0 s0) fullShare (V (Proc.devRef .tc main_v2_2))
        ∗ owns (c : Thread nD τ) (stage4_1 s1) fullShare Y1 ∗ owns (c : Thread nD τ) (stage4_2 s2) fullShare (vTs V)
        ∗ owns (c : Thread nD τ) (stage4_3 s3) fullShare Y3)
      ⊢ wp frame (wpE (defs₀ (F := F)) 𝒱 (c : Thread nD τ) none) Set.univ
        (cc4__tail_body (grid4.coords t) (Memref.whole main_v23) (Memref.isWhole_whole _) (stage4_0 s0) h0 (stage4_1 s1) h1
          (stage4_2 s2) h2 (stage4_3 s3) h3
          (Memref.whole cc4_scratch0) (Memref.isWhole_whole _) (Memref.whole cc4_scratch1) (Memref.isWhole_whole _)
          (Memref.whole cc4_scratch2) (Memref.isWhole_whole _))
        fun _ => iprop(phi4 V c a (t.val + 1) ∗ O
          ∗ (∃ X, ⌜X = V (Proc.devRef .tc main_v2_2)⌝ ∗ owns (c : Thread nD τ) (stage4_0 s0) fullShare X)
          ∗ (∃ X, ⌜X = Y1⌝ ∗ owns (c : Thread nD τ) (stage4_1 s1) fullShare X)
          ∗ (∃ X, ⌜X = vTs V⌝ ∗ owns (c : Thread nD τ) (stage4_2 s2) fullShare X)
          ∗ (∃ X, ⌜t.val = 24 → done4 V (a.1 0) X⌝ ∗ owns (c : Thread nD τ) (stage4_3 s3) fullShare X)) := by
  rw [body_eq4]
  unfold phi4
  iintro ⟨⟨HT, HS, HR⟩, HO, H0, H1, H2, H3⟩
  iapply (tail_point 𝒱 c _ _ (tail4 (F := F)) _ 24#32 (a.1 0) (V (Proc.devRef .tc main_v2_2)) (rows := 50000) (V (Proc.devRef .tc main_arg8)) (vTs V) t.val 24
    (by rw [(coord4 t).2]) (last4 t) Y1 e1 Y3) $$ [HT HS H0 H1 H2 H3]
  · isplitl [HT]; · iexact HT
    isplitl [HS]; · iexact HS
    isplitl [H0]; · iexact H0
    isplitl [H1]; · iexact H1
    isplitl [H2]; · iexact H2
    iexact H3
  iintro HT HS H0 H1 H2 ⟨%X, %hX, H3⟩
  isplitl [HT HS HR]
  · isplitl [HT]; · iexact HT
    isplitl [HS]; · iexact HS
    iexact HR
  isplitl [HO]; · iexact HO
  isplitl [H0]
  · iexists _
    isplitr; swap; · iexact H0
    ipureintro; exact rfl
  isplitl [H1]
  · iexists _
    isplitr; swap; · iexact H1
    ipureintro; exact rfl
  isplitl [H2]
  · iexists _
    isplitr; swap; · iexact H2
    ipureintro; exact rfl
  · iexists X
    isplitr; swap; · iexact H3
    ipureintro
    intro h7
    have : ∀ n, n = 24 → Done (rows := 50000) (tail4 (F := F)) 24#32 (a.1 0) (V (Proc.devRef .tc main_v2_2)) (V (Proc.devRef .tc main_arg8)) (vTs V) (n + 1) X
        → done4 V (a.1 0) X := by
      intro n hn h; subst hn; exact h
    exact this _ h7 (hX h7)

theorem body4 (V : Valuation τ sig (Elt F)) (a : (pcfg4 (F := F)).Adm) (c : Dev nD) (𝒱 : Variants) (ι : Ix) :
    (rd4 (Ix := Ix) (U := U) (Lvl := Lvl) V a c).BodyObligation (defs₀ (F := F)) 𝒱 ι Set.univ := by
  intro t Y hY
  obtain ⟨e0, e1, e2⟩ := finds4 V a c t Y hY
  simp only [bigSep_W4]
  have h := point4 (Ix := Ix) (U := U) (Lvl := Lvl) V a c 𝒱 t ((cfg4 a).slots t 0) (hstage4 0 _) ((cfg4 a).slots t 1) (hstage4 1 _)
    ((cfg4 a).slots t 2) (hstage4 2 _) ((cfg4 a).slots t 3) (hstage4 3 _) (Y 1) (Y 3) e1 ((rd4 V a c).owesAt ι t.castSucc)
  rw [← e0, ← e2] at h
  exact h

end Cert.KernelIdeal.Pf

end
-- ==== Proof.Ideal.Family.lean ====
/-
  The tables the tail kernels read, and the proof data of the six regions as one family.
-/
module

public import proofs.«01_k».proof.Proof.Ideal.R0
public import proofs.«01_k».proof.Proof.Ideal.R1
public import proofs.«01_k».proof.Proof.Ideal.R5
public import proofs.«01_k».proof.Proof.Ideal.TailRegions
public import proofs.«01_k».proof.Proof.Gen.KernelIdeal.Regions
public import Idealize.ShloMosaic.Lib.Pointwise

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Own

variable {F : FTy → Type} [FloatOps F]

/-- The table of a tail: its first row among the permuted rows, and its number of rows. -/
def tabOf (k : Fin 8) (off cnt : Vec F S8x1 .i32) : Vec F S2 .i32 := fun j =>
  if (j 0).val = 0 then off (Idealize.ShloMosaic.ix2 k 0) else cnt (Idealize.ShloMosaic.ix2 k 0)

theorem tab9 (V : Valuation τ sig (Elt F)) : StableHlo.after hostOps2 V (Proc.devRef .tc main_v9)
    = tabOf (F := F) 1 (V (Proc.devRef .tc main_v1_2)) (V (Proc.devRef .tc main_v1_1)) := by
  after_results_simp
  funext j
  pointwise [tabOf]
  after_results_simp
  pointwise
  simp only [Nat.lt_one_iff, dite_eq_ite]

theorem tab16 (V : Valuation τ sig (Elt F)) : StableHlo.after hostOps2 V (Proc.devRef .tc main_v16)
    = tabOf (F := F) 2 (V (Proc.devRef .tc main_v1_2)) (V (Proc.devRef .tc main_v1_1)) := by
  after_results_simp
  funext j
  pointwise [tabOf]
  after_results_simp
  pointwise
  simp only [Nat.lt_one_iff, dite_eq_ite]

theorem tab23 (V : Valuation τ sig (Elt F)) : StableHlo.after hostOps2 V (Proc.devRef .tc main_v23)
    = tabOf (F := F) 3 (V (Proc.devRef .tc main_v1_2)) (V (Proc.devRef .tc main_v1_1)) := by
  after_results_simp
  funext j
  pointwise [tabOf]
  after_results_simp
  pointwise
  simp only [Nat.lt_one_iff, dite_eq_ite]

/-- The targets, as a column. -/
def tgOf (m : (ℓ : Loc nD τ sig) → Buf (Elt F) ℓ) (c : Dev nD) : Vec F S2048x1 .i32 :=
  vT (StableHlo.after hostOps0 (V0 m c))

/-- The tables, of the targets. -/
def tbl (X : Vec F S2048x1 .i32) : (p : Fin 6) → (pcfgs (F := F) p).Adm
  | 0 => cfg0.toPCfg_adm
  | 1 => cfg1.toPCfg_adm
  | 2 => ⟨fun | ⟨0, _⟩ => tabOf 1 (offOf X) (cntOf X) | ⟨_ + 1, h⟩ => absurd h (Nat.not_lt.2 (Nat.le_add_left 1 _)), trivial⟩
  | 3 => ⟨fun | ⟨0, _⟩ => tabOf 2 (offOf X) (cntOf X) | ⟨_ + 1, h⟩ => absurd h (Nat.not_lt.2 (Nat.le_add_left 1 _)), trivial⟩
  | 4 => ⟨fun | ⟨0, _⟩ => tabOf 3 (offOf X) (cntOf X) | ⟨_ + 1, h⟩ => absurd h (Nat.not_lt.2 (Nat.le_add_left 1 _)), trivial⟩
  | 5 => cfg5.toPCfg_adm

/-- What the first region leaves: the clusters' sizes. -/
theorem makes0_cnt {Ix : Type} [DecidableEq Ix] {U : Type} [URA U] {Lvl : Type} [Preorder Lvl] (V : Valuation τ sig (Elt F)) (c : Dev nD)
    (G : Vec F S8x1 .i32) (hG : (rd0 (Ix := Ix) (U := U) (Lvl := Lvl) V c).ArrAt 2 cfg0.N G) : G = cntOf (vT V) := by
  have hinj : ∀ t t' : Fin cfg0.N, (cfg0.win 2).flush t = true → (cfg0.win 2).flush t' = true → (cfg0.win 2).index t = (cfg0.win 2).index t' → t = t' :=
    fun t t' h h' _ => Fin.ext (by have h1 := (flush0_2 t).1 h; have h2 := (flush0_2 t').1 h'; have := t.isLt; have := t'.isLt; have h8 : cfg0.N = 8 := N_0; omega)
  obtain ⟨X, ⟨Y, -, hX⟩, hr⟩ := read_flushed (rd0 (Ix := Ix) (U := U) (Lvl := Lvl) V c) 2 hinj hG t0_7 ((flush0_2 _).2 rfl)
  funext j
  rw [← show X = cntOf (vT V) from hX]
  exact (same2 G j (((cfg0.win 2).rect t0_7).emb j) ⟨(zero_emb _ _).symm, (zero_emb _ _).symm⟩).trans (congrFun hr j)

/-- What the first region leaves: the clusters' first rows. -/
theorem makes0_off {Ix : Type} [DecidableEq Ix] {U : Type} [URA U] {Lvl : Type} [Preorder Lvl] (V : Valuation τ sig (Elt F)) (c : Dev nD)
    (G : Vec F S8x1 .i32) (hG : (rd0 (Ix := Ix) (U := U) (Lvl := Lvl) V c).ArrAt 3 cfg0.N G) : G = offOf (vT V) := by
  have hinj : ∀ t t' : Fin cfg0.N, (cfg0.win 3).flush t = true → (cfg0.win 3).flush t' = true → (cfg0.win 3).index t = (cfg0.win 3).index t' → t = t' :=
    fun t t' h h' _ => Fin.ext (by have h1 := (flush0_3 t).1 h; have h2 := (flush0_3 t').1 h'; have := t.isLt; have := t'.isLt; have h8 : cfg0.N = 8 := N_0; omega)
  obtain ⟨X, ⟨Y, -, hX⟩, hr⟩ := read_flushed (rd0 (Ix := Ix) (U := U) (Lvl := Lvl) V c) 3 hinj hG t0_7 ((flush0_3 _).2 rfl)
  funext j
  rw [← show X = offOf (vT V) from hX]
  exact (same2 G j (((cfg0.win 3).rect t0_7).emb j) ⟨(zero_emb _ _).symm, (zero_emb _ _).symm⟩).trans (congrFun hr j)

section Family

variable {Ix : Type} [DecidableEq Ix] {U : Type} [URA U] {Lvl : Type} [Preorder Lvl]

/-- What the regions' windows hold, of the valuation each is entered at. -/
def rds (X : Vec F S2048x1 .i32) (V : Valuation τ sig (Elt F)) :
    (p : Fin 6) → (c : Dev nD) → RDat τ (Elt F) Ix ℕ U Lvl (Pipeline.pin (pcfgs (F := F)) (tbl X) p) c
  | 0, c => rd0 V c
  | 1, c => rd1 V c
  | 2, c => rd2 V (tbl X 2) c
  | 3, c => rd3 V (tbl X 3) c
  | 4, c => rd4 V (tbl X 4) c
  | 5, c => rd5 V c

end Family

end Cert.KernelIdeal.Pf

end
-- ==== Proof.Ideal.Run.lean ====
/-
  The run of @main: six regions between host operations, from a memory with zero counters.
-/
module

public import proofs.«01_k».proof.Proof.Ideal.Family
public import Idealize.ShloMosaic.Lib.Pipeline.Frame

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Own

variable {F : FTy → Type} [FloatOps F]

/-- Two copies of the staging cells' algebra: the launch's, and the one the regions are entered with. -/
abbrev UU : Type := UR sig nD τ × UR sig nD τ

local notation "𝕄" => MT nD τ sig Unit (Elt F) ℕ UU ℕ

abbrev EP1 : Emb (UR sig nD τ) (MT nD τ sig Unit (Elt F) ℕ UU ℕ) := embL
abbrev EP2 : Emb (UR sig nD τ) (MT nD τ sig Unit (Elt F) ℕ UU ℕ) := embR

abbrev L : GSem nD τ sig → Finset Unit := fun _ => ∅
abbrev lv : GSem nD τ sig → Unit → ℕ := fun _ _ => 0

/-- The proof data at a valuation. -/
abbrev rd (X : Vec F S2048x1 .i32) (V : Valuation τ sig (Elt F)) :
    (p : Fin 6) → (c : Dev nD) → RDat τ (Elt F) Unit ℕ UU ℕ (Pipeline.pin (pcfgs (F := F)) (tbl X) p) c := rds X V

/-- A region's step from one valuation to the next. -/
abbrev Step (X : Vec F S2048x1 .i32) (p : Fin 6) (c : Dev nD) (V V' : Valuation τ sig (Elt F)) : Prop :=
  Makes (pcfgs (F := F)) (tbl X) (rd X V) p c V V'

/-- The valuations @main ends at, of the one it starts at. -/
def Ends (X : Vec F S2048x1 .i32) (c : Dev nD) (V0 V9 : Valuation τ sig (Elt F)) : Prop :=
  ∃ V2 V3 V5 V6 V7 V8, Step X 0 c (StableHlo.after hostOps0 V0) V2 ∧ Step X 1 c V2 V3 ∧ Step X 2 c (StableHlo.after hostOps2 V3) V5
    ∧ Step X 3 c V5 V6 ∧ Step X 4 c V6 V7 ∧ Step X 5 c V7 V8 ∧ V9 = StableHlo.after hostOps6 V8

theorem tables_of_steps {X : Vec F S2048x1 .i32} {c : Dev nD} {V1 V2 V3 : Valuation τ sig (Elt F)} (hX : vT V1 = X)
    (h0 : Step X 0 c V1 V2) (h1 : Step X 1 c V2 V3) :
    V3 (Proc.devRef .tc main_v1_1) = cntOf X ∧ V3 (Proc.devRef .tc main_v1_2) = offOf X := by
  have e1 := h1.2 (Proc.devRef .tc main_v1_1) (show _ ∉ arrRefs (τ := τ) spec1 by decide)
  have e2 := h1.2 (Proc.devRef .tc main_v1_2) (show _ ∉ arrRefs (τ := τ) spec1 by decide)
  refine ⟨e1.trans ?_, e2.trans ?_⟩
  · exact hX ▸ makes0_cnt (F := F) V1 c _ (h0.1 2)
  · exact hX ▸ makes0_off (F := F) V1 c _ (h0.1 3)

/-- What the core holds between two items: the buffers at a valuation, nothing owed, the ghost state of the regions to come. -/
def Cut (X : Vec F S2048x1 .i32) (S : Finset (Fin 6)) (c : Dev nD) (V : Valuation τ sig (Elt F)) : sProp 𝕄 :=
  iprop(boundary (c.tc : Thread nD τ) ∗ StableHlo.held (c.tc : Thread nD τ) (ucRefs τ sig) V ∗ idleOwes (τ := τ) c
    ∗ ghostOn (pcfgs (F := F)) (tbl X) EP2 S c)

/-- A region's rule at a valuation: from there it runs to whatever it makes. -/
def Rule (X : Vec F S2048x1 .i32) (p : Fin 6) (V : Valuation τ sig (Elt F)) : Prop :=
  ∀ (S : Finset (Fin 6)) (_ : p ∈ S) (c : Dev nD) (α : Type)
    (k : PUnit → Prog (TpuEff nD τ sig (Elt F) (Pipeline.Sig Λ₀ (Fin 6) fun p => (pcfgs (F := F) p).Adm) .tc) α) (Q : α → sProp 𝕄),
    iprop(Cut X S c V ∗ levAts L lv ∗ (∀ V', ⌜Step X p c V V'⌝ -∗ Cut X (S.erase p) c V' -∗ wp frame (wpE (Pipeline.defs (pcfgs (F := F)) defs₀) (Variants.lift Variants.none) (c.tc : Thread nD τ) none) Set.univ (k ⟨⟩) Q))
      ⊢ wp frame (wpE (Pipeline.defs (pcfgs (F := F)) defs₀) (Variants.lift Variants.none) (c.tc : Thread nD τ) none) Set.univ (Prog.lift (.customCall (Pipeline.entry p) ()) >>= k) Q

/-- One region, run from a valuation; the items after it run from whatever it makes. -/
theorem wp_item (X : Vec F S2048x1 .i32) (p : Fin 6) (kit : PLaunchFacts (nD := nD) (τ := τ) (pcfgs (F := F)) p) (V : Valuation τ sig (Elt F))
    (hbody : ∀ c, (rd X V p c).BodyObligation (defs₀ (F := F)) Variants.none () Set.univ)
    (howed : ∀ c t, (rd X V p c).owed t = 0) (hrec : ∀ c, (rd X V p c).recorded 0 = Set.univ)
    (hshare : ∀ c w, (rd X V p c).share w = fullShare)
    (hA : ∀ c w, (rd X V p c).A w = V (Proc.devRef .tc (arrRef (pin (pcfgs (F := F)) (tbl X) p).spec w)))
    (hT : ∀ k, (tbl X p).1 k = V (Proc.devRef .tc ((pcfgs (F := F) p).pre.ref k)))
    (hin : ∀ c, iprop(prefHeld (pcfgs (F := F) p).pre c (fun _ => fullShare) (tbl X p).1 ∗ scopedRest (pin (pcfgs (F := F)) (tbl X) p).spec c) ⊢ (rd X V p c).Φ 0)
    (hout : ∀ c, (rd X V p c).Φ (Fin.last (pin (pcfgs (F := F)) (tbl X) p).N)
      ⊢ iprop(prefHeld (pcfgs (F := F) p).pre c (fun _ => fullShare) (tbl X p).1 ∗ scopedRest (pin (pcfgs (F := F)) (tbl X) p).spec c))
    : Rule X p V := by
  intro S hp c α k Q
  unfold Cut
  rw [show ghostOn (pcfgs (F := F)) (tbl X) EP2 S c = _ from PerCore.ghostOn_erase (pcfgs (F := F)) (fun _ => tbl X) EP2 hp c]
  iintro ⟨⟨Hb, Hh, HO, ⟨Hc, Ht⟩, HG⟩, Hl, Hk⟩
  iapply (wp_region (pcfgs (F := F)) (tbl X) (rd X V) () (cellOf_inj (tbl X)) EP2 defs₀ Variants.none L lv kit V hbody howed hrec hshare hA hT hin hout c k Q)
  isplitl [Hk HG]
  · iintro %V' %hV ⟨Hb, Hh, HO⟩
    ispecialize Hk $$ %V' %hV
    iapply Hk
    isplitl [Hb]; · iexact Hb
    isplitl [Hh]; · iexact Hh
    isplitl [HO] <;> iassumption
  isplitl [Hb]; · iexact Hb
  isplitl [Hh HO]; · isplitl [Hh] <;> iassumption
  isplitl [Hl]; · iexact Hl
  isplitl [Hc] <;> iassumption

/-- The operations between regions, run from a valuation. -/
theorem wp_ops (X : Vec F S2048x1 .i32) (S : Finset (Fin 6)) (ops : List (HloOp τ sig (Elt F))) (hs : ops.Forall fun op => op.bufs ⊆ StableHlo.tcRefs τ sig)
    (hf : ops.Forall fun op => op.fresh = ∅) (V : Valuation τ sig (Elt F)) (c : Dev nD) {α : Type}
    (k : PUnit → Prog (TpuEff nD τ sig (Elt F) (Pipeline.Sig Λ₀ (Fin 6) fun p => (pcfgs (F := F) p).Adm) .tc) α) (Q : α → sProp 𝕄) :
    iprop(Cut X S c V ∗ (Cut X S c (StableHlo.after ops V) -∗ wp frame (wpE (Pipeline.defs (pcfgs (F := F)) defs₀) (Variants.lift Variants.none) (c.tc : Thread nD τ) none) Set.univ (k ⟨⟩) Q)) ⊢ wp frame (wpE (Pipeline.defs (pcfgs (F := F)) defs₀) (Variants.lift Variants.none) (c.tc : Thread nD τ) none) Set.univ (StableHlo.seq ops >>= k) Q := by
  unfold Cut
  iintro ⟨⟨Hb, Hh, HR⟩, Hk⟩
  iapply (StableHlo.wp_seq (defs := Pipeline.defs (pcfgs (F := F)) defs₀) (Variants.lift Variants.none) none Set.univ c (ucRefs τ sig) k ops
    (fun op h => Pipeline.sub_ucRefs op ((List.forall_iff_forall_mem.mp hs) op h))
    (fun op h => (List.forall_iff_forall_mem.mp hf) op h) V) $$ [Hb Hh]
  · isplitl [Hb] <;> iassumption
  iintro ⟨Hb, Hh⟩
  iapply Hk
  isplitl [Hb]; · iexact Hb
  isplitl [Hh] <;> iassumption

/-- A region without tables holds none. -/
theorem no_table (c : Dev nD) (pre : Pipeline.Prefetch sig) (h0 : pre.K = 0) (f : pre.Contents (Elt F)) (R : sProp 𝕄) :
    iprop(prefHeld (τ := τ) pre c (fun _ => fullShare) f ∗ R) = R := by
  have e : (Finset.univ : Finset (Fin pre.K)) = ∅ := by
    haveI : IsEmpty (Fin pre.K) := by rw [h0]; infer_instance
    exact Finset.univ_eq_empty
  unfold prefHeld
  rw [e, BI.bigSep_empty]
  exact equiv_iff.mp BI.emp_sep

theorem item0 (X : Vec F S2048x1 .i32) (V : Valuation τ sig (Elt F)) : Rule X 0 V :=
  wp_item X 0 launch0 V (fun c => body0 _ c _ _) (fun _ _ => rfl) (fun _ => rfl) (fun c => RDat.share_full _ fun _ => rfl) (fun _ _ => rfl)
    (fun k => k.elim0) (fun c => BIBase.Entails.of_eq (no_table c (pcfgs (F := F) 0).pre rfl (tbl X 0).1 (scopedRest spec0 c)))
    (fun c => BIBase.Entails.of_eq (no_table c (pcfgs (F := F) 0).pre rfl (tbl X 0).1 (scopedRest spec0 c)).symm)

theorem item1 (X : Vec F S2048x1 .i32) (V : Valuation τ sig (Elt F)) : Rule X 1 V :=
  wp_item X 1 launch1 V (fun c => body1 _ c _ _) (fun _ _ => rfl) (fun _ => rfl) (fun c => RDat.share_full _ fun _ => rfl) (fun _ _ => rfl)
    (fun k => k.elim0) (fun c => (BIBase.Entails.of_eq (no_table c (pcfgs (F := F) 1).pre rfl (tbl X 1).1 (scopedRest spec1 c))).trans (in1 V c))
    (fun c => (out1 V c grid1.N).trans (BIBase.Entails.of_eq (no_table c (pcfgs (F := F) 1).pre rfl (tbl X 1).1 (scopedRest spec1 c)).symm))

theorem item5 (X : Vec F S2048x1 .i32) (V : Valuation τ sig (Elt F)) : Rule X 5 V :=
  wp_item X 5 launch5 V (fun c => body5 _ c _ _) (fun _ _ => rfl) (fun _ => rfl) (fun c => RDat.share_full _ fun _ => rfl) (fun _ _ => rfl)
    (fun k => k.elim0) (fun c => (BIBase.Entails.of_eq (no_table c (pcfgs (F := F) 5).pre rfl (tbl X 5).1 (scopedRest spec5 c))).trans (in5 V c))
    (fun c => (out5 V c 8 (Nat.le_refl 8)).trans (BIBase.Entails.of_eq (no_table c (pcfgs (F := F) 5).pre rfl (tbl X 5).1 (scopedRest spec5 c)).symm))

theorem item2 (X : Vec F S2048x1 .i32) (V : Valuation τ sig (Elt F))
    (hV : V (Proc.devRef .tc main_v9) = tabOf (F := F) 1 (offOf X) (cntOf X)) : Rule X 2 V :=
  wp_item X 2 launch2 V (fun c => body2 _ _ c _ _) (fun _ _ => rfl) (fun _ => rfl) (fun c => RDat.share_full _ fun _ => rfl) (fun _ _ => rfl)
    (fun k => match k with | ⟨0, _⟩ => hV.symm | ⟨_ + 1, h⟩ => absurd h (Nat.not_lt.2 (Nat.le_add_left 1 _)))
    (fun c => in2 V (tbl X 2) c) (fun c => out2 V (tbl X 2) c grid2.N)

theorem item3 (X : Vec F S2048x1 .i32) (V : Valuation τ sig (Elt F))
    (hV : V (Proc.devRef .tc main_v16) = tabOf (F := F) 2 (offOf X) (cntOf X)) : Rule X 3 V :=
  wp_item X 3 launch3 V (fun c => body3 _ _ c _ _) (fun _ _ => rfl) (fun _ => rfl) (fun c => RDat.share_full _ fun _ => rfl) (fun _ _ => rfl)
    (fun k => match k with | ⟨0, _⟩ => hV.symm | ⟨_ + 1, h⟩ => absurd h (Nat.not_lt.2 (Nat.le_add_left 1 _)))
    (fun c => in3 V (tbl X 3) c) (fun c => out3 V (tbl X 3) c grid3.N)

theorem item4 (X : Vec F S2048x1 .i32) (V : Valuation τ sig (Elt F))
    (hV : V (Proc.devRef .tc main_v23) = tabOf (F := F) 3 (offOf X) (cntOf X)) : Rule X 4 V :=
  wp_item X 4 launch4 V (fun c => body4 _ _ c _ _) (fun _ _ => rfl) (fun _ => rfl) (fun c => RDat.share_full _ fun _ => rfl) (fun _ _ => rfl)
    (fun k => match k with | ⟨0, _⟩ => hV.symm | ⟨_ + 1, h⟩ => absurd h (Nat.not_lt.2 (Nat.le_add_left 1 _)))
    (fun c => in4 V (tbl X 4) c) (fun c => out4 V (tbl X 4) c grid4.N)

/-- The items of @main, in order. -/
abbrev items : Prog (TpuEff nD τ sig (Elt F) (Pipeline.Sig Λ₀ (Fin 6) fun p => (pcfgs (F := F) p).Adm) .tc) PUnit :=
  chain [StableHlo.seq hostOps0,
    Prog.lift (.customCall (Pipeline.entry 0) ()),
    Prog.lift (.customCall (Pipeline.entry 1) ()),
    StableHlo.seq hostOps2,
    Prog.lift (.customCall (Pipeline.entry 2) ()),
    Prog.lift (.customCall (Pipeline.entry 3) ()),
    Prog.lift (.customCall (Pipeline.entry 4) ()),
    Prog.lift (.customCall (Pipeline.entry 5) ()),
    StableHlo.seq hostOps6]

/-- The items, run from a memory whose targets give the tables. -/
theorem wp_items (X : Vec F S2048x1 .i32) (V0 : Valuation τ sig (Elt F)) (hX : vT (StableHlo.after hostOps0 V0) = X) (c : Dev nD) {α : Type}
    (k : PUnit → Prog (TpuEff nD τ sig (Elt F) (Pipeline.Sig Λ₀ (Fin 6) fun p => (pcfgs (F := F) p).Adm) .tc) α) (Q : α → sProp 𝕄) :
    iprop((∀ V9, ⌜Ends X c V0 V9⌝ -∗ Cut X ((((((Finset.univ.erase 0).erase 1).erase 2).erase 3).erase 4).erase 5) c V9 -∗ wp frame (wpE (Pipeline.defs (pcfgs (F := F)) defs₀) (Variants.lift Variants.none) (c.tc : Thread nD τ) none) Set.univ (k ⟨⟩) Q) ∗ Cut X Finset.univ c V0 ∗ levAts L lv)
      ⊢ wp frame (wpE (Pipeline.defs (pcfgs (F := F)) defs₀) (Variants.lift Variants.none) (c.tc : Thread nD τ) none) Set.univ (items (F := F) >>= k) Q := by
  unfold items
  simp only [Pipeline.chain_cons, bind_assoc]
  iintro ⟨Hk, HC, #Hl⟩
  iapply (wp_ops X _ hostOps0 hostOps0_sub hostOps0_fresh V0 c)
  isplitl [HC]; · iexact HC
  iintro HC
  iapply (item0 X _ (Finset.univ) (by decide) c _)
  isplitl [HC]; · iexact HC
  isplitr; · iexact Hl
  iintro %V2 %h0 HC
  iapply (item1 X _ (Finset.univ.erase 0) (by decide) c _)
  isplitl [HC]; · iexact HC
  isplitr; · iexact Hl
  iintro %V3 %h1 HC
  have hT := tables_of_steps hX h0 h1
  have t9 := tab9 V3
  have t16 := tab16 V3
  have t23 := tab23 V3
  rw [hT.1, hT.2] at t9 t16 t23
  iapply (wp_ops X _ hostOps2 hostOps2_sub hostOps2_fresh V3 c)
  isplitl [HC]; · iexact HC
  iintro HC
  iapply (item2 X _ t9 ((Finset.univ.erase 0).erase 1) (by decide) c _)
  isplitl [HC]; · iexact HC
  isplitr; · iexact Hl
  iintro %V5 %h2 HC
  iapply (item3 X _ ((h2.2 (Proc.devRef .tc main_v16) (show _ ∉ arrRefs (τ := τ) spec2 by decide)).trans t16) (((Finset.univ.erase 0).erase 1).erase 2) (by decide) c _)
  isplitl [HC]; · iexact HC
  isplitr; · iexact Hl
  iintro %V6 %h3 HC
  iapply (item4 X _ ((h3.2 (Proc.devRef .tc main_v23) (show _ ∉ arrRefs (τ := τ) spec3 by decide)).trans ((h2.2 (Proc.devRef .tc main_v23) (show _ ∉ arrRefs (τ := τ) spec2 by decide)).trans t23)) ((((Finset.univ.erase 0).erase 1).erase 2).erase 3) (by decide) c _)
  isplitl [HC]; · iexact HC
  isplitr; · iexact Hl
  iintro %V7 %h4 HC
  iapply (item5 X _ (((((Finset.univ.erase 0).erase 1).erase 2).erase 3).erase 4) (by decide) c _)
  isplitl [HC]; · iexact HC
  isplitr; · iexact Hl
  iintro %V8 %h5 HC
  iapply (wp_ops X _ hostOps6 hostOps6_sub hostOps6_fresh V8 c)
  isplitl [HC]; · iexact HC
  iintro HC
  rw [Pipeline.chain_nil, pure_bind]
  ispecialize Hk $$ %(StableHlo.after hostOps6 V8) %(⟨V2, V3, V5, V6, V7, V8, h0, h1, h2, h3, h4, h5, rfl⟩ : Ends X c V0 (StableHlo.after hostOps6 V8))
  iapply Hk
  iexact HC

/-- The launch: from a memory with zero counters @main ends with its buffers at a valuation of `Ends`, and every counter at zero. -/
def seg (X : Vec F S2048x1 .i32) (m : (ℓ : Loc nD τ sig) → Buf (Elt F) ℓ) (hX : ∀ c, tgOf m c = X) :
    HostSeg (Ix := Unit) (Name := ℕ) (U := UU) (Lvl := ℕ) (pcfgs (F := F)) defs₀ Variants.none L lv where
  prog := items
  pre c := iprop(StableHlo.held (c.tc : Thread nD τ) (ucRefs τ sig) (V0 m c) ∗ idleOwes (τ := τ) c ∗ ghostOn (pcfgs (F := F)) (tbl X) EP2 Finset.univ c)
  post c := iprop(∃ V9, ⌜Ends X c (V0 m c) V9⌝ ∗ StableHlo.held (c.tc : Thread nD τ) (ucRefs τ sig) V9 ∗ idleOwes (τ := τ) c)
  run c {β} k K := by
    refine BIBase.Entails.trans ?_ (wp_items X (V0 m c) (hX c) c k K)
    unfold Cut
    iintro ⟨Hk, Hb, HC, Hl⟩
    isplitl [Hk]
    · iintro %V9 %h ⟨Hb, Hh, HO, -⟩
      iapply Hk
      isplitl [Hb]; · iexact Hb
      iexists V9
      isplitr; · ipureintro; exact h
      isplitl [Hh] <;> iassumption
    isplitl [Hb HC]
    · isplitl [Hb] <;> iassumption
    iexact Hl

abbrev segs1 (X : Vec F S2048x1 .i32) (m : (ℓ : Loc nD τ sig) → Buf (Elt F) ℓ) (hX : ∀ c, tgOf m c = X) :
    Dev nD → List (RDat.Seg (pcfgs (F := F)) (tbl X) (rd X (V0 m 0)) () defs₀ Variants.none L lv) := fun _ => [.host (seg X m hX)]

/-- The launch element: the staging cells' algebra twice. -/
def u₀ (X : Vec F S2048x1 .i32) : UU :=
  (initOf (Pipeline.cells (Pipeline.pin (pcfgs (F := F)) (tbl X)) (cellOf_inj (tbl X))) (Pipeline.launchToks (Pipeline.pin (pcfgs (F := F)) (tbl X)) (cellOf_inj (tbl X))),
    initOf (Pipeline.cells (Pipeline.pin (pcfgs (F := F)) (tbl X)) (cellOf_inj (tbl X))) (Pipeline.launchToks (Pipeline.pin (pcfgs (F := F)) (tbl X)) (cellOf_inj (tbl X))))

theorem fund (X : Vec F S2048x1 .i32) : (ownU (u₀ X) : sProp 𝕄)
    ⊢ |={Set.univ}=> iprop(BI.own (EP1 (initOf (Pipeline.cells (Pipeline.pin (pcfgs (F := F)) (tbl X)) (cellOf_inj (tbl X)))
        (Pipeline.launchToks (Pipeline.pin (pcfgs (F := F)) (tbl X)) (cellOf_inj (tbl X)))))
      ∗ bigSep Finset.univ fun c => ghostOn (pcfgs (F := F)) (tbl X) EP2 Finset.univ c) := by
  have e : iprop((bigSep Finset.univ fun c : Dev nD => bigSep Finset.univ fun p => (cellsGhost (Pipeline.pin (pcfgs (F := F)) (tbl X)) EP2 p c : sProp 𝕄))
      ∗ (bigSep Finset.univ fun c : Dev nD => bigSep Finset.univ fun p => (toksInit (Pipeline.pin (pcfgs (F := F)) (tbl X)) EP2 p c : sProp 𝕄)))
      ⊢ bigSep Finset.univ fun c => ghostOn (pcfgs (F := F)) (tbl X) EP2 Finset.univ c := by
    rw [← bigSep_sep']
    refine bigSep_mono fun c _ => ?_
    rw [← bigSep_sep']
    exact BI.Entails.refl _
  unfold u₀
  iintro Hu
  ihave H := (ownU_pair _ _) $$ Hu
  icases H with ⟨HP, HE⟩
  imod (fund_ghost (Pipeline.pin (pcfgs (F := F)) (tbl X)) EP2 (cellOf_inj (tbl X))) $$ HE with HE
  imodintro
  isplitl [HP]; · iexact HP
  iapply e
  iexact HE

set_option backward.isDefEq.respectTransparency.types false in
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, ∃ V9, Ends (tgOf m c) c (V0 m c) V9 ∧ ∀ b ∈ ucRefs τ sig, r.2.mem (c, b) = V9 b) ∧ r.2.sem = fun _ => 0) := by
  have hX : ∀ c, tgOf m c = tgOf m 0 := fun c => by rw [Subsingleton.elim c 0]
  refine Pipeline.RDat.θ_run_regions_kit_dev_sems (pcfgs (F := F)) (tbl (tgOf m 0)) (rd (tgOf m 0) (V0 m 0)) () (cellOf_inj (tbl (tgOf m 0))) EP1
    defs₀ Variants.none L lv m ρ main (segs1 (tgOf m 0) m hX)
    (fun c Q => by
      rewrite [main_chain c, RDat.Seg.run_eq_chain,
        show (segs1 (tgOf m 0) m hX c).map RDat.Seg.prog = [items (F := F)] from rfl, Pipeline.chain_cons, Pipeline.chain_nil, bind_pure]
      exact .rfl)
    (fun c => List.nodup_nil) (fun _ => 0) (fun _ _ => rfl) _ (u₀ (tgOf m 0)) (fund (tgOf m 0))
    (T₀ := fun c => iprop(StableHlo.held (c.tc : Thread nD τ) (ucRefs τ sig) (V0 m c) ∗ idleOwes (τ := τ) c
      ∗ ghostOn (pcfgs (F := F)) (tbl (tgOf m 0)) EP2 Finset.univ c))
    (Tₙ := fun c => iprop(∃ V9, ⌜Ends (tgOf m 0) c (V0 m c) V9⌝ ∗ StableHlo.held (c.tc : Thread nD τ) (ucRefs τ sig) V9))
    (hch := fun c => ⟨.rfl, ?_⟩)
    (hinit := ?_) (QY := fun c s => ∃ V9, Ends (tgOf m c) c (V0 m c) V9 ∧ ∀ b ∈ ucRefs τ sig, s.mem (c, b) = V9 b)
    (hfin := fun c s' => ?_) (hQ := fun _ h hz => ⟨h, funext fun g => hz g (.inr (regions_no_unscoped g.2))⟩)
  · show iprop(∃ V9, ⌜Ends (tgOf m 0) c (V0 m c) V9⌝ ∗ StableHlo.held (c.tc : Thread nD τ) (ucRefs τ sig) V9 ∗ idleOwes (τ := τ) c) ⊢ _
    iintro ⟨%V9, %h, Hh, HO⟩
    isplitl [Hh]
    · iexists V9
      isplitr; · ipureintro; exact h
      iexact Hh
    iexact HO
  · refine Pipeline.initEach L lv fun c => ?_
    rw [show unscopedBufs c (fun b => m ((c.tc : Thread nD τ).loc b)) = StableHlo.held (c.tc : Thread nD τ) (ucRefs τ sig) (V0 m c)
      from Pipeline.unscopedBufs_held (Ix := Unit) (Name := ℕ) (U := UU) (Lvl := ℕ) c (V0 m c)]
    iintro ⟨⟨Hh, -, HO, -, -, HG⟩, -⟩
    imodintro
    isplitl [Hh]; · iexact Hh
    isplitl [HO]; · iexists ∅; iexact HO
    iexact HG
  · rw [hX c]
    unfold StableHlo.held
    iintro ⟨⟨%V9, %h, Hh⟩, HSI⟩
    ihave Hr := (pointsTo_read_all (Pipeline.ucRefs τ sig) (fun b => ((c : Thread nD τ).1, b)) V9 s') $$ [Hh HSI]
    · isplitl [Hh] <;> iassumption
    icases Hr with ⟨%hm, HSI⟩
    imodintro
    isplitr
    · ipureintro; exact ⟨V9, h, hm⟩
    iexact HSI

end Cert.KernelIdeal.Pf

end
-- ==== Proof.Ideal.Frames.lean ====
/-
  The arguments reach the end of @main as they were launched.
-/
module

public import proofs.«01_k».proof.Proof.Ideal.Run
public import Idealize.ShloMosaic.Lib.StableHlo.RunHlo

@[expose] public section

noncomputable section

namespace Cert.KernelIdeal.Pf

open Cert.KernelIdeal Cert.KernelIdeal.Gen
open Idealize.ShloMosaic Idealize.ShloMosaic.TcCoe
open Idealize.SL Idealize.SL.Sem
open Idealize.ShloMosaic.Pipeline
open Cert.Own

variable {F : FTy → Type} [FloatOps F]

/-- A buffer that is no output window's array is as it was after a region. -/
theorem step_keep {X : Vec F S2048x1 .i32} {p : Fin 6} {c : Dev nD} {V V' : Valuation τ sig (Elt F)} (h : Step X p c V V')
    (hA : ∀ w, (rd X V p c).A w = V (Proc.devRef .tc (arrRef (pin (pcfgs (F := F)) (tbl X) p).spec w)))
    (b : DevRef τ sig)
    (hb : ∀ w, ((pcfgs (F := F) p).spec w).isOut = true → (Proc.devRef .tc (arrRef (pcfgs (F := F) p).spec w) : DevRef τ sig) ≠ b) :
    V' b = V b := by
  by_cases hm : b ∈ arrRefs (τ := τ) (pcfgs (F := F) p).spec
  · obtain ⟨r, hr, rfl⟩ := Finset.mem_map.mp hm
    obtain ⟨w, -, rfl⟩ := Finset.mem_image.mp hr
    have hin : ((pin (pcfgs (F := F)) (tbl X) p).win w).isOut = false := by
      cases ho : ((pin (pcfgs (F := F)) (tbl X) p).win w).isOut
      · rfl
      · exact absurd rfl (hb w ho)
    have e := h.1 w
    rw [RDat.ArrAt_in (rd X V p c) w hin] at e
    exact e.trans (hA w)
  · exact h.2 b hm

/-- The arguments. -/
abbrev args : List (Ref sig .tc) := [main_arg0, main_arg1, main_arg2, main_arg3, main_arg4, main_arg5, main_arg6, main_arg7, main_arg8]

theorem not_out {gr W : ℕ} (win : Fin W → WinSpec sig gr) (h : ∀ r ∈ args, ∀ w, (win w).isOut = true → arrRef win w ≠ r) (r : Ref sig .tc) (hr : r ∈ args)
    (w : Fin W) (ho : (win w).isOut = true) : (Proc.devRef .tc (arrRef win w) : DevRef τ sig) ≠ Proc.devRef .tc r :=
  fun e => h r hr w ho (Proc.devRef_injective _ e)

theorem ends_args {X : Vec F S2048x1 .i32} {c : Dev nD} {V0 V9 : Valuation τ sig (Elt F)} (h : Ends X c V0 V9) :
    ∀ r ∈ args, V9 (Proc.devRef .tc r) = V0 (Proc.devRef .tc r) := by
  intro r hr
  obtain ⟨V2, V3, V5, V6, V7, V8, h0, h1, h2, h3, h4, h5, rfl⟩ := h
  rw [StableHlo.after_of_writes_sub hostOps6 _ hostOps6_writes ((show ∀ r ∈ args, r ∉ hostOps6_W by decide) r hr),
    step_keep h5 (fun _ => rfl) _ (not_out spec5 (by decide) r hr),
    step_keep h4 (fun _ => rfl) _ (not_out spec4 (by decide) r hr),
    step_keep h3 (fun _ => rfl) _ (not_out spec3 (by decide) r hr),
    step_keep h2 (fun _ => rfl) _ (not_out spec2 (by decide) r hr),
    StableHlo.after_of_writes_sub hostOps2 _ hostOps2_writes ((show ∀ r ∈ args, r ∉ hostOps2_W by decide) r hr),
    step_keep h1 (fun _ => rfl) _ (not_out spec1 (by decide) r hr),
    step_keep h0 (fun _ => rfl) _ (not_out spec0 (by decide) r hr),
    StableHlo.after_of_writes_sub hostOps0 _ hostOps0_writes ((show ∀ r ∈ args, r ∉ hostOps0_W by decide) r hr)]

/-- The frame: every argument ends as launched, and every counter at zero. -/
theorem run_args (m : (ℓ : Loc nD τ sig) → Buf (Elt F) ℓ) (ρ : Dev nD → PrngReg) :
    θ_run defs (onTc (τ := τ) (main (F := F))) ⟨m, fun _ => 0, ρ⟩ (fun r =>
      (∀ c : Dev nD, ∃ V9, Ends (tgOf m c) c (V0 m c) V9 ∧ (∀ b ∈ ucRefs τ sig, r.2.mem (c, b) = V9 b)
        ∧ ∀ a ∈ args, r.2.mem ((c.tc : Thread nD τ).loc a) = m ((c.tc : Thread nD τ).loc a)) ∧ r.2.sem = fun _ => 0) := by
  refine θ_run_mono (run m ρ) ?_
  rintro r ⟨h, hs⟩
  refine ⟨fun c => ?_, hs⟩
  obtain ⟨V9, hV, hb⟩ := h c
  refine ⟨V9, hV, hb, fun a ha => (hb _ (Finset.mem_filter.mpr ⟨StableHlo.devRef_mem_tcRefs a, ?_⟩)).trans (ends_args hV a ha)⟩
  revert a
  decide

end Cert.KernelIdeal.Pf

end
-- ==== Proof.Math.Count.lean ====
/-
  The order of the sorted tokens: the clusters' sizes and first rows, and a token's row, which is its cluster's first row plus the
  number of earlier tokens of its cluster. Different tokens have different rows, and a row of a cluster's range is a token of it.
-/
module

public import Mathlib.Algebra.BigOperators.Fin
public import Mathlib.Algebra.Order.BigOperators.Group.Finset

@[expose] public section

namespace Cert.Own

/-- The size of cluster `k`. -/
def cntN {n : ℕ} (cl : Fin n → ℕ) (k : ℕ) : ℕ := ∑ i, if cl i = k then 1 else 0

/-- The number of earlier tokens of token `i`'s cluster. -/
def rankN {n : ℕ} (cl : Fin n → ℕ) (i : Fin n) : ℕ := ∑ j, if cl j = cl i ∧ j.val < i.val then 1 else 0

/-- A size rounded up to a whole number of tiles. -/
def rup (c : ℕ) : ℕ := (c + 255) / 256 * 256

/-- The first row of cluster `k`. -/
def offN {n : ℕ} (cl : Fin n → ℕ) (k : ℕ) : ℕ := ∑ q : Fin 8, if q.val < k then rup (cntN cl q.val) else 0

/-- The row of token `i`. -/
def posN {n : ℕ} (cl : Fin n → ℕ) (i : Fin n) : ℕ := offN cl (cl i) + rankN cl i

variable {n : ℕ} (cl : Fin n → ℕ)

theorem le_rup (c : ℕ) : c ≤ rup c := by unfold rup; omega

theorem rup_le (c : ℕ) : rup c ≤ c + 255 := by unfold rup; omega

theorem cntN_le (k : ℕ) : cntN cl k ≤ n := by
  refine (Finset.sum_le_card_nsmul _ _ 1 fun i _ => by split <;> omega).trans ?_
  simp

theorem rank_lt (i : Fin n) : rankN cl i < cntN cl (cl i) := by
  refine Finset.sum_lt_sum (fun j _ => ?_) ⟨i, Finset.mem_univ _, ?_⟩
  · split_ifs <;> omega
  · rw [if_neg (by omega), if_pos rfl]; exact Nat.one_pos

theorem rank_lt_rank {i j : Fin n} (h : cl i = cl j) (hij : i.val < j.val) : rankN cl i < rankN cl j := by
  refine Finset.sum_lt_sum (fun q _ => ?_) ⟨i, Finset.mem_univ _, ?_⟩
  · split_ifs <;> omega
  · rw [if_neg (by omega), if_pos ⟨h, hij⟩]; exact Nat.one_pos

theorem off_zero : offN cl 0 = 0 := by simp [offN]
theorem off_one : offN cl 1 = rup (cntN cl 0) := by simp [offN, Fin.sum_univ_eight]
theorem off_two : offN cl 2 = rup (cntN cl 0) + rup (cntN cl 1) := by simp [offN, Fin.sum_univ_eight]
theorem off_three : offN cl 3 = rup (cntN cl 0) + rup (cntN cl 1) + rup (cntN cl 2) := by simp [offN, Fin.sum_univ_eight]

/-- The clusters' sizes sum to the number of tokens. -/
theorem cnt_total (h : ∀ i, cl i ≤ 3) : cntN cl 0 + cntN cl 1 + cntN cl 2 + cntN cl 3 = n := by
  unfold cntN
  rw [← Finset.sum_add_distrib, ← Finset.sum_add_distrib, ← Finset.sum_add_distrib]
  rw [Finset.sum_congr rfl fun i _ => show _ = 1 by have := h i; split_ifs <;> omega]
  simp

section

variable {cl : Fin 2048 → ℕ} (h : ∀ i, cl i ≤ 3)

include h

theorem off_add_le (k : ℕ) (hk : k ≤ 3) : offN cl k + cntN cl k ≤ 2816 := by
  have t := cnt_total cl h
  have a0 := rup_le (cntN cl 0)
  have a1 := rup_le (cntN cl 1)
  have a2 := rup_le (cntN cl 2)
  obtain rfl | rfl | rfl | rfl : k = 0 ∨ k = 1 ∨ k = 2 ∨ k = 3 := by omega
  · rw [off_zero]; omega
  · rw [off_one]; omega
  · rw [off_two]; omega
  · rw [off_three]; omega

/-- The ranges of the clusters' rows do not meet. -/
theorem off_unique (p k k' : ℕ) (hk : k ≤ 3) (hk' : k' ≤ 3) (h1 : offN cl k ≤ p) (h2 : p < offN cl k + cntN cl k) (h3 : offN cl k' ≤ p)
    (h4 : p < offN cl k' + cntN cl k') : k = k' := by
  have b0 := le_rup (cntN cl 0)
  have b1 := le_rup (cntN cl 1)
  have b2 := le_rup (cntN cl 2)
  obtain rfl | rfl | rfl | rfl : k = 0 ∨ k = 1 ∨ k = 2 ∨ k = 3 := by omega
  all_goals
    obtain rfl | rfl | rfl | rfl : k' = 0 ∨ k' = 1 ∨ k' = 2 ∨ k' = 3 := by omega
    all_goals
      simp only [off_zero, off_one, off_two, off_three] at h1 h2 h3 h4
      omega

theorem pos_lt (i : Fin 2048) : posN cl i < 2816 := by
  have := rank_lt cl i
  have := off_add_le h (cl i) (h i)
  unfold posN
  omega

/-- A token's row is in its own cluster's range alone. -/
theorem pos_mem (i : Fin 2048) (k : ℕ) (hk : k ≤ 3) : (offN cl k ≤ posN cl i ∧ posN cl i < offN cl k + cntN cl k) ↔ cl i = k := by
  have hr := rank_lt cl i
  constructor
  · rintro ⟨h1, h2⟩
    exact off_unique h (posN cl i) _ _ (h i) hk (by unfold posN; omega) (by unfold posN; omega) h1 h2
  · rintro rfl
    unfold posN
    omega

theorem pos_inj (i j : Fin 2048) (e : posN cl i = posN cl j) : i = j := by
  have h1 := (pos_mem h i (cl i) (h i)).mpr rfl
  rw [e] at h1
  have hc := (pos_mem h j (cl i) (h i)).mp h1
  unfold posN at e
  rw [hc] at e
  apply Fin.ext
  rcases Nat.lt_trichotomy i.val j.val with hl | hl | hl
  · have := rank_lt_rank cl hc.symm hl; omega
  · exact hl
  · have := rank_lt_rank cl hc hl; omega

end

end Cert.Own
-- ==== Proof.Math.Prep1.lean ====
/-
  What the first preparing kernel computes, as numbers: the clusters' sizes, their first rows, and every token's row.
-/
module

public import proofs.«01_k».proof.Proof.Ideal.Bodies
public import proofs.«01_k».proof.Proof.Math.Count
public import Idealize.ShloMosaic.Lib.Pointwise
public import Idealize.ShloMosaic.Lib.WordCmp
public import Idealize.ShloMosaic.Lib.Routing.Words
public import Idealize.ShloMosaic.Lib.Pipeline.ValueKit.Geometry

@[expose] public section

set_option maxRecDepth 16384

noncomputable section

namespace Cert.KernelIdeal.Pf

open Cert.KernelIdeal Cert.KernelIdeal.Gen
open Idealize.ShloMosaic Idealize.ShloMosaic.TcCoe
open Idealize.ShloMosaic.WordCmp
open Cert.Own

local notation "ix" => Idealize.ShloMosaic.ix2

/-- A target's cluster as the kernels compute it. -/
def clW (t : BitVec 32) : BitVec 32 :=
  IntOp.addi (IntOp.addi (BitVec.setWidth 32 (IntOp.cmpi .sge t 2000#32)) (BitVec.setWidth 32 (IntOp.cmpi .sge t 10000#32)))
    (BitVec.setWidth 32 (IntOp.cmpi .sge t 50000#32))

/-- A target's cluster. -/
def clN (t : BitVec 32) : ℕ :=
  (if (2000#32).toInt ≤ t.toInt then 1 else 0) + (if (10000#32).toInt ≤ t.toInt then 1 else 0) + (if (50000#32).toInt ≤ t.toInt then 1 else 0)

theorem clN_le (t : BitVec 32) : clN t ≤ 3 := by unfold clN; split_ifs <;> omega

theorem clW_eq (t : BitVec 32) : clW t = BitVec.ofNat 32 (clN t) := by
  unfold clW clN
  rw [cmpi_sge_eq, cmpi_sge_eq, cmpi_sge_eq, Routing.setWidth_ofBool, Routing.setWidth_ofBool, Routing.setWidth_ofBool, addi_ofNat, addi_ofNat]

/-- The tokens' clusters. -/
def cls (X : Vec Ideal S2048x1 .i32) (i : Fin 2048) : ℕ := clN (X (ix i 0))

theorem cls_le (X : Vec Ideal S2048x1 .i32) (i : Fin 2048) : cls X i ≤ 3 := clN_le _

theorem fold_addi {ι : Type} [Fintype ι] (f : ι → BitVec 32) (g : ι → ℕ) (h : ∀ i, f i = BitVec.ofNat 32 (g i)) :
    Finset.fold IntOp.addi 0#32 f Finset.univ = BitVec.ofNat 32 (∑ i, g i) := by
  classical
  obtain rfl : f = fun i => BitVec.ofNat 32 (g i) := funext h
  generalize (Finset.univ : Finset ι) = s
  induction s using Finset.induction_on with
  | empty => rw [Finset.fold_empty, Finset.sum_empty]
  | insert a s ha ih => rw [Finset.fold_insert ha, ih, Finset.sum_insert ha, addi_ofNat]

theorem cnt_word (X : Vec Ideal S2048x1 .i32) (k : Fin 8) : cntOf X (ix k 0) = BitVec.ofNat 32 (cntN (cls X) k.val) := by
  have e : cntOf X (ix k 0) = Finset.fold IntOp.addi 0#32
      (fun x : Fin 2048 => BitVec.setWidth 32 (IntOp.cmpi .eq (clW (X (ix x 0))) (BitVec.ofNat 32 k.val))) Finset.univ := by
    unfold cntOf clW
    pointwise [k0_pay6, k0_pay5, k0_pay2]
  rw [e]
  refine fold_addi _ _ fun i => ?_
  have := k.isLt
  have := cls_le X i
  rw [clW_eq, cmpi_eq_ofNat (by have := clN_le (X (ix i 0)); omega) (by omega), Routing.setWidth_ofBool]
  rfl

/-- The rounding up of a size to a whole number of tiles, as the kernel spells it. -/
theorem rup_word (c : ℕ) (hc : c ≤ 2048) (w : BitVec 32) (hw : w = BitVec.ofNat 32 c) :
    IntOp.muli
      (Scalar.select
        (IntOp.andi
          (IntOp.cmpi .ne
            (IntOp.subi (BitVec.setWidth 32 (IntOp.cmpi .sgt (IntOp.addi w 255#32) 0#32)) (BitVec.setWidth 32 (IntOp.cmpi .slt (IntOp.addi w 255#32) 0#32)))
            (Scalar.subi (Scalar.extui (Scalar.cmpi .sgt 256#32 0#32)) (Scalar.extui (Scalar.cmpi .slt 256#32 0#32))))
          (IntOp.cmpi .ne (IntOp.remsi .vector (IntOp.addi w 255#32) 256#32) 0#32))
        (IntOp.subi (IntOp.divsi .vector (IntOp.addi w 255#32) 256#32) 1#32)
        (IntOp.divsi .vector (IntOp.addi w 255#32) 256#32))
      256#32 = BitVec.ofNat 32 (rup c) := by
  subst hw
  rw [addi_ofNat, cmpi_sgt_ofNat (by omega) (by omega), cmpi_slt_ofNat (by omega) (by omega), decide_eq_true (by omega : 0 < c + 255),
    decide_eq_false (by omega : ¬ c + 255 < 0), Routing.divsi_word .vector (by omega) (by omega) (by omega)]
  have e : IntOp.cmpi .ne (IntOp.subi (BitVec.setWidth 32 (BitVec.ofBool true)) (BitVec.setWidth 32 (BitVec.ofBool false)))
      (Scalar.subi (Scalar.extui (Scalar.cmpi .sgt 256#32 0#32)) (Scalar.extui (Scalar.cmpi .slt 256#32 0#32))) = 0#1 := by decide
  rw [e]
  have e2 : ∀ b : BitVec 1, IntOp.andi 0#1 b = 0#1 := by decide
  rw [e2, select_zero, muli_ofNat]
  rfl

theorem off_word (X : Vec Ideal S2048x1 .i32) (k : Fin 8) : offOf X (ix k 0) = BitVec.ofNat 32 (offN (cls X) k.val) := by
  have hk := k.isLt
  have e := fold_addi (fun x : Fin 8 => Scalar.select (IntOp.cmpi .slt (BitVec.ofNat 32 x.val) (BitVec.ofNat 32 k.val))
    (BitVec.ofNat 32 (rup (cntN (cls X) x.val))) 0#32) (fun q : Fin 8 => if q.val < k.val then rup (cntN (cls X) q.val) else 0) fun q => by
      have := q.isLt
      rw [cmpi_slt_ofNat (by omega) (by omega), select_decide]
      split <;> rfl
  refine Eq.trans ?_ e
  unfold offOf
  pointwise [k0_pay7]
  congr 1
  funext q
  exact congrArg (Scalar.select _ · _) (rup_word (cntN (cls X) q.val) (cntN_le _ _) _ (cnt_word X q))

/-- The number of token `r` of block `i`. -/
def tokN (i : grid0.Coords) (r : Fin 256) : Fin 2048 := ⟨256 * (i 0).val + r.val, by have : (i 0).val < 8 := (i 0).isLt; have := r.isLt; omega⟩

theorem emb_off (i : grid0.Coords) (r : Fin 256) :
    (Rect.unit (s := S2048x1) (k0_off1 i) S256x1.size (k0_off1_inb i)).emb (ix r 0) = ix (tokN i r) 0 := by
  funext a
  apply Fin.ext
  refine (ValueKit.rect_emb_unit_val _ _ _ _ a).trans ?_
  refine (congrArg (· + _) (congrFun (k0_off1_eq i) a)).trans ?_
  match a with
  | ⟨0, _⟩ => rfl
  | ⟨1, _⟩ => rfl

theorem pos_word (i : grid0.Coords) (X : Vec Ideal S2048x1 .i32) (r : Fin 256) :
    posOf i X (ix r 0) = BitVec.ofNat 32 (posN (cls X) (tokN i r)) := by
  have hr := r.isLt
  have hi : (i 0).val < 8 := (i 0).isLt
  have e1 := fold_addi (fun x : Fin 8 => Scalar.select (IntOp.cmpi .eq (clW (X (ix (tokN i r) 0))) (BitVec.ofNat 32 x.val))
    (offOf X (ix x 0)) 0#32) (fun q : Fin 8 => if cls X (tokN i r) = q.val then offN (cls X) q.val else 0) fun q => by
      have := q.isLt
      rw [clW_eq, cmpi_eq_ofNat (by have := clN_le (X (ix (tokN i r) 0)); omega) (by omega), select_decide, off_word]
      unfold cls
      split <;> rfl
  have e2 := fold_addi (fun x : Fin 2048 => Scalar.select (IntOp.andi (IntOp.cmpi .eq (clW (X (ix x 0))) (clW (X (ix (tokN i r) 0))))
    (IntOp.cmpi .slt (BitVec.ofNat 32 x.val) (BitVec.ofNat 32 (tokN i r).val))) 1#32 0#32)
    (fun j => if cls X j = cls X (tokN i r) ∧ j.val < (tokN i r).val then 1 else 0) fun j => by
      have := j.isLt
      have := (tokN i r).isLt
      rw [clW_eq, clW_eq, cmpi_eq_ofNat (by have := clN_le (X (ix j 0)); omega) (by have := clN_le (X (ix (tokN i r) 0)); omega),
        cmpi_slt_ofNat (by omega) (by omega), andi_ofBool, ← Bool.decide_and, select_decide]
      unfold cls
      split <;> rfl
  have e3 : (∑ q : Fin 8, if cls X (tokN i r) = q.val then offN (cls X) q.val else 0) = offN (cls X) (cls X (tokN i r)) := by
    have hc := cls_le X (tokN i r)
    rw [Finset.sum_eq_single (⟨cls X (tokN i r), by omega⟩ : Fin 8)]
    · rw [if_pos rfl]
    · intro q _ hq
      exact if_neg fun h => hq (Fin.ext h.symm)
    · intro h; exact absurd (Finset.mem_univ _) h
  rw [e3] at e1
  have e4 : IntOp.addi (Scalar.muli (BitVec.ofNat 32 (i 0).val) 256#32) (BitVec.ofNat 32 r.val) = BitVec.ofNat 32 (tokN i r).val := by
    show IntOp.addi (IntOp.muli (BitVec.ofNat 32 (i 0).val) (BitVec.ofNat 32 256)) _ = _
    rw [muli_ofNat, addi_ofNat, Nat.mul_comm]
    rfl
  unfold posN rankN
  rw [← addi_ofNat, ← e1, ← e2]
  rw [← emb_off i r, ← e4]
  unfold posOf Cert.Own.get clW offOf
  pointwise [k0_pay1, k0_pay4, k0_pay8, k0_pay3, k0_pay9, k0_pay2]

end Cert.KernelIdeal.Pf

end
-- ==== Proof.Math.Softmax.lean ====
/-
  The softmax of a row computed block by block: the running maximum, the running sum rescaled at every block and the running target
  logit end at the values of the whole row, over all extended reals.
-/
module

public import Idealize.ShloMosaic.PureOps.Ideal

@[expose] public section

noncomputable section

namespace Cert.Own

open Idealize.ShloMosaic

theorem exp_nonneg (x : EReal) : 0 ≤ Ideal.exp x := by
  induction x with
  | bot => exact le_rfl
  | top => exact le_top
  | coe r => exact EReal.coe_nonneg.mpr (Real.exp_pos r).le

theorem bot_sub' (x : EReal) : (⊥ : EReal) - x = ⊥ := by rw [sub_eq_add_neg, EReal.bot_add]

theorem sub_top' (x : EReal) : x - (⊤ : EReal) = ⊥ := by rw [sub_eq_add_neg, EReal.neg_top, EReal.add_bot]

theorem exp_bot : Ideal.exp ⊥ = 0 := rfl

/-- Rescaling from one bound of a logit to a higher one. -/
theorem exp_rescale (l m m' : EReal) (h : l ≤ m) (h' : m ≤ m') :
    Ideal.exp (l - m) * Ideal.exp (m - m') = Ideal.exp (l - m') := by
  induction l with
  | bot => rw [bot_sub', bot_sub', exp_bot, zero_mul]
  | top =>
    have e : m = ⊤ := top_le_iff.mp h
    have e' : m' = ⊤ := top_le_iff.mp (e ▸ h')
    rw [e, e', sub_top', exp_bot, zero_mul]
  | coe l =>
    induction m' with
    | bot => exact absurd (h.trans h') (by simp)
    | top => rw [sub_top', sub_top', exp_bot, mul_zero]
    | coe m' =>
      induction m with
      | bot => exact absurd h (by simp)
      | top => exact absurd h' (by simp)
      | coe m =>
        rw [← EReal.coe_sub, ← EReal.coe_sub, ← EReal.coe_sub]
        show ((Real.exp (l - m) : ℝ) : EReal) * ((Real.exp (m - m') : ℝ) : EReal) = ((Real.exp (l - m') : ℝ) : EReal)
        rw [← EReal.coe_mul, ← Real.exp_add]
        congr 2
        ring

/-- The sum of nonnegative terms times a factor. -/
theorem sum_mul_nonneg {ι : Type} (s : Finset ι) (f : ι → EReal) (hf : ∀ i, 0 ≤ f i) (c : EReal) :
    (∑ i ∈ s, f i) * c = ∑ i ∈ s, f i * c := by
  classical
  induction s using Finset.induction_on with
  | empty => rw [Finset.sum_empty, Finset.sum_empty, zero_mul]
  | insert a s ha ih =>
    rw [Finset.sum_insert ha, Finset.sum_insert ha, EReal.right_distrib_of_nonneg (hf a) (Finset.sum_nonneg fun i _ => hf i), ih]

/-- The maximum of a row. -/
def top {N : ℕ} (L : Fin N → EReal) : EReal := Finset.univ.fold max ⊥ L

theorem top_eq_sup {N : ℕ} (L : Fin N → EReal) : top L = Finset.univ.sup L := rfl

/-- A row's log-softmax at a column. -/
def lsm {N : ℕ} (L : Fin N → EReal) (c : Fin N) : EReal :=
  (L c - top L) - Ideal.log (∑ j, Ideal.exp (L j - top L))

/-- What the three running values of a row are after its first `n` columns. -/
def RowOk (L : ℕ → EReal) (rel n : ℕ) (m s g : EReal) : Prop :=
  m = (Finset.range n).sup L ∧ s = ∑ j ∈ Finset.range n, Ideal.exp (L j - m) ∧ g = ∑ j ∈ Finset.range n, if j = rel then L j else 0

theorem RowOk.zero (L : ℕ → EReal) (rel : ℕ) : RowOk L rel 0 ⊥ 0 0 := ⟨by simp, by simp, by simp⟩

theorem sup_add (L : ℕ → EReal) (n b : ℕ) :
    (Finset.range (n + b)).sup L = max ((Finset.range n).sup L) (top fun k : Fin b => L (n + k)) := by
  rw [top_eq_sup]
  apply le_antisymm
  · refine Finset.sup_le fun j hj => ?_
    by_cases h : j < n
    · exact le_max_of_le_left (Finset.le_sup (f := L) (Finset.mem_range.mpr h))
    · have hj' := Finset.mem_range.mp hj
      refine le_max_of_le_right ?_
      have := Finset.le_sup (f := fun k : Fin b => L (n + k)) (Finset.mem_univ (⟨j - n, by omega⟩ : Fin b))
      have e : n + (j - n) = j := by omega
      simpa only [e] using this
  · refine max_le (Finset.sup_mono (Finset.range_mono (Nat.le_add_right _ _))) (Finset.sup_le fun k _ => ?_)
    exact Finset.le_sup (f := L) (Finset.mem_range.mpr (Nat.add_lt_add_left k.isLt n))

theorem sum_add (f : ℕ → EReal) (n b : ℕ) :
    ∑ j ∈ Finset.range (n + b), f j = ∑ j ∈ Finset.range n, f j + ∑ k : Fin b, f (n + k) := by
  rw [Finset.sum_range_add, Fin.sum_univ_eq_sum_range (fun k => f (n + k)) b]

/-- One block of `b` columns. -/
theorem RowOk.step {L : ℕ → EReal} {rel n : ℕ} {m s g : EReal} (h : RowOk L rel n m s g) (b : ℕ) :
    RowOk L rel (n + b) (max m (top fun k : Fin b => L (n + k)))
      (s * Ideal.exp (m - max m (top fun k : Fin b => L (n + k))) + ∑ k : Fin b, Ideal.exp (L (n + k) - max m (top fun k : Fin b => L (n + k))))
      (g + ∑ k : Fin b, if n + k = rel then L (n + k) else 0) := by
  obtain ⟨hm, hs, hg⟩ := h
  refine ⟨by rw [sup_add, ← hm], ?_, by rw [sum_add (fun j => if j = rel then L j else 0), ← hg]⟩
  rw [sum_add (fun j => Ideal.exp (L j - _)), hs, sum_mul_nonneg _ _ fun _ => exp_nonneg _]
  congr 1
  refine Finset.sum_congr rfl fun j hj => exp_rescale _ _ _ ?_ (le_max_left _ _)
  rw [hm]
  exact Finset.le_sup (f := L) hj

/-- The running values at the end, of a row that is `⊥` past its columns. -/
theorem RowOk.done {L : ℕ → EReal} {rel n N : ℕ} {m s g : EReal} (h : RowOk L rel n m s g) (hn : N ≤ n) (hL : ∀ j, N ≤ j → L j = ⊥)
    (hr : rel < N) : g - m - Ideal.log s = lsm (fun j : Fin N => L j) ⟨rel, hr⟩ := by
  obtain ⟨b, rfl⟩ := Nat.exists_eq_add_of_le hn
  obtain ⟨hm, hs, hg⟩ := h
  have hb : ∀ k : Fin b, L (N + k) = ⊥ := fun k => hL _ (Nat.le_add_right _ _)
  have h1 : m = top fun j : Fin N => L j := by
    have e := sup_add L 0 N
    rw [hm, sup_add]
    rw [Nat.zero_add, Finset.range_zero, Finset.sup_empty] at e
    simp only [Nat.zero_add] at e
    rw [e, max_bot_left, max_eq_left]
    rw [top_eq_sup]
    exact Finset.sup_le fun k _ => (hb k).trans_le bot_le
  have h2 : s = ∑ j : Fin N, Ideal.exp (L j - top fun j : Fin N => L j) := by
    rw [hs, sum_add (fun j => Ideal.exp (L j - m)), ← h1, Fin.sum_univ_eq_sum_range (fun j => Ideal.exp (L j - m)) N]
    rw [Finset.sum_eq_zero (s := Finset.univ) (fun k _ => by rw [hb k, bot_sub', exp_bot]), add_zero]
  have h3 : g = L rel := by
    rw [hg, Finset.sum_ite_eq' (Finset.range (N + b)) rel L, if_pos (Finset.mem_range.mpr (by omega))]
  unfold lsm
  rw [h3, ← h1, h2, ← h1]

end Cert.Own

end
-- ==== Proof.Math.Pay.lean ====
/-
  The operations of the tail kernels' tiles and ends, read at one row.
-/
module

public import proofs.«01_k».proof.Proof.Ideal.TailBody
public import proofs.«01_k».proof.Proof.Math.Softmax
public import Idealize.ShloMosaic.Lib.Pointwise

@[expose] public section

set_option maxRecDepth 16384

noncomputable section

namespace Cert.KernelIdeal.Pf

open Cert.KernelIdeal Cert.KernelIdeal.Gen
open Idealize.ShloMosaic Idealize.ShloMosaic.TcCoe
open Cert.Own

local notation "ix" => Idealize.ShloMosaic.ix2

theorem ofBits_ninf : Ideal.ofBits .f32 4286578688#32 = (⊥ : EReal) := by simp [Ideal.ofBits, Ideal.ieee]

/-- The number of column `k` of block `a`. -/
def colW (a : BitVec 32) (k : Fin 2048) : BitVec 32 := IntOp.addi (Scalar.muli a 2048#32) (BitVec.ofNat 32 k.val)

/-- A target's column in its cluster, clipped to the cluster's columns. -/
def relW (low hi t : BitVec 32) : BitVec 32 := IntOp.minsi hi (IntOp.maxsi 0#32 (IntOp.subi t low))

/-- The logits of a row of hidden values. -/
def dotRow {d : ℕ} (w : Vec Ideal (⟨2, ![2048, d]⟩ : Shape) .f32) (x : Fin d → EReal) (k : Fin 2048) : EReal :=
  ∑ e, x e * w (ix k e)

/-- The logits of the last block: the columns from `n` on are left out. -/
def dotRowL (n a : BitVec 32) {d : ℕ} (w : Vec Ideal (⟨2, ![2048, d]⟩ : Shape) .f32) (x : Fin d → EReal) (k : Fin 2048) : EReal :=
  Scalar.select (IntOp.cmpi .slt (colW a k) n) (dotRow w x k) ⊥

/-- A tile's operations at one row: `lm` the row's logits, `col` the columns' numbers, `rel` the target's column. -/
structure PayOk {d : ℕ} (P : Pay Ideal ⟨2, ![256, d]⟩) (lm : (Fin d → EReal) → Fin 2048 → EReal) (col : Fin 2048 → BitVec 32)
    (rel : BitVec 32 → BitVec 32) : Prop where
  M : ∀ (x : Vec Ideal (⟨2, ![256, d]⟩ : Shape) .bf16) (m : Vec Ideal S256x1 .f32) (r : Fin 256),
    P.pM x m (ix r 0) = max (m (ix r 0)) (top (lm fun e => x (ix r e)))
  S : ∀ (x : Vec Ideal (⟨2, ![256, d]⟩ : Shape) .bf16) (m s : Vec Ideal S256x1 .f32) (r : Fin 256),
    P.pS x m s (ix r 0) = s (ix r 0) * Ideal.exp (m (ix r 0) - max (m (ix r 0)) (top (lm fun e => x (ix r e))))
      + ∑ k, Ideal.exp (lm (fun e => x (ix r e)) k - max (m (ix r 0)) (top (lm fun e => x (ix r e))))
  T : ∀ (x : Vec Ideal (⟨2, ![256, d]⟩ : Shape) .bf16) (t : Vec Ideal S256x1 .i32) (g : Vec Ideal S256x1 .f32) (r : Fin 256),
    P.pT x t g (ix r 0) = g (ix r 0) + ∑ k, Scalar.select (IntOp.cmpi .eq (col k) (rel (t (ix r 0)))) (lm (fun e => x (ix r e)) k) 0

/-- A tail kernel's operations at one row, for a cluster of `n` columns whose targets start at `low`. -/
structure TailOk {d : ℕ} (T : Tail Ideal d) (low hi n : BitVec 32) : Prop where
  U : ∀ (a : BitVec 32) (w : Vec Ideal (⟨2, ![2048, d]⟩ : Shape) .f32), PayOk (T.pU a (T.cast w)) (dotRow w) (colW a) (relW low hi)
  L : ∀ (a : BitVec 32) (w : Vec Ideal (⟨2, ![2048, d]⟩ : Shape) .f32), PayOk (T.pL a (T.castL w)) (dotRowL n a w) (colW a) (relW low hi)
  im : ∀ j, T.init.m j = (⊥ : EReal)
  is : ∀ j, T.init.s j = (0 : EReal)
  ig : ∀ j, T.init.g j = (0 : EReal)
  out : ∀ (off cnt : BitVec 32) (g m s : Vec Ideal S2816x1 .f32) (p : Fin 2816), T.outE (T.ge off) (T.lt off cnt) g m s (ix p 0)
    = Scalar.select (IntOp.andi (IntOp.cmpi .sge (BitVec.ofNat 32 p.val) off) (IntOp.cmpi .slt (BitVec.ofNat 32 p.val) (IntOp.addi off cnt)))
      ((g (ix p 0) : EReal) - m (ix p 0) - Ideal.log (s (ix p 0))) 0

theorem tail2_ok : TailOk (tail2 (F := Ideal)) 2000#32 7999#32 8000#32 where
  U a w :=
    { M := fun x m r => by
        unfold tail2 top dotRow
        pointwise [k2_pay15, k2_pay13, k2_pay11, k2_pay77, ofBits_ninf]
      S := fun x m s r => by
        unfold tail2 top dotRow
        pointwise [k2_pay14, k2_pay13, k2_pay11, k2_pay77, ofBits_ninf]
      T := fun x t g r => by
        unfold tail2 dotRow colW relW
        pointwise [k2_pay78, k2_pay11, k2_pay12, k2_pay16, k2_pay77] }
  L a w :=
    { M := fun x m r => by
        unfold tail2 top dotRowL dotRow colW
        pointwise [k2_pay87, k2_pay85, k2_pay84, k2_pay83, k2_pay149, ofBits_ninf]
      S := fun x m s r => by
        unfold tail2 top dotRowL dotRow colW
        pointwise [k2_pay86, k2_pay85, k2_pay84, k2_pay83, k2_pay149, ofBits_ninf]
      T := fun x t g r => by
        unfold tail2 dotRowL dotRow colW relW
        pointwise [k2_pay150, k2_pay84, k2_pay83, k2_pay88, k2_pay149, ofBits_ninf] }
  im j := by unfold tail2; pointwise [k2_pay1, ofBits_ninf]
  is j := by unfold tail2; pointwise [k2_pay2]
  ig j := by unfold tail2; pointwise [k2_pay3]
  out off cnt g m s p := by
    unfold tail2
    pointwise [k2_pay10, k2_pay161, k2_pay162]
    rfl

theorem tail3_ok : TailOk (tail3 (F := Ideal)) 10000#32 39999#32 40000#32 where
  U a w :=
    { M := fun x m r => by
        unfold tail3 top dotRow
        pointwise [k3_pay15, k3_pay13, k3_pay11, k3_pay77, ofBits_ninf]
      S := fun x m s r => by
        unfold tail3 top dotRow
        pointwise [k3_pay14, k3_pay13, k3_pay11, k3_pay77, ofBits_ninf]
      T := fun x t g r => by
        unfold tail3 dotRow colW relW
        pointwise [k3_pay78, k3_pay11, k3_pay12, k3_pay16, k3_pay77] }
  L a w :=
    { M := fun x m r => by
        unfold tail3 top dotRowL dotRow colW
        pointwise [k3_pay87, k3_pay85, k3_pay84, k3_pay83, k3_pay149, ofBits_ninf]
      S := fun x m s r => by
        unfold tail3 top dotRowL dotRow colW
        pointwise [k3_pay86, k3_pay85, k3_pay84, k3_pay83, k3_pay149, ofBits_ninf]
      T := fun x t g r => by
        unfold tail3 dotRowL dotRow colW relW
        pointwise [k3_pay150, k3_pay84, k3_pay83, k3_pay88, k3_pay149, ofBits_ninf] }
  im j := by unfold tail3; pointwise [k3_pay1, ofBits_ninf]
  is j := by unfold tail3; pointwise [k3_pay2]
  ig j := by unfold tail3; pointwise [k3_pay3]
  out off cnt g m s p := by
    unfold tail3
    pointwise [k3_pay10, k3_pay161, k3_pay162]
    rfl

theorem tail4_ok : TailOk (tail4 (F := Ideal)) 50000#32 49999#32 50000#32 where
  U a w :=
    { M := fun x m r => by
        unfold tail4 top dotRow
        pointwise [k4_pay15, k4_pay13, k4_pay11, k4_pay77, ofBits_ninf]
      S := fun x m s r => by
        unfold tail4 top dotRow
        pointwise [k4_pay14, k4_pay13, k4_pay11, k4_pay77, ofBits_ninf]
      T := fun x t g r => by
        unfold tail4 dotRow colW relW
        pointwise [k4_pay78, k4_pay11, k4_pay12, k4_pay16, k4_pay77] }
  L a w :=
    { M := fun x m r => by
        unfold tail4 top dotRowL dotRow colW
        pointwise [k4_pay87, k4_pay85, k4_pay84, k4_pay83, k4_pay149, ofBits_ninf]
      S := fun x m s r => by
        unfold tail4 top dotRowL dotRow colW
        pointwise [k4_pay86, k4_pay85, k4_pay84, k4_pay83, k4_pay149, ofBits_ninf]
      T := fun x t g r => by
        unfold tail4 dotRowL dotRow colW relW
        pointwise [k4_pay150, k4_pay84, k4_pay83, k4_pay88, k4_pay149, ofBits_ninf] }
  im j := by unfold tail4; pointwise [k4_pay1, ofBits_ninf]
  is j := by unfold tail4; pointwise [k4_pay2]
  ig j := by unfold tail4; pointwise [k4_pay3]
  out off cnt g m s p := by
    unfold tail4
    pointwise [k4_pay10, k4_pay161, k4_pay162]
    rfl

end Cert.KernelIdeal.Pf

end
-- ==== Proof.Math.Rows.lean ====
/-
  The rows of the second preparing kernel and of the head kernel: a sorted row is the row of its token, and a token's result is the sum
  of the three clusters' values at its sorted row plus its log-softmax over the head.
-/
module

public import proofs.«01_k».proof.Proof.Math.Prep1
public import proofs.«01_k».proof.Proof.Math.Pay

@[expose] public section

set_option maxRecDepth 16384

noncomputable section

namespace Cert.KernelIdeal.Pf

open Cert.KernelIdeal Cert.KernelIdeal.Gen
open Idealize.ShloMosaic Idealize.ShloMosaic.TcCoe
open Idealize.ShloMosaic.WordCmp
open Cert.Own

local notation "ix" => Idealize.ShloMosaic.ix2

theorem hot_word (p : Prop) [Decidable p] :
    (FloatOps.sitofp .f32 (BitVec.setWidth 32 (BitVec.ofBool (decide p))) : Ideal .f32) = ((if p then 1 else 0 : EReal)) := by
  by_cases h : p
  · rw [decide_eq_true h, if_pos h]
    show (((BitVec.setWidth 32 (BitVec.ofBool true)).toInt : ℝ) : EReal) = 1
    rw [show (BitVec.setWidth 32 (BitVec.ofBool true)).toInt = 1 by decide]
    simp
  · rw [decide_eq_false h, if_neg h]
    show (((BitVec.setWidth 32 (BitVec.ofBool false)).toInt : ℝ) : EReal) = 0
    rw [show (BitVec.setWidth 32 (BitVec.ofBool false)).toInt = 0 by decide]
    simp

theorem sum_hot {n : ℕ} (q : Fin n → BitVec 1) (a : Fin n → EReal) (j : Fin n) (h : ∀ i, q i = BitVec.ofBool (decide (i = j))) :
    ∑ i, ((FloatOps.sitofp .f32 (BitVec.setWidth 32 (q i)) : Ideal .f32) : EReal) * a i = a j := by
  rw [Finset.sum_eq_single j]
  · rw [h, hot_word, if_pos rfl, one_mul]
  · intro i _ hi
    rw [h, hot_word, if_neg hi, zero_mul]
  · intro hj; exact absurd (Finset.mem_univ _) hj

/-- The number of sorted row `r` of block `i`. -/
theorem rowW (i r : ℕ) : IntOp.addi (Scalar.muli (BitVec.ofNat 32 i) 256#32) (BitVec.ofNat 32 r) = BitVec.ofNat 32 (256 * i + r) := by
  show IntOp.addi (IntOp.muli (BitVec.ofNat 32 i) (BitVec.ofNat 32 256)) _ = _
  rw [muli_ofNat, addi_ofNat, Nat.mul_comm]

section

variable {P : Vec Ideal S2048x1 .i32} {pos : Fin 2048 → ℕ} (hP : ∀ j, P (ix j 0) = BitVec.ofNat 32 (pos j)) (hlt : ∀ j, pos j < 2816)
  (hinj : ∀ i j, pos i = pos j → i = j) (i : grid1.Coords) (r : Fin 256) (j : Fin 2048) (hj : pos j = 256 * (i 0).val + r.val)

include hP hlt hinj hj in
theorem mask_word (x : Fin 2048) :
    IntOp.cmpi .eq (P (ix x 0)) (IntOp.addi (Scalar.muli (BitVec.ofNat 32 (i 0).val) 256#32) (BitVec.ofNat 32 r.val)) = BitVec.ofBool (decide (x = j)) := by
  have := hlt x
  have := hlt j
  rw [rowW, hP, ← hj, cmpi_eq_ofNat (by omega) (by omega)]
  congr 1
  exact decide_eq_decide.mpr ⟨hinj x j, congrArg pos⟩

include hP hlt hinj hj in
theorem hid8 (A : Vec Ideal S2048x256 .bf16) (e : Fin 256) : k1_pay8 i P A (ix r e) = A (ix j e) := by
  refine Eq.trans ?_ (sum_hot _ (fun x => A (ix x e)) j (mask_word hP hlt hinj i r j hj))
  pointwise [k1_pay8, k1_pay7, k1_pay6]

include hP hlt hinj hj in
theorem hid9 (A : Vec Ideal S2048x64 .bf16) (e : Fin 64) : k1_pay9 i P A (ix r e) = A (ix j e) := by
  refine Eq.trans ?_ (sum_hot _ (fun x => A (ix x e)) j (mask_word hP hlt hinj i r j hj))
  pointwise [k1_pay9, k1_pay7, k1_pay6]

include hP hlt hinj hj in
theorem hid10 (A : Vec Ideal S2048x16 .bf16) (e : Fin 16) : k1_pay10 i P A (ix r e) = A (ix j e) := by
  refine Eq.trans ?_ (sum_hot _ (fun x => A (ix x e)) j (mask_word hP hlt hinj i r j hj))
  pointwise [k1_pay10, k1_pay7, k1_pay6]

include hP hlt hinj hj in
theorem ts_row (X : Vec Ideal S2048x1 .i32) : tsOf i P X (ix r 0) = X (ix j 0) := by
  have e := fold_addi (fun x : Fin 2048 => Scalar.select (BitVec.ofBool (decide (x = j))) (X (ix x 0)) 0#32)
    (fun x => if x = j then (X (ix x 0)).toNat else 0) fun x => by
      rw [select_decide]
      split
      · exact (BitVec.ofNat_toNat 32 (X (ix x 0))).symm ▸ (BitVec.setWidth_eq (X (ix x 0))).symm
      · rfl
  rw [Finset.sum_ite_eq' Finset.univ j fun x => (X (ix x 0)).toNat, if_pos (Finset.mem_univ _)] at e
  have e2 : BitVec.ofNat 32 (X (ix j 0)).toNat = X (ix j 0) := by simp
  rw [← e2, ← e]
  simp only [← mask_word hP hlt hinj i r j hj]
  unfold tsOf
  pointwise [k1_pay1, k1_pay11, k1_pay6]

end

theorem hidA (X : Vec Ideal S2048x1024 .f32) (W : Vec Ideal S256x1024 .f32) (i : Fin 2048) (e : Fin 256) :
    k1_pay3 X W (ix i e) = ∑ f, (X (ix i f) : EReal) * W (ix e f) := by pointwise [k1_pay3, k1_pay2]

theorem hidB (X : Vec Ideal S2048x1024 .f32) (W : Vec Ideal S64x1024 .f32) (i : Fin 2048) (e : Fin 64) :
    k1_pay4 X W (ix i e) = ∑ f, (X (ix i f) : EReal) * W (ix e f) := by pointwise [k1_pay4, k1_pay2]

theorem hidC (X : Vec Ideal S2048x1024 .f32) (W : Vec Ideal S16x1024 .f32) (i : Fin 2048) (e : Fin 16) :
    k1_pay5 X W (ix i e) = ∑ f, (X (ix i f) : EReal) * W (ix e f) := by pointwise [k1_pay5, k1_pay2]

/-- A target's column in the head. -/
def gW (t : BitVec 32) : BitVec 32 := Scalar.select (IntOp.cmpi .eq (clW t) 0#32) t (IntOp.subi (IntOp.addi 2000#32 (clW t)) 1#32)

theorem gW_lt (t : BitVec 32) (ht : t.toNat < 2 ^ 31) : (gW t).toNat < 2003 := by
  unfold gW
  have h3 := clN_le t
  rw [clW_eq, cmpi_eq_ofNat (by omega) (by omega), select_decide]
  split
  · next h =>
    unfold clN at h
    have h1 : ¬ (2000#32).toInt ≤ t.toInt := fun hc => by rw [if_pos hc] at h; omega
    rw [show (2000#32).toInt = 2000 by decide, toInt_eq_toNat_of_lt_half ht] at h1
    omega
  · next h =>
    show (BitVec.ofNat 32 2000 + BitVec.ofNat 32 (clN t) - 1#32).toNat < 2003
    obtain e | e | e : clN t = 1 ∨ clN t = 2 ∨ clN t = 3 := by omega
    all_goals rw [e]; decide

/-- The head's log-softmax of a token. -/
theorem head_row (X : Vec Ideal S256x1024 .f32) (W : Vec Ideal S2003x1024 .f32) (t : Vec Ideal S256x1 .i32) (r : Fin 256)
    (ht : (t (ix r 0)).toNat < 2 ^ 31) :
    k5_pay1 X W t (ix r 0) = lsm (fun k : Fin 2003 => ∑ f, (X (ix r f) : EReal) * W (ix k f)) ⟨(gW (t (ix r 0))).toNat, gW_lt _ ht⟩ := by
  have e : ∑ k : Fin 2003, Scalar.select (IntOp.cmpi .eq (BitVec.ofNat 32 k.val) (gW (t (ix r 0)))) (∑ f, (X (ix r f) : EReal) * W (ix k f)) 0
      = ∑ f, (X (ix r f) : EReal) * W (ix (⟨(gW (t (ix r 0))).toNat, gW_lt _ ht⟩ : Fin 2003) f) := by
    have hc : ∀ k : Fin 2003, Scalar.select (IntOp.cmpi .eq (BitVec.ofNat 32 k.val) (gW (t (ix r 0)))) (∑ f, (X (ix r f) : EReal) * W (ix k f)) 0
        = if k = ⟨(gW (t (ix r 0))).toNat, gW_lt _ ht⟩ then ∑ f, (X (ix r f) : EReal) * W (ix k f) else 0 := fun k => by
      have := k.isLt
      rw [cmpi_eq_eq_toNat, toNat_ofNat_of_lt (by omega), select_decide]
      simp only [Fin.ext_iff]
    rw [Finset.sum_congr rfl fun k _ => hc k, Finset.sum_ite_eq' Finset.univ _ fun k : Fin 2003 => ∑ f, (X (ix r f) : EReal) * W (ix k f),
      if_pos (Finset.mem_univ _)]
  unfold lsm top
  dsimp only
  rw [← e]
  unfold gW clW
  pointwise [k5_pay1, ofBits_ninf]

/-- A token's result. -/
theorem out_row (h : Vec Ideal S256x1 .f32) (a b c : Vec Ideal S2816x1 .f32) (P : Vec Ideal S256x1 .i32) (r : Fin 256) (p : Fin 2816)
    (hp : P (ix r 0) = BitVec.ofNat 32 p.val) :
    k5_pay2 h a b c P (ix r 0) = ((a (ix p 0) : EReal) + b (ix p 0) + c (ix p 0)) + h (ix r 0) := by
  have e := sum_hot (fun x : Fin 2816 => IntOp.cmpi .eq (P (ix r 0)) (BitVec.ofNat 32 x.val))
    (fun x => ((a (ix x 0) : EReal) + b (ix x 0) + c (ix x 0))) p fun x => by
      have := x.isLt
      have := p.isLt
      rw [hp, cmpi_eq_ofNat (by omega) (by omega)]
      congr 1
      exact decide_eq_decide.mpr ⟨fun h => Fin.ext h.symm, fun h => congrArg Fin.val h.symm⟩
  rw [← e]
  pointwise [k5_pay2]

/-- The accumulator's step. -/
theorem acc_row (h : Vec Ideal S256x1 .f32) (a b c : Vec Ideal S2816x1 .f32) (P : Vec Ideal S256x1 .i32) (s : EReal) :
    k5_pay3 (F := Ideal) h a b c P s = s + Ideal.div (∑ x : Fin 256, -(k5_pay2 h a b c P (ix x 0) : EReal)) (Ideal.ofBits .f32 0x45000000#32) := by
  pointwise [k5_pay3]
  congr 2
  refine Finset.sum_congr rfl fun x _ => ?_
  rw [Fin.sum_univ_one]
  exact zero_sub _

end Cert.KernelIdeal.Pf

end
-- ==== Proof.Math.TailRow.lean ====
/-
  A row of a tail kernel's running buffers through the blocks of columns: a row of the cluster ends at the log-softmax of the row's
  logits at its target, a row outside the cluster at zero.
-/
module

public import proofs.«01_k».proof.Proof.Math.Pay
public import proofs.«01_k».proof.Proof.Ideal.Tails
public import Idealize.ShloMosaic.Lib.WordCmp
public import Idealize.ShloMosaic.Lib.Pipeline.ValueKit.Geometry

@[expose] public section

noncomputable section

namespace Cert.KernelIdeal.Pf

open Cert.KernelIdeal Cert.KernelIdeal.Gen
open Idealize.ShloMosaic Idealize.ShloMosaic.TcCoe
open Cert.Own
open Idealize.ShloMosaic.WordCmp

local notation "ix" => Idealize.ShloMosaic.ix2

/-- Row `256 j + r` of a one-column buffer. -/
def rowN (j : ℕ) (h : j + 1 ≤ 11) (r : Fin 256) : Fin 2816 := ⟨256 * j + r.val, by have := r.isLt; omega⟩

theorem emb_row (d j : ℕ) (h : j + 1 ≤ 11) (r : Fin 256) (e : Fin d) : (rW d j h).emb (ix r e) = ix (rowN j h r) e := by
  funext a
  apply Fin.ext
  refine (ValueKit.rect_emb_unit_val _ _ _ _ a).trans ?_
  match a with
  | ⟨0, _⟩ => rfl
  | ⟨1, _⟩ => exact Nat.zero_add _

theorem emb_col (j : ℕ) (h : j + 1 ≤ 11) (r : Fin 256) : (rT j h).emb (ix r (0 : Fin 1)) = ix (rowN j h r) (0 : Fin 1) := emb_row 1 j h r 0

theorem get_col {α : Type} (j : ℕ) (h : j + 1 ≤ 11) (X : S2816x1.Idx → α) (r : Fin 256) : get (rT j h) X (ix r 0) = X (ix (rowN j h r) 0) :=
  congrArg X (emb_col j h r)

theorem put_col {α : Type} (j : ℕ) (h : j + 1 ≤ 11) (X : S2816x1.Idx → α) (w : S256x1.Idx → α) (r : Fin 256) :
    put (rT j h) X w (ix (rowN j h r) 0) = w (ix r 0) := by
  rw [← emb_col]; exact put_emb _ _ _ _

theorem put_col_ne {α : Type} (j i : ℕ) (h : j + 1 ≤ 11) (hi : i + 1 ≤ 11) (hij : j ≠ i) (X : S2816x1.Idx → α) (w : S256x1.Idx → α) (r : Fin 256) :
    put (rT j h) X w (ix (rowN i hi r) 0) = X (ix (rowN i hi r) 0) := by
  apply put_of_not
  rintro ⟨x, hx⟩
  have e := congrArg (fun y => (y 0).val) hx
  have e' : ((rT j h).emb x 0).val = 256 * j + (x 0).val := ValueKit.rect_emb_unit_val _ _ _ _ 0
  have e2 : 256 * j + (x 0).val = 256 * i + r.val := e'.symm.trans e
  have h1 : (x 0).val < 256 := (x 0).isLt
  have h2 := r.isLt
  omega

/-- The three running values of a row. -/
def rowOf (st : St Ideal) (p : Fin 2816) : EReal × EReal × EReal := (st.m (ix p 0), st.s (ix p 0), st.g (ix p 0))

/-- The three running values of a row after a block whose logits are `l`. -/
def upd (l : Fin 2048 → EReal) (q : Fin 2048 → BitVec 1) (v : EReal × EReal × EReal) : EReal × EReal × EReal :=
  (max v.1 (top l), v.2.1 * Ideal.exp (v.1 - max v.1 (top l)) + ∑ k, Ideal.exp (l k - max v.1 (top l)), v.2.2 + ∑ k, Scalar.select (q k) (l k) 0)

section

variable {d : ℕ} {P : Pay Ideal ⟨2, ![256, d]⟩} {lm : (Fin d → EReal) → Fin 2048 → EReal} {col : Fin 2048 → BitVec 32} {rel : BitVec 32 → BitVec 32}

theorem tile_same (hP : PayOk P lm col rel) (X2 : Vec Ideal (⟨2, ![2816, d]⟩ : Shape) .bf16) (X4 : Vec Ideal S2816x1 .i32) (j : ℕ) (h : j + 1 ≤ 11)
    (st : St Ideal) (r : Fin 256) :
    rowOf (tile (rW d j h) P X2 X4 j h st) (rowN j h r)
      = upd (lm fun e => X2 (ix (rowN j h r) e)) (fun k => IntOp.cmpi .eq (col k) (rel (X4 (ix (rowN j h r) 0)))) (rowOf st (rowN j h r)) := by
  have e : (fun e => get (rW d j h) X2 (ix r e)) = fun e => X2 (ix (rowN j h r) e) := funext fun e => congrArg X2 (emb_row d j h r e)
  unfold rowOf upd tile
  dsimp only
  rw [put_col, put_col, put_col, hP.M, hP.S, hP.T, get_col, get_col, get_col, get_col, e]

theorem tile_other (P : Pay Ideal ⟨2, ![256, d]⟩) (X2 : Vec Ideal (⟨2, ![2816, d]⟩ : Shape) .bf16) (X4 : Vec Ideal S2816x1 .i32) (j i : ℕ) (h : j + 1 ≤ 11)
    (hi : i + 1 ≤ 11) (hij : j ≠ i) (st : St Ideal) (r : Fin 256) :
    rowOf (tile (rW d j h) P X2 X4 j h st) (rowN i hi r) = rowOf st (rowN i hi r) := by
  unfold rowOf tile
  dsimp only
  rw [put_col_ne j i h hi hij, put_col_ne j i h hi hij, put_col_ne j i h hi hij]

theorem tiles_after (P : Pay Ideal ⟨2, ![256, d]⟩) (X2 : Vec Ideal (⟨2, ![2816, d]⟩ : Shape) .bf16) (X4 : Vec Ideal S2816x1 .i32) (off cnt : BitVec 32) (i : ℕ)
    (hi : i + 1 ≤ 11) (r : Fin 256) : ∀ (n j : ℕ) (h : n + j ≤ 11) (_ : i < j) (st : St Ideal),
    rowOf (tiles P X2 X4 off cnt n j h st) (rowN i hi r) = rowOf st (rowN i hi r)
  | 0, _, _, _, _ => rfl
  | n + 1, j, h, hj, st => by
    rw [tiles, tiles_after P X2 X4 off cnt i hi r n (j + 1) _ (by omega)]
    split
    · exact tile_other P X2 X4 j i _ hi (by omega) st r
    · rfl

/-- The tiles change a row by its own tile alone. -/
theorem tiles_row (hP : PayOk P lm col rel) (X2 : Vec Ideal (⟨2, ![2816, d]⟩ : Shape) .bf16) (X4 : Vec Ideal S2816x1 .i32) (off cnt : BitVec 32) (i : ℕ)
    (hi : i + 1 ≤ 11) (r : Fin 256) (ha : act off cnt (BitVec.ofNat 32 (256 * i)) (BitVec.ofNat 32 (256 * (i + 1))) = 1#1) :
    ∀ (n j : ℕ) (h : n + j ≤ 11) (_ : j ≤ i) (_ : i < n + j) (st : St Ideal),
    rowOf (tiles P X2 X4 off cnt n j h st) (rowN i hi r)
      = upd (lm fun e => X2 (ix (rowN i hi r) e)) (fun k => IntOp.cmpi .eq (col k) (rel (X4 (ix (rowN i hi r) 0)))) (rowOf st (rowN i hi r))
  | 0, _, _, h1, h2, _ => by omega
  | n + 1, j, h, h1, h2, st => by
    by_cases hij : j = i
    · subst hij
      rw [tiles, tiles_after P X2 X4 off cnt j hi r n (j + 1) _ (by omega), if_pos ha]
      exact tile_same hP X2 X4 j _ st r
    · rw [tiles, tiles_row hP X2 X4 off cnt i hi r ha n (j + 1) _ (by omega) (by omega)]
      congr 1
      split
      · exact tile_other P X2 X4 j i _ hi hij st r
      · rfl

end

theorem bit_eq (b : BitVec 1) : bit b = b := by revert b; decide

theorem act_of (o c p j : ℕ) (hoc : o + c ≤ 2816) (h1 : o ≤ p) (h2 : p < o + c) (hj : p / 256 = j) :
    act (BitVec.ofNat 32 o) (BitVec.ofNat 32 c) (BitVec.ofNat 32 (256 * j)) (BitVec.ofNat 32 (256 * (j + 1))) = 1#1 := by
  have e1 : IntOp.cmpi .sgt (BitVec.ofNat 32 (o + c)) (BitVec.ofNat 32 (256 * j)) = 1#1 :=
    (cmpi_sgt_ofNat_eq_one_iff (by omega) (by omega)).mpr (by omega)
  have e2 : IntOp.cmpi .slt (BitVec.ofNat 32 o) (BitVec.ofNat 32 (256 * (j + 1))) = 1#1 :=
    (cmpi_slt_ofNat_eq_one_iff (by omega) (by omega)).mpr (by omega)
  show bit (IntOp.andi (IntOp.cmpi .sgt (IntOp.addi (BitVec.ofNat 32 o) (BitVec.ofNat 32 c)) (BitVec.ofNat 32 (256 * j)))
    (IntOp.cmpi .slt (BitVec.ofNat 32 o) (BitVec.ofNat 32 (256 * (j + 1))))) = 1#1
  rw [bit_eq, addi_ofNat, e1, e2]
  rfl

theorem relW_le (low t : BitVec 32) (hi : ℕ) (h : hi < 2 ^ 31) : (relW low (BitVec.ofNat 32 hi) t).toNat ≤ hi := by
  have e := toInt_ofNat_of_lt (w := 32) (a := hi) h
  have h0 : (0#32).toInt = 0 := rfl
  have e2 : (BitVec.ofNat 32 hi).toNat = hi := toNat_ofNat_of_lt (by omega)
  have key : ∀ x : BitVec 32, 0 ≤ x.toInt → x.toInt ≤ hi → x.toNat ≤ hi := fun x h1 h2 => by
    rw [BitVec.toInt_eq_toNat_cond] at h1 h2; split at h1 <;> omega
  unfold relW IntOp.minsi IntOp.maxsi
  generalize IntOp.subi t low = x
  split_ifs <;> simp only [BitVec.slt, decide_eq_true_eq] at * <;> apply key <;> omega

/-- The logits of row `p` of the sorted table, `⊥` past the vocabulary. -/
def rowL {d rows : ℕ} (H : Vec Ideal (⟨2, ![2816, d]⟩ : Shape) .bf16) (W : (⟨2, ![rows, d]⟩ : Shape).Idx → EReal) (p : Fin 2816) (c : ℕ) : EReal :=
  if h : c < rows then ∑ e, H (ix p e) * W (ix ⟨c, h⟩ e) else ⊥

theorem upd_ok {L : ℕ → EReal} {rel n : ℕ} {v : EReal × EReal × EReal} (h : RowOk L rel (2048 * n) v.1 v.2.1 v.2.2) (l : Fin 2048 → EReal)
    (q : Fin 2048 → BitVec 1) (hl : ∀ k, l k = L (2048 * n + k.val)) (hq : ∀ k, q k = BitVec.ofBool (decide (2048 * n + k.val = rel))) :
    RowOk L rel (2048 * (n + 1)) (upd l q v).1 (upd l q v).2.1 (upd l q v).2.2 := by
  have el : l = fun k : Fin 2048 => L (2048 * n + k.val) := funext hl
  have es : ∀ k : Fin 2048, Scalar.select (q k) (l k) 0 = if 2048 * n + k.val = rel then L (2048 * n + k.val) else 0 := fun k => by
    rw [hq, hl, select_decide]
  have := h.step 2048
  rw [show 2048 * (n + 1) = 2048 * n + 2048 by omega]
  unfold upd
  dsimp only
  rw [Finset.sum_congr rfl fun k _ => es k, el]
  exact this

section

variable {d rows : ℕ} {T : Tail Ideal d} {low : BitVec 32} (hT : TailOk T low (BitVec.ofNat 32 (rows - 1)) (BitVec.ofNat 32 rows))
  {N : ℕ} (hN : 1 ≤ N) (hN1 : 2048 * (N - 1) < rows) (hN2 : rows ≤ 2048 * N) (hN3 : N ≤ 1000)
  {o c : ℕ} (hoc : o + c ≤ 2816) {H : Vec Ideal (⟨2, ![2816, d]⟩ : Shape) .bf16} {W : (⟨2, ![rows, d]⟩ : Shape).Idx → EReal}
  {ts : Vec Ideal S2816x1 .i32}

include hT hN hN1 hN2 hN3 hoc in
theorem step_row (i : ℕ) (hi : i + 1 ≤ 11) (r : Fin 256) (h1 : o ≤ 256 * i + r.val) (h2 : 256 * i + r.val < o + c)
    (n : ℕ) (hn : n < N) (st : St Ideal) (X : Vec Ideal (⟨2, ![2048, d]⟩ : Shape) .f32) (hX : Agrees W n X)
    (h : n = 0 ∨ RowOk (rowL H W (rowN i hi r)) (relW low (BitVec.ofNat 32 (rows - 1)) (ts (ix (rowN i hi r) 0))).toNat (2048 * n)
      (rowOf st (rowN i hi r)).1 (rowOf st (rowN i hi r)).2.1 (rowOf st (rowN i hi r)).2.2) :
    RowOk (rowL H W (rowN i hi r)) (relW low (BitVec.ofNat 32 (rows - 1)) (ts (ix (rowN i hi r) 0))).toNat (2048 * (n + 1))
      (rowOf (T.step (BitVec.ofNat 32 n) (BitVec.ofNat 32 (N - 1)) (BitVec.ofNat 32 o) (BitVec.ofNat 32 c) H X ts st) (rowN i hi r)).1
      (rowOf (T.step (BitVec.ofNat 32 n) (BitVec.ofNat 32 (N - 1)) (BitVec.ofNat 32 o) (BitVec.ofNat 32 c) H X ts st) (rowN i hi r)).2.1
      (rowOf (T.step (BitVec.ofNat 32 n) (BitVec.ofNat 32 (N - 1)) (BitVec.ofNat 32 o) (BitVec.ofNat 32 c) H X ts st) (rowN i hi r)).2.2 := by
  have hr := r.isLt
  have ha := act_of o c (256 * i + r.val) i hoc h1 h2 (by omega)
  have hrel := relW_le low (ts (ix (rowN i hi r) 0)) (rows - 1) (by omega)
  have hcol : ∀ k : Fin 2048, colW (BitVec.ofNat 32 n) k = BitVec.ofNat 32 (2048 * n + k.val) := fun k => by
    show IntOp.addi (IntOp.muli (BitVec.ofNat 32 n) (BitVec.ofNat 32 2048)) (BitVec.ofNat 32 k.val) = _
    rw [muli_ofNat, addi_ofNat, Nat.mul_comm]
  have hq : ∀ k : Fin 2048, IntOp.cmpi .eq (colW (BitVec.ofNat 32 n) k) (relW low (BitVec.ofNat 32 (rows - 1)) (ts (ix (rowN i hi r) 0)))
      = BitVec.ofBool (decide (2048 * n + k.val = (relW low (BitVec.ofNat 32 (rows - 1)) (ts (ix (rowN i hi r) 0))).toNat)) := fun k => by
    have := k.isLt
    rw [cmpi_eq_eq_toNat, hcol, toNat_ofNat_of_lt (by omega)]
  have hd : ∀ k : Fin 2048, 2048 * n + k.val < rows → dotRow X (fun e => H (ix (rowN i hi r) e)) k = rowL H W (rowN i hi r) (2048 * n + k.val) :=
    fun k hk => by
      unfold dotRow rowL
      rw [dif_pos hk]
      refine Finset.sum_congr rfl fun e _ => congrArg _ ?_
      rw [hX (ix k e) (by show n * 2048 + k.val < rows; omega)]
      exact congrArg (fun q => W (ix q e)) (Fin.ext (by show n * 2048 + k.val = 2048 * n + k.val; omega))
  have h0 : RowOk (rowL H W (rowN i hi r)) (relW low (BitVec.ofNat 32 (rows - 1)) (ts (ix (rowN i hi r) 0))).toNat (2048 * n)
      (rowOf (if bit (Scalar.cmpi .eq (BitVec.ofNat 32 n) 0#32) = 1#1 then T.init else st) (rowN i hi r)).1
      (rowOf (if bit (Scalar.cmpi .eq (BitVec.ofNat 32 n) 0#32) = 1#1 then T.init else st) (rowN i hi r)).2.1
      (rowOf (if bit (Scalar.cmpi .eq (BitVec.ofNat 32 n) 0#32) = 1#1 then T.init else st) (rowN i hi r)).2.2 := by
    by_cases hz : n = 0
    · subst hz
      rw [if_pos (by decide)]
      unfold rowOf
      rw [hT.im, hT.is, hT.ig]
      exact RowOk.zero _ _
    · have hz' : ¬ Scalar.cmpi .eq (BitVec.ofNat 32 n) 0#32 = 1#1 := (cmpi_eq_ofNat_eq_one_iff (w := 32) (by omega) (by omega)).not.mpr hz
      rw [bit_eq, if_neg hz']
      exact h.resolve_left hz
  unfold Tail.step
  dsimp only
  rw [bit_eq (Scalar.cmpi .slt _ _), bit_eq (Scalar.cmpi .eq _ (BitVec.ofNat 32 (N - 1)))]
  by_cases hl : n = N - 1
  · rw [if_neg (c := Scalar.cmpi .slt _ _ = _) ((cmpi_slt_ofNat_eq_one_iff (w := 32) (by omega) (by omega)).not.mpr (by omega)),
      if_pos (c := Scalar.cmpi .eq _ (BitVec.ofNat 32 (N - 1)) = _) ((cmpi_eq_ofNat_eq_one_iff (w := 32) (by omega) (by omega)).mpr hl)]
    rw [tiles_row (hT.L (BitVec.ofNat 32 n) X) H ts _ _ i hi r ha 11 0 _ (by omega) (by omega)]
    refine upd_ok h0 _ _ (fun k => ?_) hq
    have := k.isLt
    unfold dotRowL
    rw [hcol, cmpi_slt_ofNat (by omega) (by omega), select_decide]
    by_cases hk : 2048 * n + k.val < rows
    · rw [if_pos hk, hd k hk]
    · rw [if_neg hk]; unfold rowL; rw [dif_neg hk]
  · rw [if_pos (c := Scalar.cmpi .slt _ _ = _) ((cmpi_slt_ofNat_eq_one_iff (w := 32) (by omega) (by omega)).mpr (by omega)),
      if_neg (c := Scalar.cmpi .eq _ (BitVec.ofNat 32 (N - 1)) = _) ((cmpi_eq_ofNat_eq_one_iff (w := 32) (by omega) (by omega)).not.mpr hl)]
    rw [tiles_row (hT.U (BitVec.ofNat 32 n) X) H ts _ _ i hi r ha 11 0 _ (by omega) (by omega)]
    refine upd_ok h0 _ _ (fun k => ?_) hq
    have := k.isLt
    exact hd k (by omega)

include hT hN hN1 hN2 hN3 hoc in
theorem reach_row (i : ℕ) (hi : i + 1 ≤ 11) (r : Fin 256) (h1 : o ≤ 256 * i + r.val) (h2 : 256 * i + r.val < o + c) (n : ℕ) (hn : n ≤ N)
    (st : St Ideal) (h : Reach T (BitVec.ofNat 32 (N - 1)) (BitVec.ofNat 32 o) (BitVec.ofNat 32 c) H W ts n st) :
    n = 0 ∨ RowOk (rowL H W (rowN i hi r)) (relW low (BitVec.ofNat 32 (rows - 1)) (ts (ix (rowN i hi r) 0))).toNat (2048 * n)
      (rowOf st (rowN i hi r)).1 (rowOf st (rowN i hi r)).2.1 (rowOf st (rowN i hi r)).2.2 := by
  induction h with
  | zero st => exact .inl rfl
  | succ n st X hX _ ih => exact .inr (step_row hT hN hN1 hN2 hN3 hoc i hi r h1 h2 n (by omega) st X hX (ih (by omega)))

include hT hN hN1 hN2 hN3 hoc in
/-- What a tail kernel writes at a row. -/
theorem done_row {tab : Vec Ideal S2 .i32} {X : Vec Ideal S2816x1 .f32} (h : Done T (BitVec.ofNat 32 (N - 1)) tab H W ts N X)
    (e0 : word tab 0 (by omega) = BitVec.ofNat 32 o) (e1 : word tab 1 (by omega) = BitVec.ofNat 32 c) (p : Fin 2816) :
    X (ix p 0) = if o ≤ p.val ∧ p.val < o + c then
      lsm (fun j : Fin rows => ∑ e, H (ix p e) * W (ix j e))
        ⟨(relW low (BitVec.ofNat 32 (rows - 1)) (ts (ix p 0))).toNat, by have := relW_le low (ts (ix p 0)) (rows - 1) (by omega); omega⟩ else 0 := by
  obtain ⟨st, hst, rfl⟩ := h
  rw [e0, e1] at hst ⊢
  have hp := p.isLt
  unfold Tail.out
  rw [hT.out, addi_ofNat, cmpi_sge_ofNat (by omega) (by omega), cmpi_slt_ofNat (by omega) (by omega), andi_ofBool, ← Bool.decide_and, select_decide]
  by_cases hv : o ≤ p.val ∧ p.val < o + c
  · rw [if_pos hv, if_pos hv]
    obtain ⟨i, hi, r, rfl⟩ : ∃ (i : ℕ) (hi : i + 1 ≤ 11) (r : Fin 256), p = rowN i hi r :=
      ⟨p.val / 256, by omega, ⟨p.val % 256, Nat.mod_lt _ (by omega)⟩, Fin.ext (Nat.div_add_mod p.val 256).symm⟩
    have hR := (reach_row hT hN hN1 hN2 hN3 hoc i hi r hv.1 hv.2 N le_rfl st hst).resolve_left (by omega)
    refine (hR.done (N := rows) hN2 (fun j hj => dif_neg (by omega))
      (by have := relW_le low (ts (ix (rowN i hi r) 0)) (rows - 1) (by omega); omega)).trans ?_
    congr 1
    funext j
    exact dif_pos j.isLt
  · rw [if_neg hv, if_neg hv]

end

end Cert.KernelIdeal.Pf

end
-- ==== Proof.Math.Outs.lean ====
/-
  What each region leaves in its outputs, row by row.
-/
module

public import proofs.«01_k».proof.Proof.Ideal.Frames
public import proofs.«01_k».proof.Proof.Math.Rows
public import proofs.«01_k».proof.Proof.Math.TailRow

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA
open Idealize.ShloMosaic.Pipeline
open Cert.Own

local notation "ix" => Idealize.ShloMosaic.ix2

variable {F : FTy → Type} [FloatOps F]
variable {Ix : Type} [DecidableEq Ix] {U : Type} [URA U] {Lvl : Type} [Preorder Lvl]

theorem coord0 (t : Fin grid0.N) : (BitVec.ofNat 32 (grid0.coords t 0).val).toNat = t.val ∧ (grid0.coords t 0).val = t.val := by
  revert t; decide

theorem coord1 (t : Fin grid1.N) : (BitVec.ofNat 32 (grid1.coords t 0).val).toNat = t.val ∧ (grid1.coords t 0).val = t.val := by
  revert t; decide

/-- Row `r` of block `n`, out of 2048 and out of 2816. -/
def row8 (n : Fin 8) (r : Fin 256) : Fin 2048 := ⟨n.val * 256 + r.val, by have := n.isLt; have := r.isLt; omega⟩
def row11 (n : Fin 11) (r : Fin 256) : Fin 2816 := ⟨n.val * 256 + r.val, by have := n.isLt; have := r.isLt; omega⟩

theorem makes0_pos (V : Valuation τ sig (Elt F)) (c : Dev nD) (G : Vec F S2048x1 .i32)
    (hG : (rd0 (Ix := Ix) (U := U) (Lvl := Lvl) V c).ArrAt 1 cfg0.N G) (n : Fin grid0.N) (r : Fin 256) :
    G (ix (row8 n r) 0) = posOf (grid0.coords n) (vT V) (ix r 0) := by
  have hinj : ∀ t t' : Fin cfg0.N, (cfg0.win 1).flush t = true → (cfg0.win 1).flush t' = true → (cfg0.win 1).index t = (cfg0.win 1).index t' → t = t' :=
    fun t t' _ _ h => Fin.ext (((coord0 t).1.symm.trans (congrFun h 0)).trans (coord0 t').1)
  obtain ⟨X, ⟨Y, -, hX⟩, hr⟩ := read_flushed (rd0 (Ix := Ix) (U := U) (Lvl := Lvl) V c) 1 hinj hG n (flush0_1 _)
  rw [← show X = posOf (grid0.coords n) (vT V) from hX]
  refine (same2 G _ (((cfg0.win 1).rect n).emb (ix r 0)) ⟨?_, (zero_emb _ _).symm⟩).trans (congrFun hr (ix r 0))
  show n.val * 256 + r.val = (BitVec.ofNat 32 (grid0.coords n 0).val).toNat * 256 + 1 * r.val
  rw [(coord0 n).1, Nat.one_mul]

theorem inj1 (a : Fin grid1.N → ℕ) (ha : ∀ t, a t = (BitVec.ofNat 32 (grid1.coords t 0).val).toNat) (t t' : Fin grid1.N) (h : a t = a t') : t = t' :=
  Fin.ext (by rw [ha, ha, (coord1 t).1, (coord1 t').1] at h; exact h)

theorem makes1_6 (V : Valuation τ sig (Elt F)) (c : Dev nD) (G : Vec F S2816x256 .bf16)
    (hG : (rd1 (Ix := Ix) (U := U) (Lvl := Lvl) V c).ArrAt 6 cfg1.N G) (n : Fin grid1.N) (r : Fin 256) (e : Fin 256) :
    G (ix (row11 n r) e) = k1_pay8 (grid1.coords n) (vP V) (vH V).a (ix r e) := by
  have hinj : ∀ t t' : Fin cfg1.N, (cfg1.win 6).flush t = true → (cfg1.win 6).flush t' = true → (cfg1.win 6).index t = (cfg1.win 6).index t' → t = t' :=
    fun t t' _ _ h => inj1 _ (fun _ => rfl) t t' (congrFun h 0)
  obtain ⟨X, ⟨Y, -, hX⟩, hr⟩ := read_flushed (rd1 (Ix := Ix) (U := U) (Lvl := Lvl) V c) 6 hinj hG n (flush1_6 _)
  rw [← show X = k1_pay8 (grid1.coords n) (vP V) (vH V).a from hX]
  refine (same2 G _ (((cfg1.win 6).rect n).emb (ix r e)) ⟨?_, (zero_emb _ _).symm⟩).trans (congrFun hr (ix r e))
  show n.val * 256 + r.val = (BitVec.ofNat 32 (grid1.coords n 0).val).toNat * 256 + 1 * r.val
  rw [(coord1 n).1, Nat.one_mul]

theorem makes1_7 (V : Valuation τ sig (Elt F)) (c : Dev nD) (G : Vec F S2816x64 .bf16)
    (hG : (rd1 (Ix := Ix) (U := U) (Lvl := Lvl) V c).ArrAt 7 cfg1.N G) (n : Fin grid1.N) (r : Fin 256) (e : Fin 64) :
    G (ix (row11 n r) e) = k1_pay9 (grid1.coords n) (vP V) (vH V).b (ix r e) := by
  have hinj : ∀ t t' : Fin cfg1.N, (cfg1.win 7).flush t = true → (cfg1.win 7).flush t' = true → (cfg1.win 7).index t = (cfg1.win 7).index t' → t = t' :=
    fun t t' _ _ h => inj1 _ (fun _ => rfl) t t' (congrFun h 0)
  obtain ⟨X, ⟨Y, -, hX⟩, hr⟩ := read_flushed (rd1 (Ix := Ix) (U := U) (Lvl := Lvl) V c) 7 hinj hG n (flush1_7 _)
  rw [← show X = k1_pay9 (grid1.coords n) (vP V) (vH V).b from hX]
  refine (same2 G _ (((cfg1.win 7).rect n).emb (ix r e)) ⟨?_, (zero_emb _ _).symm⟩).trans (congrFun hr (ix r e))
  show n.val * 256 + r.val = (BitVec.ofNat 32 (grid1.coords n 0).val).toNat * 256 + 1 * r.val
  rw [(coord1 n).1, Nat.one_mul]

theorem makes1_8 (V : Valuation τ sig (Elt F)) (c : Dev nD) (G : Vec F S2816x16 .bf16)
    (hG : (rd1 (Ix := Ix) (U := U) (Lvl := Lvl) V c).ArrAt 8 cfg1.N G) (n : Fin grid1.N) (r : Fin 256) (e : Fin 16) :
    G (ix (row11 n r) e) = k1_pay10 (grid1.coords n) (vP V) (vH V).c (ix r e) := by
  have hinj : ∀ t t' : Fin cfg1.N, (cfg1.win 8).flush t = true → (cfg1.win 8).flush t' = true → (cfg1.win 8).index t = (cfg1.win 8).index t' → t = t' :=
    fun t t' _ _ h => inj1 _ (fun _ => rfl) t t' (congrFun h 0)
  obtain ⟨X, ⟨Y, -, hX⟩, hr⟩ := read_flushed (rd1 (Ix := Ix) (U := U) (Lvl := Lvl) V c) 8 hinj hG n (flush1_8 _)
  rw [← show X = k1_pay10 (grid1.coords n) (vP V) (vH V).c from hX]
  refine (same2 G _ (((cfg1.win 8).rect n).emb (ix r e)) ⟨?_, (zero_emb _ _).symm⟩).trans (congrFun hr (ix r e))
  show n.val * 256 + r.val = (BitVec.ofNat 32 (grid1.coords n 0).val).toNat * 256 + 1 * r.val
  rw [(coord1 n).1, Nat.one_mul]

theorem makes1_9 (V : Valuation τ sig (Elt F)) (c : Dev nD) (G : Vec F S2816x1 .i32)
    (hG : (rd1 (Ix := Ix) (U := U) (Lvl := Lvl) V c).ArrAt 9 cfg1.N G) (n : Fin grid1.N) (r : Fin 256) :
    G (ix (row11 n r) 0) = tsOf (grid1.coords n) (vP V) (vT V) (ix r 0) := by
  have hinj : ∀ t t' : Fin cfg1.N, (cfg1.win 9).flush t = true → (cfg1.win 9).flush t' = true → (cfg1.win 9).index t = (cfg1.win 9).index t' → t = t' :=
    fun t t' _ _ h => inj1 _ (fun _ => rfl) t t' (congrFun h 0)
  obtain ⟨X, ⟨Y, -, hX⟩, hr⟩ := read_flushed (rd1 (Ix := Ix) (U := U) (Lvl := Lvl) V c) 9 hinj hG n (flush1_9 _)
  rw [← show X = tsOf (grid1.coords n) (vP V) (vT V) from hX]
  refine (same2 G _ (((cfg1.win 9).rect n).emb (ix r 0)) ⟨?_, (zero_emb _ _).symm⟩).trans (congrFun hr (ix r 0))
  show n.val * 256 + r.val = (BitVec.ofNat 32 (grid1.coords n 0).val).toNat * 256 + 1 * r.val
  rw [(coord1 n).1, Nat.one_mul]

theorem makes5_7 (V : Valuation τ sig (Elt F)) (c : Dev nD) (G : Vec F S2048x1 .f32)
    (hG : (rd5 (Ix := Ix) (U := U) (Lvl := Lvl) V c).ArrAt 7 cfg5.N G) (n : Fin 8) (r : Fin 256) :
    G (ix (row8 n r) 0) = outBlk V n (ix r 0) := by
  have hinj : ∀ t t' : Fin cfg5.N, (cfg5.win 7).flush t = true → (cfg5.win 7).flush t' = true → (cfg5.win 7).index t = (cfg5.win 7).index t' → t = t' :=
    fun t t' _ _ h => Fin.ext (((coord5 t).symm.trans (congrFun h 0)).trans (coord5 t'))
  obtain ⟨X, ⟨Y, -, hX⟩, hr⟩ := read_flushed (rd5 (Ix := Ix) (U := U) (Lvl := Lvl) V c) 7 hinj hG n (flush5_7 _)
  rw [← show X = outBlk V n from hX]
  exact (same2 G _ (((cfg5.win 7).rect n).emb (ix r 0)) ⟨(blk_emb n _).symm, (zero_emb _ _).symm⟩).trans (congrFun hr (ix r 0))

theorem makes5_8 (V : Valuation τ sig (Elt F)) (c : Dev nD) (G : Vec F S1x1 .f32)
    (hG : (rd5 (Ix := Ix) (U := U) (Lvl := Lvl) V c).ArrAt 8 cfg5.N G) : G = k5_pay4 (accAt V 8 (Nat.le_refl 8)) := by
  have hinj : ∀ t t' : Fin cfg5.N, (cfg5.win 8).flush t = true → (cfg5.win 8).flush t' = true → (cfg5.win 8).index t = (cfg5.win 8).index t' → t = t' :=
    fun t t' h h' _ => Fin.ext (by have h1 := (flush5_8 t).1 h; have h2 := (flush5_8 t').1 h'; have := t.isLt; have := t'.isLt; have h8 : cfg5.N = 8 := N_5; omega)
  obtain ⟨X, ⟨Y, -, hX⟩, hr⟩ := read_flushed (rd5 (Ix := Ix) (U := U) (Lvl := Lvl) V c) 8 hinj hG t5_7 ((flush5_8 _).2 rfl)
  have hX' : t5_7.val = 7 → X = k5_pay4 (accAt V 8 (Nat.le_refl 8)) := hX
  funext j
  rw [← hX' rfl]
  exact (same2 G j (((cfg5.win 8).rect t5_7).emb j) ⟨(zero_emb _ _).symm, (zero_emb _ _).symm⟩).trans (congrFun hr j)

theorem makes2_3 (V : Valuation τ sig (Elt F)) (a : (pcfg2 (F := F)).Adm) (c : Dev nD) (G : Vec F S2816x1 .f32)
    (hG : (rd2 (Ix := Ix) (U := U) (Lvl := Lvl) V a c).ArrAt 3 (cfg2 a).N G) : done2 V (a.1 0) G := by
  have hfl : ∀ t : Fin grid2.N, ((cfg2 a).win 3).flush t = true ↔ t.val % 4 = 3 :=
    fun t => Pipeline.Window.flush_const ((cfg2 a).win 3) rfl (fun _ _ => rfl) (n := 4) N_2 rfl t
  have hN : (cfg2 a).N = 4 := N_2
  have hinj : ∀ t t' : Fin (cfg2 a).N, ((cfg2 a).win 3).flush t = true → ((cfg2 a).win 3).flush t' = true
      → ((cfg2 a).win 3).index t = ((cfg2 a).win 3).index t' → t = t' :=
    fun t t' h h' _ => Fin.ext (by have h1 := (hfl t).1 h; have h2 := (hfl t').1 h'; have := t.isLt; have := t'.isLt; omega)
  have hq : 3 < (cfg2 a).N := hN.symm ▸ (by decide)
  obtain ⟨X, ⟨Y, -, hX⟩, hr⟩ := read_flushed (rd2 (Ix := Ix) (U := U) (Lvl := Lvl) V a c) 3 hinj hG ⟨3, hq⟩ ((hfl _).2 rfl)
  have hX' : 3 = 3 → done2 V (a.1 0) X := hX
  have e : G = X := by
    funext j
    exact (same2 G j ((((cfg2 a).win 3).rect ⟨3, hq⟩).emb j) ⟨(zero_emb _ _).symm, (zero_emb _ _).symm⟩).trans (congrFun hr j)
  exact e ▸ hX' rfl

theorem makes3_3 (V : Valuation τ sig (Elt F)) (a : (pcfg3 (F := F)).Adm) (c : Dev nD) (G : Vec F S2816x1 .f32)
    (hG : (rd3 (Ix := Ix) (U := U) (Lvl := Lvl) V a c).ArrAt 3 (cfg3 a).N G) : done3 V (a.1 0) G := by
  have hfl : ∀ t : Fin grid3.N, ((cfg3 a).win 3).flush t = true ↔ t.val % 20 = 19 :=
    fun t => Pipeline.Window.flush_const ((cfg3 a).win 3) rfl (fun _ _ => rfl) (n := 20) N_3 rfl t
  have hN : (cfg3 a).N = 20 := N_3
  have hinj : ∀ t t' : Fin (cfg3 a).N, ((cfg3 a).win 3).flush t = true → ((cfg3 a).win 3).flush t' = true
      → ((cfg3 a).win 3).index t = ((cfg3 a).win 3).index t' → t = t' :=
    fun t t' h h' _ => Fin.ext (by have h1 := (hfl t).1 h; have h2 := (hfl t').1 h'; have := t.isLt; have := t'.isLt; omega)
  have hq : 19 < (cfg3 a).N := hN.symm ▸ (by decide)
  obtain ⟨X, ⟨Y, -, hX⟩, hr⟩ := read_flushed (rd3 (Ix := Ix) (U := U) (Lvl := Lvl) V a c) 3 hinj hG ⟨19, hq⟩ ((hfl _).2 rfl)
  have hX' : 19 = 19 → done3 V (a.1 0) X := hX
  have e : G = X := by
    funext j
    exact (same2 G j ((((cfg3 a).win 3).rect ⟨19, hq⟩).emb j) ⟨(zero_emb _ _).symm, (zero_emb _ _).symm⟩).trans (congrFun hr j)
  exact e ▸ hX' rfl

theorem makes4_3 (V : Valuation τ sig (Elt F)) (a : (pcfg4 (F := F)).Adm) (c : Dev nD) (G : Vec F S2816x1 .f32)
    (hG : (rd4 (Ix := Ix) (U := U) (Lvl := Lvl) V a c).ArrAt 3 (cfg4 a).N G) : done4 V (a.1 0) G := by
  have hfl : ∀ t : Fin grid4.N, ((cfg4 a).win 3).flush t = true ↔ t.val % 25 = 24 :=
    fun t => Pipeline.Window.flush_const ((cfg4 a).win 3) rfl (fun _ _ => rfl) (n := 25) N_4 rfl t
  have hN : (cfg4 a).N = 25 := N_4
  have hinj : ∀ t t' : Fin (cfg4 a).N, ((cfg4 a).win 3).flush t = true → ((cfg4 a).win 3).flush t' = true
      → ((cfg4 a).win 3).index t = ((cfg4 a).win 3).index t' → t = t' :=
    fun t t' h h' _ => Fin.ext (by have h1 := (hfl t).1 h; have h2 := (hfl t').1 h'; have := t.isLt; have := t'.isLt; omega)
  have hq : 24 < (cfg4 a).N := hN.symm ▸ (by decide)
  obtain ⟨X, ⟨Y, -, hX⟩, hr⟩ := read_flushed (rd4 (Ix := Ix) (U := U) (Lvl := Lvl) V a c) 3 hinj hG ⟨24, hq⟩ ((hfl _).2 rfl)
  have hX' : 24 = 24 → done4 V (a.1 0) X := hX
  have e : G = X := by
    funext j
    exact (same2 G j ((((cfg4 a).win 3).rect ⟨24, hq⟩).emb j) ⟨(zero_emb _ _).symm, (zero_emb _ _).symm⟩).trans (congrFun hr j)
  exact e ▸ hX' rfl

end Cert.KernelIdeal.Pf

end
-- ==== Proof.Math.Value.lean ====
/-
  The value both programs compute: a token's log-probability, and the mean of the negated ones.
-/
module

public import proofs.«01_k».proof.Proof.Math.Rows
public import proofs.«01_k».proof.Proof.Math.TailRow

@[expose] public section

set_option maxRecDepth 16384

noncomputable section

namespace Cert.KernelIdeal.Pf

open Cert.KernelIdeal Cert.KernelIdeal.Gen
open Idealize.ShloMosaic Idealize.ShloMosaic.TcCoe
open Cert.Own

local notation "ix" => Idealize.ShloMosaic.ix2

/-- A token's activations against the rows of a matrix. -/
def proj {d : ℕ} (x : S2048x1024.Idx → EReal) (W : (⟨2, ![d, 1024]⟩ : Shape).Idx → EReal) (i : Fin 2048) (e : Fin d) : EReal :=
  ∑ f, x (ix i f) * W (ix e f)

theorem relW_lt {rows : ℕ} (low t : BitVec 32) (h : 0 < rows ∧ rows ≤ 2 ^ 31) : (relW low (BitVec.ofNat 32 (rows - 1)) t).toNat < rows := by
  have := relW_le low t (rows - 1) (by omega)
  omega

/-- A token's log-probability within a cluster. -/
def tailV {d rows : ℕ} (h : 0 < rows ∧ rows ≤ 2 ^ 31) (low : BitVec 32) (x : S2048x1024.Idx → EReal) (W1 : (⟨2, ![d, 1024]⟩ : Shape).Idx → EReal)
    (W2 : (⟨2, ![rows, d]⟩ : Shape).Idx → EReal) (t : BitVec 32) (i : Fin 2048) : EReal :=
  lsm (fun j : Fin rows => ∑ e, proj x W1 i e * W2 (ix j e)) ⟨(relW low (BitVec.ofNat 32 (rows - 1)) t).toNat, relW_lt low t h⟩

/-- A token's log-probability in the head. -/
def headV (x : S2048x1024.Idx → EReal) (W : S2003x1024.Idx → EReal) (t : BitVec 32) (ht : t.toNat < 2 ^ 31) (i : Fin 2048) : EReal :=
  lsm (fun k : Fin 2003 => proj x W i k) ⟨(gW t).toNat, gW_lt t ht⟩

/-- A token's log-probability. -/
def rowV (x : S2048x1024.Idx → EReal) (T : Fin 2048 → BitVec 32) (hT : ∀ i, (T i).toNat < 2 ^ 31) (W : S2003x1024.Idx → EReal)
    (A1 : S256x1024.Idx → EReal) (B1 : S8000x256.Idx → EReal) (A2 : S64x1024.Idx → EReal) (B2 : S40000x64.Idx → EReal)
    (A3 : S16x1024.Idx → EReal) (B3 : S50000x16.Idx → EReal) (i : Fin 2048) : EReal :=
  ((if clN (T i) = 1 then tailV (by decide) 2000#32 x A1 B1 (T i) i else 0)
    + (if clN (T i) = 2 then tailV (by decide) 10000#32 x A2 B2 (T i) i else 0)
    + (if clN (T i) = 3 then tailV (by decide) 50000#32 x A3 B3 (T i) i else 0)) + headV x W (T i) (hT i) i

end Cert.KernelIdeal.Pf

end
-- ==== Proof.Math.Kernel.lean ====
/-
  The kernel's results: every token's log-probability, and the mean of the negated ones.
-/
module

public import proofs.«01_k».proof.Proof.Math.Outs
public import proofs.«01_k».proof.Proof.Math.Value

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA
open Idealize.ShloMosaic.Pipeline
open Cert.Own

local notation "ix" => Idealize.ShloMosaic.ix2

section Keep

variable {F : FTy → Type} [FloatOps F]

/-- A buffer that is no output of a region is as it was. -/
theorem keep {X : Vec F S2048x1 .i32} {p : Fin 6} {c : Dev nD} {V V' : Valuation τ sig (Elt F)} (h : Step X p c V V')
    (hA : ∀ w, (rd X V p c).A w = V (Proc.devRef .tc (arrRef (pin (pcfgs (F := F)) (tbl X) p).spec w))) (r : Ref sig .tc)
    (hb : ∀ w, ((pcfgs (F := F) p).spec w).isOut = true → arrRef (pcfgs (F := F) p).spec w ≠ r) :
    V' (Proc.devRef .tc r) = V (Proc.devRef .tc r) :=
  step_keep h hA _ fun w ho e => hb w ho (Proc.devRef_injective _ e)

end Keep

/-- A token's row among the sorted ones. -/
def posF (X : Vec Ideal S2048x1 .i32) (i : Fin 2048) : Fin 2816 := ⟨posN (cls X) i, pos_lt (cls_le X) i⟩

theorem row8_surj (i : Fin 2048) : ∃ n r, i = row8 n r :=
  ⟨⟨i.val / 256, by have := i.isLt; omega⟩, ⟨i.val % 256, Nat.mod_lt _ (by omega)⟩, Fin.ext (by show i.val = i.val / 256 * 256 + i.val % 256; omega)⟩

theorem row11_surj (p : Fin 2816) : ∃ n r, p = row11 n r :=
  ⟨⟨p.val / 256, by have := p.isLt; omega⟩, ⟨p.val % 256, Nat.mod_lt _ (by omega)⟩, Fin.ext (by show p.val = p.val / 256 * 256 + p.val % 256; omega)⟩

theorem word_tab0 (k : Fin 8) (off cnt : Vec Ideal S8x1 .i32) : word (tabOf k off cnt) 0 (by omega) = off (ix k 0) := rfl
theorem word_tab1 (k : Fin 8) (off cnt : Vec Ideal S8x1 .i32) : word (tabOf k off cnt) 1 (by omega) = cnt (ix k 0) := rfl

/-- What a tail kernel writes at a token's row. -/
theorem tail_at {d rows N : ℕ} {T : Tail Ideal d} {low : BitVec 32} (hT : TailOk T low (BitVec.ofNat 32 (rows - 1)) (BitVec.ofNat 32 rows))
    (hN : 1 ≤ N) (hN1 : 2048 * (N - 1) < rows) (hN2 : rows ≤ 2048 * N) (hN3 : N ≤ 1000) (hr : 0 < rows ∧ rows ≤ 2 ^ 31)
    {X : Vec Ideal S2048x1 .i32} (k : Fin 8) (hk : k.val ≤ 3) {H : Vec Ideal (⟨2, ![2816, d]⟩ : Shape) .bf16}
    {W2 : (⟨2, ![rows, d]⟩ : Shape).Idx → EReal} {ts : Vec Ideal S2816x1 .i32} {L : Vec Ideal S2816x1 .f32}
    (h : Done T (BitVec.ofNat 32 (N - 1)) (tabOf k (offOf X) (cntOf X)) H W2 ts N L)
    {x : S2048x1024.Idx → EReal} {W1 : (⟨2, ![d, 1024]⟩ : Shape).Idx → EReal}
    (hH : ∀ i e, H (ix (posF X i) e) = proj x W1 i e) (hts : ∀ i, ts (ix (posF X i) 0) = X (ix i 0)) (i : Fin 2048) :
    L (ix (posF X i) 0) = if cls X i = k.val then tailV hr low x W1 W2 (X (ix i 0)) i else 0 := by
  rw [done_row hT hN hN1 hN2 hN3 (off_add_le (cls_le X) k.val hk) h ((word_tab0 _ _ _).trans (off_word X k)) ((word_tab1 _ _ _).trans (cnt_word X k))
    (posF X i)]
  simp only [show (posF X i).val = posN (cls X) i from rfl, pos_mem (cls_le X) i k.val hk, hH, hts]
  rfl

section

variable {X : Vec Ideal S2048x1 .i32} {c : Dev nD} {V0 V9 : Valuation τ sig (Elt Ideal)}

/-- What the buffers hold when the head kernel starts. -/
structure AtHead (X : Vec Ideal S2048x1 .i32) (V0 V : Valuation τ sig (Elt Ideal)) : Prop where
  arg0 : vX V = V0 (Proc.devRef .tc main_arg0)
  arg2 : vW V = V0 (Proc.devRef .tc main_arg2)
  tg : vT V = X
  pos : ∀ i, vP V (ix i 0) = BitVec.ofNat 32 (posF X i).val
  t1 : ∀ i, vL1 V (ix (posF X i) 0) = if cls X i = 1 then tailV (by decide) 2000#32 (V0 (Proc.devRef .tc main_arg0)) (V0 (Proc.devRef .tc main_arg3)) (V0 (Proc.devRef .tc main_arg4)) (X (ix i 0)) i else 0
  t2 : ∀ i, vL2 V (ix (posF X i) 0) = if cls X i = 2 then tailV (by decide) 10000#32 (V0 (Proc.devRef .tc main_arg0)) (V0 (Proc.devRef .tc main_arg5)) (V0 (Proc.devRef .tc main_arg6)) (X (ix i 0)) i else 0
  t3 : ∀ i, vL3 V (ix (posF X i) 0) = if cls X i = 3 then tailV (by decide) 50000#32 (V0 (Proc.devRef .tc main_arg0)) (V0 (Proc.devRef .tc main_arg7)) (V0 (Proc.devRef .tc main_arg8)) (X (ix i 0)) i else 0

theorem at_head (h : Ends X c V0 V9) (hX : vT (StableHlo.after hostOps0 V0) = X) :
    ∃ V7 V8, AtHead X V0 V7 ∧ Step X 5 c V7 V8 ∧ V9 = StableHlo.after hostOps6 V8 := by
  obtain ⟨V2, V3, V5, V6, V7, V8, h0, h1, h2, h3, h4, h5, rfl⟩ := h
  refine ⟨V7, V8, ?_, h5, rfl⟩
  have a1 : ∀ r ∈ args, StableHlo.after hostOps0 V0 (Proc.devRef .tc r) = V0 (Proc.devRef .tc r) := fun r hr =>
    StableHlo.after_of_writes_sub hostOps0 _ hostOps0_writes ((show ∀ r ∈ args, r ∉ hostOps0_W by decide) r hr)
  have a2 : ∀ r ∈ args, V2 (Proc.devRef .tc r) = V0 (Proc.devRef .tc r) := fun r hr =>
    (step_keep h0 (fun _ => rfl) _ (not_out spec0 (by decide) r hr)).trans (a1 r hr)
  have a3 : ∀ r ∈ args, V3 (Proc.devRef .tc r) = V0 (Proc.devRef .tc r) := fun r hr =>
    (step_keep h1 (fun _ => rfl) _ (not_out spec1 (by decide) r hr)).trans (a2 r hr)
  have a4 : ∀ r ∈ args, StableHlo.after hostOps2 V3 (Proc.devRef .tc r) = V0 (Proc.devRef .tc r) := fun r hr =>
    (StableHlo.after_of_writes_sub hostOps2 _ hostOps2_writes ((show ∀ r ∈ args, r ∉ hostOps2_W by decide) r hr)).trans (a3 r hr)
  have a5 : ∀ r ∈ args, V5 (Proc.devRef .tc r) = V0 (Proc.devRef .tc r) := fun r hr =>
    (step_keep h2 (fun _ => rfl) _ (not_out spec2 (by decide) r hr)).trans (a4 r hr)
  have a6 : ∀ r ∈ args, V6 (Proc.devRef .tc r) = V0 (Proc.devRef .tc r) := fun r hr =>
    (step_keep h3 (fun _ => rfl) _ (not_out spec3 (by decide) r hr)).trans (a5 r hr)
  have a7 : ∀ r ∈ args, V7 (Proc.devRef .tc r) = V0 (Proc.devRef .tc r) := fun r hr =>
    (step_keep h4 (fun _ => rfl) _ (not_out spec4 (by decide) r hr)).trans (a6 r hr)
  -- the buffers that pass from the second preparing kernel on
  have k3 : ∀ r ∈ [main_v0, main_v1_0], V3 (Proc.devRef .tc r) = V2 (Proc.devRef .tc r) := fun r hr =>
    keep h1 (fun _ => rfl) r ((show ∀ r ∈ [main_v0, main_v1_0], ∀ w, (spec1 w).isOut = true → arrRef spec1 w ≠ r by decide) r hr)
  have k4 : ∀ r ∈ [main_v0, main_v1_0, main_v2_0, main_v2_1, main_v2_2, main_v2_3], StableHlo.after hostOps2 V3 (Proc.devRef .tc r) = V3 (Proc.devRef .tc r) :=
    fun r hr => StableHlo.after_of_writes_sub hostOps2 _ hostOps2_writes
      ((show ∀ r ∈ [main_v0, main_v1_0, main_v2_0, main_v2_1, main_v2_2, main_v2_3], r ∉ hostOps2_W by decide) r hr)
  have k5 : ∀ r ∈ [main_v0, main_v1_0, main_v2_0, main_v2_1, main_v2_2, main_v2_3], V5 (Proc.devRef .tc r) = V3 (Proc.devRef .tc r) := fun r hr =>
    (keep h2 (fun _ => rfl) r ((show ∀ r ∈ [main_v0, main_v1_0, main_v2_0, main_v2_1, main_v2_2, main_v2_3], ∀ w, (spec2 w).isOut = true → arrRef spec2 w ≠ r by decide) r hr)).trans (k4 r hr)
  have k6 : ∀ r ∈ [main_v0, main_v1_0, main_v2_0, main_v2_1, main_v2_2, main_v2_3], V6 (Proc.devRef .tc r) = V3 (Proc.devRef .tc r) := fun r hr =>
    (keep h3 (fun _ => rfl) r ((show ∀ r ∈ [main_v0, main_v1_0, main_v2_0, main_v2_1, main_v2_2, main_v2_3], ∀ w, (spec3 w).isOut = true → arrRef spec3 w ≠ r by decide) r hr)).trans (k5 r hr)
  have k7 : ∀ r ∈ [main_v0, main_v1_0], V7 (Proc.devRef .tc r) = V2 (Proc.devRef .tc r) := fun r hr =>
    ((keep h4 (fun _ => rfl) r ((show ∀ r ∈ [main_v0, main_v1_0], ∀ w, (spec4 w).isOut = true → arrRef spec4 w ≠ r by decide) r hr)).trans
      (k6 r ((show ∀ r ∈ [main_v0, main_v1_0], r ∈ [main_v0, main_v1_0, main_v2_0, main_v2_1, main_v2_2, main_v2_3] by decide) r hr))).trans (k3 r hr)
  have l1 : V7 (Proc.devRef .tc main_v24) = V5 (Proc.devRef .tc main_v24) :=
    (keep h4 (fun _ => rfl) main_v24 (show ∀ w, (spec4 w).isOut = true → arrRef spec4 w ≠ main_v24 by decide)).trans
      (keep h3 (fun _ => rfl) main_v24 (show ∀ w, (spec3 w).isOut = true → arrRef spec3 w ≠ main_v24 by decide))
  have l2 : V7 (Proc.devRef .tc main_v25) = V6 (Proc.devRef .tc main_v25) :=
    keep h4 (fun _ => rfl) main_v25 (show ∀ w, (spec4 w).isOut = true → arrRef spec4 w ≠ main_v25 by decide)
  -- the first preparing kernel
  have hT2 : vT V2 = X := (keep h0 (fun _ => rfl) main_v0 (show ∀ w, (spec0 w).isOut = true → arrRef spec0 w ≠ main_v0 by decide)).trans hX
  have hP2 : ∀ i, vP V2 (ix i 0) = BitVec.ofNat 32 (posF X i).val := by
    intro i
    obtain ⟨n, r, rfl⟩ := row8_surj i
    rw [makes0_pos (F := Ideal) (StableHlo.after hostOps0 V0) c (vP V2) (h0.1 1) n r, hX, pos_word]
    congr 2
    exact Fin.ext (by show 256 * (grid0.coords n 0).val + r.val = n.val * 256 + r.val; rw [(coord0 n).2, Nat.mul_comm])
  -- the second preparing kernel
  have hpos : ∀ n r, ∀ i, posF X i = row11 n r → (posF X i).val = 256 * (grid1.coords n 0).val + r.val := fun n r i h => by
    rw [h, (coord1 n).2, Nat.mul_comm]; rfl
  have hin : ∀ i j, (posF X i).val = (posF X j).val → i = j := fun i j => pos_inj (cls_le X) i j
  have hA : ∀ i e, V3 (Proc.devRef .tc main_v2_0) (ix (posF X i) e) = proj (V0 (Proc.devRef .tc main_arg0)) (V0 (Proc.devRef .tc main_arg3)) i e := by
    intro i e
    obtain ⟨n, r, hp⟩ := row11_surj (posF X i)
    rw [hp]
    refine (makes1_6 (F := Ideal) V2 c _ (h1.1 6) n r e).trans ?_
    rw [hid8 hP2 (fun j => (posF X j).isLt) hin _ r i (hpos n r i hp)]
    show k1_pay3 (V2 (Proc.devRef .tc main_arg0)) (V2 (Proc.devRef .tc main_arg3)) (ix i e) = _
    rw [a2 main_arg0 (by decide), a2 main_arg3 (by decide)]
    exact hidA _ _ _ _
  have hB : ∀ i e, V3 (Proc.devRef .tc main_v2_1) (ix (posF X i) e) = proj (V0 (Proc.devRef .tc main_arg0)) (V0 (Proc.devRef .tc main_arg5)) i e := by
    intro i e
    obtain ⟨n, r, hp⟩ := row11_surj (posF X i)
    rw [hp]
    refine (makes1_7 (F := Ideal) V2 c _ (h1.1 7) n r e).trans ?_
    rw [hid9 hP2 (fun j => (posF X j).isLt) hin _ r i (hpos n r i hp)]
    show k1_pay4 (V2 (Proc.devRef .tc main_arg0)) (V2 (Proc.devRef .tc main_arg5)) (ix i e) = _
    rw [a2 main_arg0 (by decide), a2 main_arg5 (by decide)]
    exact hidB _ _ _ _
  have hC : ∀ i e, V3 (Proc.devRef .tc main_v2_2) (ix (posF X i) e) = proj (V0 (Proc.devRef .tc main_arg0)) (V0 (Proc.devRef .tc main_arg7)) i e := by
    intro i e
    obtain ⟨n, r, hp⟩ := row11_surj (posF X i)
    rw [hp]
    refine (makes1_8 (F := Ideal) V2 c _ (h1.1 8) n r e).trans ?_
    rw [hid10 hP2 (fun j => (posF X j).isLt) hin _ r i (hpos n r i hp)]
    show k1_pay5 (V2 (Proc.devRef .tc main_arg0)) (V2 (Proc.devRef .tc main_arg7)) (ix i e) = _
    rw [a2 main_arg0 (by decide), a2 main_arg7 (by decide)]
    exact hidC _ _ _ _
  have hts : ∀ i, vTs V3 (ix (posF X i) 0) = X (ix i 0) := by
    intro i
    obtain ⟨n, r, hp⟩ := row11_surj (posF X i)
    rw [hp]
    refine (makes1_9 (F := Ideal) V2 c _ (h1.1 9) n r).trans ?_
    rw [ts_row hP2 (fun j => (posF X j).isLt) hin _ r i (hpos n r i hp), hT2]
  -- the three tails
  have d1 := makes2_3 (F := Ideal) (StableHlo.after hostOps2 V3) (tbl X 2) c _ (h2.1 3)
  have d2 := makes3_3 (F := Ideal) V5 (tbl X 3) c _ (h3.1 3)
  have d3 := makes4_3 (F := Ideal) V6 (tbl X 4) c _ (h4.1 3)
  refine ⟨a7 main_arg0 (by decide), a7 main_arg2 (by decide), (k7 main_v0 (by decide)).trans hT2, fun i => ?_, fun i => ?_, fun i => ?_, fun i => ?_⟩
  · rw [← hP2 i]
    exact congrFun (k7 main_v1_0 (by decide)) _
  · have d : Done (rows := 8000) tail2 3#32 (tabOf 1 (offOf X) (cntOf X)) (V3 (Proc.devRef .tc main_v2_0)) (V0 (Proc.devRef .tc main_arg4)) (V3 (Proc.devRef .tc main_v2_3)) 4
        (V5 (Proc.devRef .tc main_v24)) := by
      rw [← k4 main_v2_0 (by decide), ← k4 main_v2_3 (by decide), ← a4 main_arg4 (by decide)]
      exact d1
    show V7 (Proc.devRef .tc main_v24) _ = _
    rw [l1]
    exact tail_at (N := 4) tail2_ok (by decide) (by decide) (by decide) (by decide) (by decide) 1 (by decide) d hA hts i
  · have d : Done (rows := 40000) tail3 19#32 (tabOf 2 (offOf X) (cntOf X)) (V3 (Proc.devRef .tc main_v2_1)) (V0 (Proc.devRef .tc main_arg6)) (V3 (Proc.devRef .tc main_v2_3)) 20
        (V6 (Proc.devRef .tc main_v25)) := by
      rw [← k5 main_v2_1 (by decide), ← k5 main_v2_3 (by decide), ← a5 main_arg6 (by decide)]
      exact d2
    show V7 (Proc.devRef .tc main_v25) _ = _
    rw [l2]
    exact tail_at (N := 20) tail3_ok (by decide) (by decide) (by decide) (by decide) (by decide) 2 (by decide) d hB hts i
  · have d : Done (rows := 50000) tail4 24#32 (tabOf 3 (offOf X) (cntOf X)) (V3 (Proc.devRef .tc main_v2_2)) (V0 (Proc.devRef .tc main_arg8)) (V3 (Proc.devRef .tc main_v2_3)) 25
        (V7 (Proc.devRef .tc main_v26)) := by
      rw [← k6 main_v2_2 (by decide), ← k6 main_v2_3 (by decide), ← a6 main_arg8 (by decide)]
      exact d3
    exact tail_at (N := 25) tail4_ok (by decide) (by decide) (by decide) (by decide) (by decide) 3 (by decide) d hC hts i

end

end Cert.KernelIdeal.Pf

end
-- ==== Proof.Math.Results.lean ====
/-
  The kernel's two results as the values both programs compute.
-/
module

public import proofs.«01_k».proof.Proof.Math.Kernel

@[expose] public section

set_option maxRecDepth 16384

noncomputable section

namespace Cert.KernelIdeal.Pf

open Cert.KernelIdeal Cert.KernelIdeal.Gen
open Idealize.ShloMosaic Idealize.ShloMosaic.TcCoe
open Idealize.ShloMosaic.Pipeline
open Cert.Own

local notation "ix" => Idealize.ShloMosaic.ix2

/-- The number of tokens, as a float. -/
theorem ofBits_2048 : Ideal.ofBits .f32 0x45000000#32 = ((2048 : ℝ) : EReal) := by
  simp [Ideal.ofBits, Ideal.ieee]
  norm_cast
  norm_num

/-- Division by the number of tokens multiplies by a nonnegative real. -/
theorem div_2048 (x : EReal) : Ideal.div x (Ideal.ofBits .f32 0x45000000#32) = x * (((2048 : ℝ)⁻¹ : ℝ) : EReal) := by
  rw [ofBits_2048]
  unfold Ideal.div
  rw [if_neg (by norm_num), ← EReal.coe_inv]

/-- The mean of the negated values. -/
def meanV (f : Fin 2048 → EReal) : EReal := Ideal.div (∑ i, -f i) (Ideal.ofBits .f32 0x45000000#32)

theorem sum_div {ι : Type} (s : Finset ι) (f : ι → EReal) :
    ∑ i ∈ s, Ideal.div (f i) (Ideal.ofBits .f32 0x45000000#32) = Ideal.div (∑ i ∈ s, f i) (Ideal.ofBits .f32 0x45000000#32) := by
  classical
  simp only [div_2048]
  induction s using Finset.induction_on with
  | empty => simp
  | insert a s ha ih =>
    rw [Finset.sum_insert ha, Finset.sum_insert ha, ih, EReal.right_distrib_of_nonneg_of_ne_top (by
      rw [show (0 : EReal) = ((0 : ℝ) : EReal) from rfl, EReal.coe_le_coe_iff]; norm_num) (EReal.coe_ne_top _)]

theorem sum_rows (f : Fin 2048 → EReal) : ∑ i, f i = ∑ n : Fin 8, ∑ r : Fin 256, f (row8 n r) := by
  rw [← Fintype.sum_prod_type', ← Equiv.sum_comp (finProdFinEquiv (m := 8) (n := 256)) f]
  refine Finset.sum_congr rfl fun q _ => congrArg f (Fin.ext ?_)
  show q.2.val + 256 * q.1.val = q.1.val * 256 + q.2.val
  omega

section

variable {X : Vec Ideal S2048x1 .i32} {V0 V : Valuation τ sig (Elt Ideal)} (hA : AtHead X V0 V) (hT : ∀ i, (X (ix i 0)).toNat < 2 ^ 31)

/-- A token's log-probability, of the arguments. -/
abbrev valV (X : Vec Ideal S2048x1 .i32) (hT : ∀ i, (X (ix i 0)).toNat < 2 ^ 31) (V0 : Valuation τ sig (Elt Ideal)) : Fin 2048 → EReal :=
  rowV (V0 (Proc.devRef .tc main_arg0)) (fun i => X (ix i 0)) hT (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7)) (V0 (Proc.devRef .tc main_arg8))

include hA in
theorem out_at (n : Fin 8) (r : Fin 256) : outBlk V n (ix r 0) = valV X hT V0 (row8 n r) := by
  have hh := head_row (rowBlk (vX V) n) (vW V) (rowBlk (vT V) n) r (by rw [hA.tg]; exact hT (row8 n r))
  have ho := out_row (k5_pay1 (rowBlk (vX V) n) (vW V) (rowBlk (vT V) n)) (vL1 V) (vL2 V) (vL3 V) (rowBlk (vP V) n) r (posF X (row8 n r)) (hA.pos (row8 n r))
  refine ho.trans ?_
  rw [hh, hA.t1, hA.t2, hA.t3]
  unfold valV rowV headV proj cls
  simp only [hA.tg, hA.arg0, hA.arg2]
  rfl

include hA in
theorem acc_at (n : ℕ) (h : n ≤ 8) : (accAt V n h : EReal)
    = ∑ k : Fin n, Ideal.div (∑ r : Fin 256, -valV X hT V0 (row8 ⟨k.val, by have := k.isLt; omega⟩ r)) (Ideal.ofBits .f32 0x45000000#32) := by
  induction n with
  | zero => exact Ideal.ofBits_zero_f32
  | succ n ih =>
    rw [Fin.sum_univ_castSucc]
    refine (acc_row _ _ _ _ _ _).trans ?_
    rw [ih (by omega)]
    refine congrArg (_ + Ideal.div · _) (Finset.sum_congr rfl fun r _ => congrArg (-·) ?_)
    exact out_at hA hT ⟨n, h⟩ r

include hA in
theorem acc_eq : (accAt V 8 (Nat.le_refl 8) : EReal) = meanV (valV X hT V0) := by
  rw [acc_at hA hT, sum_div]
  unfold meanV
  rw [sum_rows]

end

variable {X : Vec Ideal S2048x1 .i32} {c : Dev nD} {V0 V9 : Valuation τ sig (Elt Ideal)}

/-- The kernel's results. -/
theorem results (h : Ends X c V0 V9) (hX : vT (StableHlo.after hostOps0 V0) = X) (hT : ∀ i, (X (ix i 0)).toNat < 2 ^ 31) :
    V9 (Proc.devRef .tc main_v28) = (fun j : S2048.Idx => valV X hT V0 (j 0)) ∧ V9 (Proc.devRef .tc main_v29) = (fun _ : S_.Idx => meanV (valV X hT V0)) := by
  obtain ⟨V7, V8, hA, h5, rfl⟩ := at_head h hX
  have e7 := makes5_7 (F := Ideal) V7 c _ (h5.1 7)
  have e8 := makes5_8 (F := Ideal) V7 c _ (h5.1 8)
  have o7 : V8 (Proc.devRef .tc main_v27_0) = (fun j : S2048x1.Idx => valV X hT V0 (j 0)) := by
    funext j
    obtain ⟨n, r, hj⟩ := row8_surj (j 0)
    rw [hj, ← out_at hA hT n r, ← e7 n r]
    exact same2 (V8 (Proc.devRef .tc main_v27_0)) j (ix (row8 n r) 0) ⟨congrArg Fin.val hj, by have : (j 1).val < 1 := (j 1).isLt; show (j 1).val = 0; omega⟩
  have o8 : V8 (Proc.devRef .tc main_v27_1) = (fun _ : S1x1.Idx => meanV (valV X hT V0)) := by
    rw [← acc_eq hA hT]
    exact e8
  constructor
  · after_results_simp
    rw [o7]
    funext j
    pointwise
  · after_results_simp
    rw [o8]
    rfl

end Cert.KernelIdeal.Pf

end
-- ==== Proof.Math.Pick.lean ====
/-
  Reading one entry of each row of a matrix at an index in range, as the reference program does it: a gather with a range check.
-/
module

public import proofs.«01_k».proof.ReferenceIdeal
public import Idealize.ShloMosaic.Lib.Pointwise
public import Idealize.ShloMosaic.Lib.WordCmp
public import Idealize.ShloMosaic.Lib.Routing.Words

@[expose] public section

set_option maxRecDepth 16384

noncomputable section

namespace Cert.ReferenceIdeal.Pf

open Cert.ReferenceIdeal
open Idealize.ShloMosaic Idealize.ShloMosaic.TcCoe
open Idealize.ShloMosaic.WordCmp

local notation "ix" => Idealize.ShloMosaic.ix2
local notation "ix₃" => Idealize.ShloMosaic.ix3

/-- The dimension numbers of a gather of one entry of each row. -/
abbrev pickDims (N : ℕ) (wf : GatherDims.WF (⟨2, ![2048, N]⟩ : Shape) S2048x1x1 S2048x1 [] [1] [0] [1] [0] 2 ![1, 1]) :
    GatherDims (⟨2, ![2048, N]⟩ : Shape) S2048x1x1 S2048x1 where
  offsetDims := []
  collapsedSliceDims := [1]
  operandBatchingDims := [0]
  startIndicesBatchingDims := [0]
  startIndexMap := [1]
  indexVectorDim := 2
  sliceSizes := ![1, 1]
  wf := wf

theorem gather_pick {α : Type} (N : ℕ) (wf) (Z : (⟨2, ![2048, N]⟩ : Shape).Idx → α) (J : IVec S2048x1x1 32) (i : Fin 2048) (k : Fin N)
    (hk : (J (ix₃ i 0 0)).toInt = k.val) : Host.gather (pickDims N wf) Z J (ix i 0) = Z (ix i k) := by
  have := k.isLt
  unfold Host.gather
  refine congrArg Z (funext fun a => Fin.ext ?_)
  have hs : ∀ c, (pickDims N wf).siIdx (ix i 0) c = ix₃ i 0 0 := by
    intro c
    funext b
    apply Fin.ext
    match b with
    | ⟨0, _⟩ => rfl
    | ⟨1, _⟩ => rfl
    | ⟨2, _⟩ =>
      have hc : c.val < 1 := c.isLt
      show c.val = 0
      omega
  match a with
  | ⟨0, _⟩ =>
    show (pickDims N wf).start (ix i 0) J 0 + (pickDims N wf).batchCoord (ix i 0) 0 + (pickDims N wf).offCoord (ix i 0) 0 = i.val
    rw [(pickDims N wf).start_batching _ _ _ (List.mem_singleton.2 rfl),
      (pickDims N wf).offCoord_eq_zero _ _ (fun h => ((((pickDims N wf).mem_sKept 0).1 h).2 (List.mem_singleton.2 rfl)))]
    rw [Nat.zero_add]
    rfl
  | ⟨1, _⟩ =>
    show (pickDims N wf).start (ix i 0) J 1 + (pickDims N wf).batchCoord (ix i 0) 1 + (pickDims N wf).offCoord (ix i 0) 1 = k.val
    rw [(pickDims N wf).batchCoord_eq_zero _ _ (fun h => absurd (congrArg Fin.val (List.mem_singleton.1 h)) Nat.one_ne_zero),
      (pickDims N wf).offCoord_eq_zero _ _ (fun h => ((((pickDims N wf).mem_sKept 1).1 h).1 (List.mem_singleton.2 rfl)))]
    unfold GatherDims.start
    rw [dif_pos (List.mem_singleton.2 rfl), hs, hk]
    show min (Int.toNat (k.val : ℤ)) (N - 1) + 0 + 0 = k.val
    rw [Int.toNat_natCast]
    omega

/-- An index in range passes the check. -/
theorem check_pick (J : IVec S2048x1x1 32) (i : Fin 2048) (n k : ℕ) (hn : n < 2 ^ 31) (hk : k ≤ n) (hJ : J (ix₃ i 0 0) = BitVec.ofNat 32 k) :
    Finset.fold IntOp.andi 1#1 (fun x : Fin 1 => IntOp.andi (IntOp.cmpi .sge (J (ix₃ i 0 x)) 0#32) (IntOp.cmpi .sle (J (ix₃ i 0 x)) (BitVec.ofNat 32 n)))
      Finset.univ = 1#1 := by
  rw [show (Finset.univ : Finset (Fin 1)) = {0} from rfl, Finset.fold_singleton, hJ,
    show (0#32) = BitVec.ofNat 32 0 from rfl, cmpi_sge_ofNat (by omega) (by omega), cmpi_sle_ofNat (by omega) (by omega), andi_ofBool,
    decide_eq_true (Nat.zero_le k), decide_eq_true hk]
  rfl

/-- An index in range is not wrapped. -/
theorem wrap_pick (w : BitVec 32) (k n : ℕ) (hk : k < 2 ^ 31) (hw : w = BitVec.ofNat 32 k) :
    Scalar.select (IntOp.cmpi .slt w 0#32) (IntOp.addi w (BitVec.ofNat 32 n)) w = BitVec.ofNat 32 k := by
  rw [hw, show (0#32) = BitVec.ofNat 32 0 from rfl, cmpi_slt_ofNat (by omega) (by omega), decide_eq_false (by omega)]
  rfl

end Cert.ReferenceIdeal.Pf

end
-- ==== Proof.Math.RefOps.lean ====
/-
  The reference program's log-softmax of each row and its reading of one entry of it, at any number of columns.
-/
module

public import proofs.«01_k».proof.Proof.Gen.ReferenceIdeal.Run
public import proofs.«01_k».proof.Proof.Math.Value
public import proofs.«01_k».proof.Proof.Math.Pick
public import Idealize.ShloMosaic.Lib.Pointwise
public import Idealize.ShloMosaic.Lib.Tactic.CleanTypes

@[expose] public section

set_option maxRecDepth 16384

noncomputable section

namespace Cert.ReferenceIdeal.Pf

open Cert.ReferenceIdeal Cert.ReferenceIdeal.Gen Cert.ReferenceIdeal.Value
open Idealize.ShloMosaic Idealize.ShloMosaic.TcCoe
open Cert.KernelIdeal.Pf Cert.Own

local notation "ix" => Idealize.ShloMosaic.ix2

/-- A matrix of 2048 rows. -/
abbrev Mat (N : ℕ) : Shape := ⟨2, ![2048, N]⟩

/-- The maximum of each row. -/
def rowMax (N : ℕ) (hR : (Mat N).ReducesTo [1] S2048) (Z : FVec Ideal (Mat N) .f32) : FVec Ideal S2048 .f32 :=
  Host.reduce FloatOps.maximumf Z (constant S_ .f32 0xFF800000#32) hR h_S_

theorem lift_row (N : ℕ) (h : (Mat N).Reduces [1] S2048) (i : Fin 2048) (k : Fin N) : h.lift (ix1 i) k = ix i k := by
  funext c
  apply Fin.ext
  match c with
  | ⟨0, _⟩ => rfl
  | ⟨1, _⟩ => rfl

theorem rowMax_at (N : ℕ) (hR : (Mat N).ReducesTo [1] S2048) (h : (Mat N).Reduces [1] S2048) (Z : FVec Ideal (Mat N) .f32) (i : Fin 2048) :
    rowMax N hR Z (ix1 i) = (Finset.univ.fold max ⊥ (fun x : Fin N => Z (ix i x)) : EReal) := by
  unfold rowMax
  rw [Host.reduce_eq_fold_single FloatOps.maximumf Z _ hR h h_S_]
  have hf : (Z ∘ h.lift (ix1 i)) = fun k : Fin N => Z (ix i k) := funext fun k => congrArg Z (lift_row N h i k)
  refine (congrArg (fun f => Finset.fold FloatOps.maximumf _ f (Finset.univ : Finset (Fin N))) hf).trans ?_
  exact congrArg (fun b : EReal => Finset.fold max b (fun k : Fin N => Z (ix i k)) (Finset.univ : Finset (Fin N))) ofBits_ninf

/-- A row's logits less their maximum. -/
def shifted (N : ℕ) (hR : (Mat N).ReducesTo [1] S2048) (hB : S2048x1.BroadcastsInDim (Mat N) (![0, 1] : Fin 2 → Fin (Mat N).rank))
    (Z : FVec Ideal (Mat N) .f32) : FVec Ideal (Mat N) .f32 :=
  subf Z (broadcastInDim (Mat N) ![0, 1] hB (broadcastInDim S2048x1 ![0] bcast_S2048_S2048x1_0
    (maximumf (broadcastInDim S2048 ![] bcast_S_S2048 (constant S_ .f32 0xFF800000#32)) (rowMax N hR Z))))

theorem shifted_read (N : ℕ) (hR) (hB) (Z : FVec Ideal (Mat N) .f32) (i : Fin 2048) (k : Fin N) :
    shifted N hR hB Z (ix i k) = (Z (ix i k) - max ⊥ (rowMax N hR Z (ix1 i)) : EReal) := by
  unfold shifted
  pointwise [ofBits_ninf]

/-- The logarithm of the sum of a row's exponentials, taken off. -/
def normed (N : ℕ) (hR : (Mat N).ReducesTo [1] S2048) (hB : S2048x1.BroadcastsInDim (Mat N) (![0, 1] : Fin 2 → Fin (Mat N).rank))
    (S : FVec Ideal (Mat N) .f32) : FVec Ideal (Mat N) .f32 :=
  subf S (broadcastInDim (Mat N) ![0, 1] hB (Host.log (broadcastInDim S2048x1 ![0] bcast_S2048_S2048x1_0
    (Host.reduceAdd (Host.exp S) (constant S_ .f32 0x00000000#32) hR h_S_))))

theorem normed_read (N : ℕ) (hR) (hB) (S : FVec Ideal (Mat N) .f32) (i : Fin 2048) (k : Fin N) :
    normed N hR hB S (ix i k) = (S (ix i k) - Ideal.log (∑ x, Ideal.exp (S (ix i x))) : EReal) := by
  unfold normed
  pointwise

/-- A column of row indices as the gather takes it: a negative one would count from the end. -/
def wrapped (w : IVec S2048x1 32) (n : BitVec 32) : IVec S2048x1x1 32 :=
  shapeCast S2048x1x1 (select (cmpi .slt w (broadcastInDim S2048x1 ![] bcast_S_S2048x1 (constantI S_ 32 0#32)))
    (addi w (broadcastInDim S2048x1 ![] bcast_S_S2048x1 (constantI S_ 32 n))) w) shapeCasts_S2048x1_S2048x1x1

theorem wrapped_read (w : IVec S2048x1 32) (n : BitVec 32) (i : Fin 2048) :
    wrapped w n (ix3 i 0 0) = Scalar.select (IntOp.cmpi .slt (w (ix i 0)) 0#32) (IntOp.addi (w (ix i 0)) n) (w (ix i 0)) := by
  unfold wrapped
  pointwise

/-- One entry of each row, at an index that is checked to be in range. -/
def picked (N : ℕ) (wf : GatherDims.WF (Mat N) S2048x1x1 S2048x1 [] [1] [0] [1] [0] 2 ![1, 1]) (n : BitVec 32)
    (G : FVec Ideal (Mat N) .f32) (J : IVec S2048x1x1 32) : FVec Ideal S2048 .f32 :=
  shapeCast S2048 (select (Host.reduce IntOp.andi (andi (cmpi .sge J (broadcastInDim S2048x1x1 ![] bcast_S_S2048x1x1 (constantI S_ 32 0#32)))
      (cmpi .sle J (broadcastInDim S2048x1x1 ![0, 1, 2] bcast_S1x1x1_S2048x1x1_0_1_2 (broadcastInDim S1x1x1 ![2] bcast_S1_S1x1x1_2 (constantI S1 32 n)))))
      (constantI S_ 1 1#1) reducesTo_S2048x1x1_S2048x1_d2 h_S_)
    (Host.gather (pickDims N wf) G J) (broadcastInDim S2048x1 ![] bcast_S_S2048x1 (constant S_ .f32 0x7FC00000#32))) shapeCasts_S2048x1_S2048

theorem picked_read (N : ℕ) (wf) (n : BitVec 32) (G : FVec Ideal (Mat N) .f32) (J : IVec S2048x1x1 32) (i : Fin 2048) :
    picked N wf n G J (ix1 i) = Scalar.select (Finset.fold IntOp.andi 1#1
        (fun x : Fin 1 => IntOp.andi (IntOp.cmpi .sge (J (ix3 i 0 x)) 0#32) (IntOp.cmpi .sle (J (ix3 i 0 x)) n)) Finset.univ)
      (Host.gather (pickDims N wf) G J (ix i 0)) (Ideal.ofBits .f32 0x7FC00000#32) := by
  unfold picked
  pointwise

/-- The checked entry of a row's log-softmax, at an index in range. -/
theorem picked_lsm (N : ℕ) (hN : 0 < N ∧ N ≤ 2 ^ 31) (hR) (h : (Mat N).Reduces [1] S2048) (hB) (wf) (Z : FVec Ideal (Mat N) .f32) (w : IVec S2048x1 32)
    (i : Fin 2048) (k : Fin N) (hw : w (ix i 0) = BitVec.ofNat 32 k.val) :
    picked N wf (BitVec.ofNat 32 (N - 1)) (normed N hR hB (shifted N hR hB Z)) (wrapped w (BitVec.ofNat 32 N)) (ix1 i) = lsm (fun x => Z (ix i x)) k := by
  have hk := k.isLt
  have hJ : wrapped w (BitVec.ofNat 32 N) (ix3 i 0 0) = BitVec.ofNat 32 k.val := (wrapped_read w _ i).trans (wrap_pick _ k.val N (by omega) hw)
  rw [picked_read, check_pick _ i (N - 1) k.val (by omega) (by omega) hJ,
    gather_pick N wf _ _ i k (by rw [hJ, WordCmp.toInt_ofNat_of_lt (by omega)])]
  show normed N hR hB (shifted N hR hB Z) (ix i k) = _
  rw [normed_read]
  simp only [shifted_read, rowMax_at N hR h]
  rw [max_eq_right bot_le]
  rfl

/-- A row's value where its cluster is the given one, and nothing elsewhere. -/
def only (c : BitVec 32) (C : IVec S2048 32) (P : FVec Ideal S2048 .f32) : FVec Ideal S2048 .f32 :=
  select (cmpi .eq C (broadcastInDim S2048 ![] bcast_S_S2048 (constantI S_ 32 c))) P (broadcastInDim S2048 ![] bcast_S_S2048 (id (constant S_ .f32 0x00000000#32)))

theorem only_read (c : BitVec 32) (C : IVec S2048 32) (P : FVec Ideal S2048 .f32) (i : Fin 2048) :
    only c C P (ix1 i) = (Scalar.select (IntOp.cmpi .eq (C (ix1 i)) c) (P (ix1 i)) 0 : EReal) := by
  unfold only
  pointwise [id_eq]

end Cert.ReferenceIdeal.Pf

end
-- ==== Proof.Math.Reference.lean ====
/-
  The reference program's results, as values of the arguments.
-/
module

public import proofs.«01_k».proof.Proof.Gen.ReferenceIdeal.Run
public import proofs.«01_k».proof.Proof.Math.Results
public import proofs.«01_k».proof.Proof.Math.RefOps
public import Idealize.ShloMosaic.Lib.Pointwise
public import Idealize.ShloMosaic.Lib.Tactic.CleanTypes

@[expose] public section

set_option maxRecDepth 16384

noncomputable section

namespace Cert.ReferenceIdeal.Pf

open Cert.ReferenceIdeal Cert.ReferenceIdeal.Gen Cert.ReferenceIdeal.Value
open Idealize.ShloMosaic Idealize.ShloMosaic.TcCoe
open Cert.KernelIdeal.Pf Cert.Own

local notation "ix" => Idealize.ShloMosaic.ix2

theorem logits1 (V0 : Valuation τ sig (Elt Ideal)) (i : Fin 2048) (k : Fin 8000) : (res_main_v25 V0 (ix i k) : EReal)
    = ∑ e, proj (V0 (Proc.devRef .tc main_arg0)) (V0 (Proc.devRef .tc main_arg3)) i e * V0 (Proc.devRef .tc main_arg4) (ix k e) := by
  unfold res_main_v25 proj
  clean_types
  pointwise

theorem logits2 (V0 : Valuation τ sig (Elt Ideal)) (i : Fin 2048) (k : Fin 40000) : (res_main_v40 V0 (ix i k) : EReal)
    = ∑ e, proj (V0 (Proc.devRef .tc main_arg0)) (V0 (Proc.devRef .tc main_arg5)) i e * V0 (Proc.devRef .tc main_arg6) (ix k e) := by
  unfold res_main_v40 proj
  clean_types
  pointwise

theorem logits3 (V0 : Valuation τ sig (Elt Ideal)) (i : Fin 2048) (k : Fin 50000) : (res_main_v55 V0 (ix i k) : EReal)
    = ∑ e, proj (V0 (Proc.devRef .tc main_arg0)) (V0 (Proc.devRef .tc main_arg7)) i e * V0 (Proc.devRef .tc main_arg8) (ix k e) := by
  unfold res_main_v55 proj
  clean_types
  pointwise

theorem logitsH (V0 : Valuation τ sig (Elt Ideal)) (i : Fin 2048) (k : Fin 2003) : (res_main_v65 V0 (ix i k) : EReal)
    = proj (V0 (Proc.devRef .tc main_arg0)) (V0 (Proc.devRef .tc main_arg2)) i k := by
  unfold res_main_v65 proj
  clean_types
  pointwise

theorem cluster (V0 : Valuation τ sig (Elt Ideal)) (i : Fin 2048) : res_main_v10 V0 (ix1 i) = clW (V0 (Proc.devRef .tc main_arg1) (ix1 i)) := by
  unfold res_main_v10 clW
  clean_types
  pointwise

theorem index1 (V0 : Valuation τ sig (Elt Ideal)) (i : Fin 2048) :
    res_main_v27 V0 (ix i 0) = relW 2000#32 7999#32 (V0 (Proc.devRef .tc main_arg1) (ix1 i)) := by
  unfold res_main_v27 relW
  clean_types
  pointwise [id_eq]

theorem index2 (V0 : Valuation τ sig (Elt Ideal)) (i : Fin 2048) :
    res_main_v42 V0 (ix i 0) = relW 10000#32 39999#32 (V0 (Proc.devRef .tc main_arg1) (ix1 i)) := by
  unfold res_main_v42 relW
  clean_types
  pointwise [id_eq]

theorem index3 (V0 : Valuation τ sig (Elt Ideal)) (i : Fin 2048) :
    res_main_v57 V0 (ix i 0) = relW 50000#32 49999#32 (V0 (Proc.devRef .tc main_arg1) (ix1 i)) := by
  unfold res_main_v57 relW
  clean_types
  pointwise [id_eq]

theorem indexH (V0 : Valuation τ sig (Elt Ideal)) (i : Fin 2048) :
    res_main_v67 V0 (ix i 0) = gW (V0 (Proc.devRef .tc main_arg1) (ix1 i)) := by
  unfold res_main_v67 gW
  clean_types
  pointwise [cluster]

theorem ofNat_word (w : BitVec 32) : BitVec.ofNat 32 w.toNat = w := by
  rw [BitVec.ofNat_toNat, BitVec.setWidth_eq]

/-- A row's log-probability within a cluster, as the reference computes it: the logits' log-softmax at the clipped index. -/
abbrev tailR (N : ℕ) (hR : (Mat N).ReducesTo [1] S2048) (hB : S2048x1.BroadcastsInDim (Mat N) (![0, 1] : Fin 2 → Fin (Mat N).rank))
    (wf : GatherDims.WF (Mat N) S2048x1x1 S2048x1 [] [1] [0] [1] [0] 2 ![1, 1]) (Z : FVec Ideal (Mat N) .f32) (w : IVec S2048x1 32) : FVec Ideal S2048 .f32 :=
  picked N wf (BitVec.ofNat 32 (N - 1)) (normed N hR hB (shifted N hR hB Z)) (wrapped w (BitVec.ofNat 32 N))

abbrev tail1 (V0 : Valuation τ sig (Elt Ideal)) : FVec Ideal S2048 .f32 :=
  tailR 8000 reducesTo_S2048x8000_S2048_d1 bcast_S2048x1_S2048x8000_0_1 gather_S2048x8000_S2048x1x1_S2048x1_n_1_0_0_1_2_11_wf (res_main_v25 V0) (res_main_v27 V0)

abbrev tail2 (V0 : Valuation τ sig (Elt Ideal)) : FVec Ideal S2048 .f32 :=
  tailR 40000 reducesTo_S2048x40000_S2048_d1 bcast_S2048x1_S2048x40000_0_1 gather_S2048x40000_S2048x1x1_S2048x1_n_1_0_0_1_2_11_wf (res_main_v40 V0) (res_main_v42 V0)

abbrev tail3 (V0 : Valuation τ sig (Elt Ideal)) : FVec Ideal S2048 .f32 :=
  tailR 50000 reducesTo_S2048x50000_S2048_d1 bcast_S2048x1_S2048x50000_0_1 gather_S2048x50000_S2048x1x1_S2048x1_n_1_0_0_1_2_11_wf (res_main_v55 V0) (res_main_v57 V0)

abbrev headR (V0 : Valuation τ sig (Elt Ideal)) : FVec Ideal S2048 .f32 :=
  tailR 2003 reducesTo_S2048x2003_S2048_d1 bcast_S2048x1_S2048x2003_0_1 gather_S2048x2003_S2048x1x1_S2048x1_n_1_0_0_1_2_11_wf (res_main_v65 V0) (res_main_v67 V0)

/-- The reference's first result: each cluster's rows added in turn, then the head. -/
def outR (V0 : Valuation τ sig (Elt Ideal)) : FVec Ideal S2048 .f32 :=
  addf (addf (addf (addf (broadcastInDim S2048 ![] bcast_S_S2048 (constant S_ .f32 0x00000000#32)) (only 1#32 (res_main_v10 V0) (tail1 V0)))
    (only 2#32 (res_main_v10 V0) (tail2 V0))) (only 3#32 (res_main_v10 V0) (tail3 V0))) (headR V0)

theorem v70_eq (V0 : Valuation τ sig (Elt Ideal)) : res_main_v70 V0 = outR V0 := rfl

theorem v71_eq (V0 : Valuation τ sig (Elt Ideal)) : res_main_v71 V0 = Host.negf (outR V0) := rfl

theorem outR_read (V0 : Valuation τ sig (Elt Ideal)) (i : Fin 2048) : (outR V0 (ix1 i) : EReal)
    = 0 + only 1#32 (res_main_v10 V0) (tail1 V0) (ix1 i) + only 2#32 (res_main_v10 V0) (tail2 V0) (ix1 i)
      + only 3#32 (res_main_v10 V0) (tail3 V0) (ix1 i) + headR V0 (ix1 i) := by
  unfold outR
  generalize only 1#32 (res_main_v10 V0) (tail1 V0) = a
  generalize only 2#32 (res_main_v10 V0) (tail2 V0) = b
  generalize only 3#32 (res_main_v10 V0) (tail3 V0) = d
  generalize headR V0 = e
  pointwise

theorem only_at (V0 : Valuation τ sig (Elt Ideal)) (n : ℕ) (hn : n < 4) (P : FVec Ideal S2048 .f32) (i : Fin 2048) :
    (only (BitVec.ofNat 32 n) (res_main_v10 V0) P (ix1 i) : EReal) = if clN (V0 (Proc.devRef .tc main_arg1) (ix1 i)) = n then P (ix1 i) else 0 := by
  have := clN_le (V0 (Proc.devRef .tc main_arg1) (ix1 i))
  rw [only_read, cluster, clW_eq, WordCmp.cmpi_eq_ofNat (by omega) (by omega), WordCmp.select_decide]

theorem tailR_at (N : ℕ) {d : ℕ} (hN : 0 < N ∧ N ≤ 2 ^ 31) (hR) (h : (Mat N).Reduces [1] S2048) (hB) (wf) (Z : FVec Ideal (Mat N) .f32) (w : IVec S2048x1 32)
    (low t : BitVec 32) (x : S2048x1024.Idx → EReal) (W1 : (⟨2, ![d, 1024]⟩ : Shape).Idx → EReal) (W2 : (⟨2, ![N, d]⟩ : Shape).Idx → EReal) (i : Fin 2048)
    (hZ : ∀ k : Fin N, (Z (ix i k) : EReal) = ∑ e, proj x W1 i e * W2 (ix k e)) (hw : w (ix i 0) = relW low (BitVec.ofNat 32 (N - 1)) t) :
    tailR N hR hB wf Z w (ix1 i) = tailV hN low x W1 W2 t i := by
  refine (picked_lsm N hN hR h hB wf Z w i ⟨_, relW_lt low t hN⟩ (hw.trans (ofNat_word _).symm)).trans ?_
  unfold tailV
  simp only [hZ]

/-- A row of the reference's first result. -/
theorem outR_at (V0 : Valuation τ sig (Elt Ideal)) (hT : ∀ i : Fin 2048, (V0 (Proc.devRef .tc main_arg1) (ix1 i)).toNat < 2 ^ 31) (i : Fin 2048) :
    (outR V0 (ix1 i) : EReal) = rowV (V0 (Proc.devRef .tc main_arg0)) (fun i => V0 (Proc.devRef .tc main_arg1) (ix1 i)) hT (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) i := by
  have h1 : tail1 V0 (ix1 i) = _ := tailR_at 8000 (by decide) _ (by decide) _ _ _ _ _ _ _ _ _ i (logits1 V0 i) (index1 V0 i)
  have h2 : tail2 V0 (ix1 i) = _ := tailR_at 40000 (by decide) _ (by decide) _ _ _ _ _ _ _ _ _ i (logits2 V0 i) (index2 V0 i)
  have h3 : tail3 V0 (ix1 i) = _ := tailR_at 50000 (by decide) _ (by decide) _ _ _ _ _ _ _ _ _ i (logits3 V0 i) (index3 V0 i)
  have h4 : headR V0 (ix1 i) = _ := picked_lsm 2003 (by decide) _ (by decide) _ _ _ _ i ⟨_, gW_lt _ (hT i)⟩
    ((indexH V0 i).trans (ofNat_word _).symm)
  rw [outR_read, zero_add, h4]
  have o1 := only_at V0 1 (by decide) (tail1 V0) i
  have o2 := only_at V0 2 (by decide) (tail2 V0) i
  have o3 := only_at V0 3 (by decide) (tail3 V0) i
  rw [h1] at o1
  rw [h2] at o2
  rw [h3] at o3
  unfold rowV headV
  simp only [logitsH]
  exact congrArg₂ (· + ·) (congrArg₂ (· + ·) (congrArg₂ (· + ·) o1 o2) o3) rfl

/-- The mean of the negated rows. -/
theorem mean_read (Z : FVec Ideal S2048 .f32) (j : S_.Idx) :
    (Host.divf (Host.reduceAdd (Host.negf Z) (constant S_ .f32 0x00000000#32) reducesTo_S2048_S_d0 h_S_) (constant S_ .f32 0x45000000#32) : FVec Ideal S_ .f32) j
      = meanV (fun i => Z (ix1 i)) := by
  unfold meanV
  pointwise

end Cert.ReferenceIdeal.Pf

end
-- ==== Proof.Math.Algebraic.lean ====
/-
  The kernel and the reference end with equal results, at every target that is not negative.
-/
module

public import proofs.«01_k».proof.Defs
public import proofs.«01_k».proof.Proof.Math.Reference
public import proofs.«01_k».proof.Proof.Ideal.Frames
public import Idealize.ShloMosaic.Lib.Tactic.CleanTypes

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.Sem
open Cert.Own

local notation "ix" => Idealize.ShloMosaic.ix2

/-- The precondition's own side condition. -/
theorem pre_facts : Cert.Pre_nonneg.Facts := ⟨by decide⟩

/-- The launch's memory. -/
abbrev MemK := (ℓ : Loc nD τ sig) → Buf (Elt Ideal) ℓ

/-- The targets as the kernels take them are the argument, as a column. -/
theorem tgOf_at (m : MemK) (c : Dev nD) (i : Fin 2048) : tgOf m c (ix i 0) = V0 m c (Proc.devRef .tc main_arg1) (ix1 i) := by
  unfold tgOf vT
  after_results_simp
  pointwise

/-- Where the precondition holds, every target is a natural number below 2³¹. -/
theorem targets_lt (m : MemK) (h : @Cert.Pre_KernelIdeal_nonneg pre_facts m) (c : Dev nD) (i : Fin 2048) : (tgOf m c (ix i 0)).toNat < 2 ^ 31 := by
  have e := congrFun (h c) (ix1 i)
  have e' : IntOp.cmpi .sge (V0 m c (Proc.devRef .tc main_arg1) (ix1 i)) 0#32 = 1#1 := by
    rw [← e]
    unfold Cert.Pre_nonneg.fn
    pointwise
  rw [tgOf_at]
  rw [WordCmp.cmpi_sge_zero] at e'
  by_contra hn
  rw [decide_eq_false hn] at e'
  exact absurd e' (by decide)

theorem rowV_congr {x x' : S2048x1024.Idx → EReal} {T T' : Fin 2048 → BitVec 32} {W W' : S2003x1024.Idx → EReal}
    {A1 A1' : S256x1024.Idx → EReal} {B1 B1' : S8000x256.Idx → EReal} {A2 A2' : S64x1024.Idx → EReal} {B2 B2' : S40000x64.Idx → EReal}
    {A3 A3' : S16x1024.Idx → EReal} {B3 B3' : S50000x16.Idx → EReal} (hT hT') (i : Fin 2048)
    (e0 : x = x') (e1 : T = T') (e2 : W = W') (e3 : A1 = A1') (e4 : B1 = B1') (e5 : A2 = A2') (e6 : B2 = B2') (e7 : A3 = A3') (e8 : B3 = B3') :
    rowV x T hT W A1 B1 A2 B2 A3 B3 i = rowV x' T' hT' W' A1' B1' A2' B2' A3' B3' i := by
  subst e0 e1 e2 e3 e4 e5 e6 e7 e8
  rfl

/-- The reference's rows are the kernel's, from the same arguments. -/
theorem rows_eq (m : MemK) (m' : (ℓ : Loc Cert.ReferenceIdeal.nD Cert.ReferenceIdeal.τ Cert.ReferenceIdeal.sig) → Buf (Elt Ideal) ℓ) (c : Dev nD)
    (hT : ∀ i, (tgOf m c (ix i 0)).toNat < 2 ^ 31)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (i : Fin 2048) :
    (Cert.ReferenceIdeal.Pf.outR (StableHlo.launchContents m' c) (ix1 i) : EReal) = valV (tgOf m c) hT (V0 m c) i := by
  have hX : (fun i => tgOf m c (ix i 0)) = fun i => StableHlo.launchContents m' c (Proc.devRef .tc Cert.ReferenceIdeal.main_arg1) (ix1 i) :=
    funext fun i => (tgOf_at m c i).trans (congrFun h1.symm (ix1 i))
  refine (Cert.ReferenceIdeal.Pf.outR_at (StableHlo.launchContents m' c) (fun i => congrFun hX i ▸ hT i) i).trans ?_
  exact rowV_congr _ hT i h0 hX.symm h2 h3 h4 h5 h6 h7 h8

/-- The two programs end with equal results. -/
theorem algebraic : @Cert.algebraic_KernelIdeal_ReferenceIdeal_pre_nonneg Cert.KernelIdeal.Gen.facts Cert.ReferenceIdeal.Gen.facts pre_facts := by
  intro m g m' g' hp ha
  have hT := targets_lt m hp
  refine ⟨fun c => fun j : S2048.Idx => valV (tgOf m c) (hT c) (V0 m c) (j 0), fun c => fun _ : S_.Idx => meanV (valV (tgOf m c) (hT c) (V0 m c)), ?_, ?_⟩
  · refine θ_run_mono (run_args m g) ?_
    rintro r ⟨h, _⟩ c
    obtain ⟨V9, hE, hb, hk⟩ := h c
    obtain ⟨r0, r1⟩ := results hE rfl (hT c)
    refine ⟨(hb _ (Finset.mem_filter.mpr ⟨StableHlo.devRef_mem_tcRefs main_v28, by decide⟩)).trans r0,
      (hb _ (Finset.mem_filter.mpr ⟨StableHlo.devRef_mem_tcRefs main_v29, by decide⟩)).trans r1, hk _ ?_, hk _ ?_, hk _ ?_, hk _ ?_, hk _ ?_, hk _ ?_, hk _ ?_, hk _ ?_, hk _ ?_⟩ <;> decide
  · refine θ_run_mono (Cert.ReferenceIdeal.Value.run m' g') ?_
    intro r h c
    obtain ⟨e0, e1, hk⟩ := h c
    obtain ⟨h0, h1, h2, h3, h4, h5, h6, h7, h8⟩ := ha c
    have hr := rows_eq m m' c (hT c) h0 h1 h2 h3 h4 h5 h6 h7 h8
    refine ⟨e0.trans ?_, e1.trans ?_, hk⟩
    · rw [Cert.ReferenceIdeal.Pf.v70_eq]
      funext j
      exact (congrArg (Cert.ReferenceIdeal.Pf.outR (StableHlo.launchContents m' c)) (Idealize.ShloMosaic.eq_ix1 j)).trans (hr (j 0))
    · rw [Cert.ReferenceIdeal.Pf.v71_eq]
      funext j
      refine (Cert.ReferenceIdeal.Pf.mean_read _ j).trans ?_
      exact congrArg meanV (funext hr)

end Cert.KernelIdeal.Pf

end
-- ==== Proof.lean ====
/-
  The certificate's claim. Each program's frame is its run read at its arguments; the equality of results is
  Proof/Math/Algebraic.lean's.
-/
module

public import proofs.«01_k».proof.Defs
public import proofs.«01_k».proof.Proof.Gen.ReferenceIdeal
public import proofs.«01_k».proof.Proof.Gen.ReferenceIdeal.Run
public import proofs.«01_k».proof.Proof.Plain.Frames
public import proofs.«01_k».proof.Proof.Ideal.Frames
public import proofs.«01_k».proof.Proof.Math.Algebraic

@[expose] public section

noncomputable section

namespace Cert.Proof

open Idealize.ShloMosaic Idealize.SL.Sem

theorem frame_kernel : @Cert.quiescent_Kernel Cert.Kernel.Gen.facts := by
  intro m g _
  refine θ_run_mono (Cert.Kernel.Pf.run_args m g) ?_
  rintro r ⟨h, hs⟩
  refine ⟨fun c => ?_, hs⟩
  obtain ⟨_, _, _, ha⟩ := h c
  refine ⟨ha _ ?_, ha _ ?_, ha _ ?_, ha _ ?_, ha _ ?_, ha _ ?_, ha _ ?_, ha _ ?_, ha _ ?_⟩ <;> decide

theorem frame_ideal : @Cert.quiescent_KernelIdeal Cert.KernelIdeal.Gen.facts := by
  intro m g _
  refine θ_run_mono (Cert.KernelIdeal.Pf.run_args m g) ?_
  rintro r ⟨h, hs⟩
  refine ⟨fun c => ?_, hs⟩
  obtain ⟨_, _, _, ha⟩ := h c
  refine ⟨ha _ ?_, ha _ ?_, ha _ ?_, ha _ ?_, ha _ ?_, ha _ ?_, ha _ ?_, ha _ ?_, ha _ ?_⟩ <;> decide

theorem frame_reference : @Cert.quiescent_ReferenceIdeal Cert.ReferenceIdeal.Gen.facts := by
  intro m g _
  exact θ_run_mono (Cert.ReferenceIdeal.Value.run m g) fun r h =>
    ⟨fun c => (h c).2.2, sem_eq_zero_of_no_sems (by decide) r.2⟩

theorem claim : Cert.Claim :=
  ⟨Cert.Kernel.Gen.facts, Cert.KernelIdeal.Gen.facts, Cert.ReferenceIdeal.Gen.facts, Cert.KernelIdeal.Pf.pre_facts, frame_kernel, frame_ideal,
    fun m g _ => frame_ideal m g trivial, frame_reference, fun m g _ => frame_reference m g trivial, trivial, Cert.KernelIdeal.Pf.algebraic⟩

end Cert.Proof

end
